-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfRefIdeal (m : (ℓ : Loc Cert.HalfRefIdeal.nD Cert.HalfRefIdeal.τ Cert.HalfRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3)
      ∧ r.2.mem ((c.tc : Thread Cert.Half.nD Cert.Half.τ).loc Cert.Half.main_arg4) = m ((c.tc : Thread Cert.Half.nD Cert.Half.τ).loc Cert.Half.main_arg4))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
      ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4))
      ∧ r.2.sem = fun _ => 0)

def quiescent_HalfRefIdeal [hHalfRefIdeal : Cert.HalfRefIdeal.Facts] : Prop :=
  ∀ (m : (ℓ : Loc Cert.HalfRefIdeal.nD Cert.HalfRefIdeal.τ Cert.HalfRefIdeal.sig) → Buf (Elt Ideal) ℓ) (g : Dev Cert.HalfRefIdeal.nD → PrngReg), Pre_HalfRefIdeal m →
    θ_run (Cert.HalfRefIdeal.defs (F := Ideal)) (onTc (τ := Cert.HalfRefIdeal.τ) (Cert.HalfRefIdeal.main (F := Ideal))) ⟨m, fun _ => 0, g⟩ (fun r => (∀ c : Dev Cert.HalfRefIdeal.nD,
      r.2.mem ((c.tc : Thread Cert.HalfRefIdeal.nD Cert.HalfRefIdeal.τ).loc Cert.HalfRefIdeal.main_arg0) = m ((c.tc : Thread Cert.HalfRefIdeal.nD Cert.HalfRefIdeal.τ).loc Cert.HalfRefIdeal.main_arg0)
      ∧ r.2.mem ((c.tc : Thread Cert.HalfRefIdeal.nD Cert.HalfRefIdeal.τ).loc Cert.HalfRefIdeal.main_arg1) = m ((c.tc : Thread Cert.HalfRefIdeal.nD Cert.HalfRefIdeal.τ).loc Cert.HalfRefIdeal.main_arg1)
      ∧ r.2.mem ((c.tc : Thread Cert.HalfRefIdeal.nD Cert.HalfRefIdeal.τ).loc Cert.HalfRefIdeal.main_arg2) = m ((c.tc : Thread Cert.HalfRefIdeal.nD Cert.HalfRefIdeal.τ).loc Cert.HalfRefIdeal.main_arg2)
      ∧ r.2.mem ((c.tc : Thread Cert.HalfRefIdeal.nD Cert.HalfRefIdeal.τ).loc Cert.HalfRefIdeal.main_arg3) = m ((c.tc : Thread Cert.HalfRefIdeal.nD Cert.HalfRefIdeal.τ).loc Cert.HalfRefIdeal.main_arg3)
      ∧ r.2.mem ((c.tc : Thread Cert.HalfRefIdeal.nD Cert.HalfRefIdeal.τ).loc Cert.HalfRefIdeal.main_arg4) = m ((c.tc : Thread Cert.HalfRefIdeal.nD Cert.HalfRefIdeal.τ).loc Cert.HalfRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Half_HalfIdeal : Prop :=
  True

def algebraic_HalfIdeal_HalfRefIdeal [hHalfIdeal : Cert.HalfIdeal.Facts] [hHalfRefIdeal : Cert.HalfRefIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfRefIdeal.nD Cert.HalfRefIdeal.τ Cert.HalfRefIdeal.sig) → Buf (Elt Ideal) ℓ) (g' : Dev Cert.HalfRefIdeal.nD → PrngReg), Pre_HalfIdeal m →
    (∀ c : Dev Cert.HalfIdeal.nD,
      m' ((c.tc : Thread Cert.HalfRefIdeal.nD Cert.HalfRefIdeal.τ).loc Cert.HalfRefIdeal.main_arg0) = m ((c.tc : Thread Cert.HalfIdeal.nD Cert.HalfIdeal.τ).loc Cert.HalfIdeal.main_arg0)
      ∧ m' ((c.tc : Thread Cert.HalfRefIdeal.nD Cert.HalfRefIdeal.τ).loc Cert.HalfRefIdeal.main_arg1) = m ((c.tc : Thread Cert.HalfIdeal.nD Cert.HalfIdeal.τ).loc Cert.HalfIdeal.main_arg1)
      ∧ m' ((c.tc : Thread Cert.HalfRefIdeal.nD Cert.HalfRefIdeal.τ).loc Cert.HalfRefIdeal.main_arg2) = m ((c.tc : Thread Cert.HalfIdeal.nD Cert.HalfIdeal.τ).loc Cert.HalfIdeal.main_arg2)
      ∧ m' ((c.tc : Thread Cert.HalfRefIdeal.nD Cert.HalfRefIdeal.τ).loc Cert.HalfRefIdeal.main_arg3) = m ((c.tc : Thread Cert.HalfIdeal.nD Cert.HalfIdeal.τ).loc Cert.HalfIdeal.main_arg3)
      ∧ m' ((c.tc : Thread Cert.HalfRefIdeal.nD Cert.HalfRefIdeal.τ).loc Cert.HalfRefIdeal.main_arg4) = m ((c.tc : Thread Cert.HalfIdeal.nD Cert.HalfIdeal.τ).loc Cert.HalfIdeal.main_arg4)) →
    ∃ (v0 : (c : Dev Cert.HalfIdeal.nD) → Buf (Elt Ideal) ((c.tc : Thread Cert.HalfIdeal.nD Cert.HalfIdeal.τ).loc Cert.HalfIdeal.main_v0)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v0) = v0 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
          ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4))
      ∧ θ_run (Cert.HalfRefIdeal.defs (F := Ideal)) (onTc (τ := Cert.HalfRefIdeal.τ) (Cert.HalfRefIdeal.main (F := Ideal))) ⟨m', fun _ => 0, g'⟩ (fun r => ∀ c : Dev Cert.HalfRefIdeal.nD,
          r.2.mem ((c.tc : Thread Cert.HalfRefIdeal.nD Cert.HalfRefIdeal.τ).loc Cert.HalfRefIdeal.main_v28) = v0 c
          ∧ r.2.mem ((c.tc : Thread Cert.HalfRefIdeal.nD Cert.HalfRefIdeal.τ).loc Cert.HalfRefIdeal.main_arg0) = m' ((c.tc : Thread Cert.HalfRefIdeal.nD Cert.HalfRefIdeal.τ).loc Cert.HalfRefIdeal.main_arg0)
          ∧ r.2.mem ((c.tc : Thread Cert.HalfRefIdeal.nD Cert.HalfRefIdeal.τ).loc Cert.HalfRefIdeal.main_arg1) = m' ((c.tc : Thread Cert.HalfRefIdeal.nD Cert.HalfRefIdeal.τ).loc Cert.HalfRefIdeal.main_arg1)
          ∧ r.2.mem ((c.tc : Thread Cert.HalfRefIdeal.nD Cert.HalfRefIdeal.τ).loc Cert.HalfRefIdeal.main_arg2) = m' ((c.tc : Thread Cert.HalfRefIdeal.nD Cert.HalfRefIdeal.τ).loc Cert.HalfRefIdeal.main_arg2)
          ∧ r.2.mem ((c.tc : Thread Cert.HalfRefIdeal.nD Cert.HalfRefIdeal.τ).loc Cert.HalfRefIdeal.main_arg3) = m' ((c.tc : Thread Cert.HalfRefIdeal.nD Cert.HalfRefIdeal.τ).loc Cert.HalfRefIdeal.main_arg3)
          ∧ r.2.mem ((c.tc : Thread Cert.HalfRefIdeal.nD Cert.HalfRefIdeal.τ).loc Cert.HalfRefIdeal.main_arg4) = m' ((c.tc : Thread Cert.HalfRefIdeal.nD Cert.HalfRefIdeal.τ).loc Cert.HalfRefIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hHalf : Cert.Half.Facts) (hHalfIdeal : Cert.HalfIdeal.Facts) (hHalfRefIdeal : Cert.HalfRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Half (hHalf := hHalf)
    ∧ quiescent_HalfIdeal (hHalfIdeal := hHalfIdeal)
    ∧ quiescent_HalfRefIdeal (hHalfRefIdeal := hHalfRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Half_HalfIdeal
    ∧ algebraic_HalfIdeal_HalfRefIdeal (hHalfIdeal := hHalfIdeal) (hHalfRefIdeal := hHalfRefIdeal)
-- ==== Pre_finite_scores.lean ====
abbrev S512x16384 : Shape := ⟨2, ![512, 16384]⟩
abbrev S8x16x16384 : Shape := ⟨3, ![8, 16, 16384]⟩
abbrev S_ : Shape := ⟨0, ![]⟩
abbrev S8x3x16384 : Shape := ⟨3, ![8, 3, 16384]⟩

class Facts : Prop where
  bitsLt_bf16_f32 : FTy.bits .bf16 < FTy.bits .f32
  bcast_S_S512x16384 : S_.BroadcastsInDim S512x16384 (![] : Fin 0 → Fin S512x16384.rank)
  slices_S8x16x16384_S8x3x16384_0_0_0 : S8x16x16384.Slices ![0, 0, 0] S8x3x16384
  bcast_S_S8x3x16384 : S_.BroadcastsInDim S8x3x16384 (![] : Fin 0 → Fin S8x3x16384.rank)

variable [Facts]

def fn {F : FTy → Type} [FloatOps F] (main_arg0 : FVec F S512x16384 .bf16) (main_arg1 : FVec F S512x16384 .bf16) (main_arg2 : FVec F S8x16x16384 .bf16) (main_arg3 : FVec F S512x16384 .bf16) : IVec S512x16384 1 × IVec S512x16384 1 × IVec S8x3x16384 1 :=
  let main_v0 : FVec F S512x16384 .f32 := (extf .f32 · bitsLt_bf16_f32) main_arg0
  let main_v1 : FVec F S512x16384 .f32 := Host.absf main_v0
  let main_cst : FVec F S_ .f32 := constant S_ .f32 0x7F800000#32
  let main_v2 : FVec F S512x16384 .f32 := broadcastInDim S512x16384 ![] bcast_S_S512x16384 main_cst
  let main_v3 : IVec S512x16384 1 := cmpf .olt main_v1 main_v2
  let main_v4 : FVec F S512x16384 .f32 := (extf .f32 · bitsLt_bf16_f32) main_arg1
  let main_v5 : FVec F S512x16384 .f32 := Host.absf main_v4
  let main_cst_0 : FVec F S_ .f32 := constant S_ .f32 0x7F800000#32
  let main_v6 : FVec F S512x16384 .f32 := broadcastInDim S512x16384 ![] bcast_S_S512x16384 main_cst_0
  let main_v7 : IVec S512x16384 1 := cmpf .olt main_v5 main_v6
  let main_v8 : FVec F S8x3x16384 .bf16 := (extractStridedSlice S8x3x16384 ![0, 0, 0] · slices_S8x16x16384_S8x3x16384_0_0_0) main_arg2
  let main_v9 : FVec F S8x3x16384 .f32 := (extf .f32 · bitsLt_bf16_f32) main_v8
  let main_v10 : FVec F S8x3x16384 .f32 := Host.absf main_v9
  let main_cst_1 : FVec F S_ .f32 := constant S_ .f32 0x7F800000#32
  let main_v11 : FVec F S8x3x16384 .f32 := broadcastInDim S8x3x16384 ![] bcast_S_S8x3x16384 main_cst_1
  let main_v12 : IVec S8x3x16384 1 := cmpf .olt main_v10 main_v11
  (main_v3, main_v7, main_v12)
-- ==== Kernel.lean ====
abbrev S512x16384 : Shape := ⟨2, ![512, 16384]⟩
abbrev S8x16x16384 : Shape := ⟨3, ![8, 16, 16384]⟩
abbrev S64x1024 : Shape := ⟨2, ![64, 1024]⟩
abbrev S64x8192 : Shape := ⟨2, ![64, 8192]⟩
abbrev S1x16x8192 : Shape := ⟨3, ![1, 16, 8192]⟩
abbrev S4x1x256 : Shape := ⟨3, ![4, 1, 256]⟩
abbrev S4x80x256 : Shape := ⟨3, ![4, 80, 256]⟩
abbrev S3x1024x256 : Shape := ⟨3, ![3, 1024, 256]⟩
abbrev S64x256 : Shape := ⟨2, ![64, 256]⟩
abbrev S16x256 : Shape := ⟨2, ![16, 256]⟩
abbrev S80x256 : Shape := ⟨2, ![80, 256]⟩
abbrev S1x256 : Shape := ⟨2, ![1, 256]⟩
abbrev S1x1x256 : Shape := ⟨3, ![1, 1, 256]⟩
abbrev S1x80x256 : Shape := ⟨3, ![1, 80, 256]⟩
abbrev S1x16x1024 : Shape := ⟨3, ![1, 16, 1024]⟩
abbrev S16x1024 : Shape := ⟨2, ![16, 1024]⟩
abbrev S80x1024 : Shape := ⟨2, ![80, 1024]⟩
abbrev S1024x256 : Shape := ⟨2, ![1024, 256]⟩
abbrev S1x1024x256 : Shape := ⟨3, ![1, 1024, 256]⟩
abbrev S512x256 : Shape := ⟨2, ![512, 256]⟩
abbrev S256x256 : Shape := ⟨2, ![256, 256]⟩
abbrev S128x256 : Shape := ⟨2, ![128, 256]⟩
abbrev S32x256 : Shape := ⟨2, ![32, 256]⟩
abbrev S8x256 : Shape := ⟨2, ![8, 256]⟩
abbrev S256 : Shape := ⟨1, ![256]⟩
abbrev S80x512 : Shape := ⟨2, ![80, 512]⟩
abbrev S80x768 : Shape := ⟨2, ![80, 768]⟩
abbrev S768x256 : Shape := ⟨2, ![768, 256]⟩
abbrev S64x512 : Shape := ⟨2, ![64, 512]⟩
abbrev S16x512 : Shape := ⟨2, ![16, 512]⟩
abbrev S384x256 : Shape := ⟨2, ![384, 256]⟩
abbrev S192x256 : Shape := ⟨2, ![192, 256]⟩
abbrev S96x256 : Shape := ⟨2, ![96, 256]⟩
abbrev S48x256 : Shape := ⟨2, ![48, 256]⟩
abbrev S24x256 : Shape := ⟨2, ![24, 256]⟩
abbrev S64x768 : Shape := ⟨2, ![64, 768]⟩
abbrev S16x768 : Shape := ⟨2, ![16, 768]⟩

abbrev nBuf : Space → Nat
  | .hbm => 5
  | .vmem => 14
  | .smem => 0
  | _ => 0

abbrev bufTy : (tb : Table) → Fin (tcTables nBuf tb) → BufTy
  | .hbm, ⟨0, _⟩ => ⟨S512x16384, .bf16⟩
  | .hbm, ⟨1, _⟩ => ⟨S512x16384, .bf16⟩
  | .hbm, ⟨2, _⟩ => ⟨S8x16x16384, .bf16⟩
  | .hbm, ⟨3, _⟩ => ⟨S512x16384, .bf16⟩
  | .hbm, ⟨4, _⟩ => ⟨S512x16384, .bf16⟩
  | .local _ .vmem, ⟨0, _⟩ => ⟨S64x1024, .bf16⟩
  | .local _ .vmem, ⟨1, _⟩ => ⟨S64x1024, .bf16⟩
  | .local _ .vmem, ⟨2, _⟩ => ⟨S64x8192, .bf16⟩
  | .local _ .vmem, ⟨3, _⟩ => ⟨S64x8192, .bf16⟩
  | .local _ .vmem, ⟨4, _⟩ => ⟨S1x16x8192, .bf16⟩
  | .local _ .vmem, ⟨5, _⟩ => ⟨S1x16x8192, .bf16⟩
  | .local _ .vmem, ⟨6, _⟩ => ⟨S64x8192, .bf16⟩
  | .local _ .vmem, ⟨7, _⟩ => ⟨S64x8192, .bf16⟩
  | .local _ .vmem, ⟨8, _⟩ => ⟨S64x1024, .bf16⟩
  | .local _ .vmem, ⟨9, _⟩ => ⟨S64x1024, .bf16⟩
  | .local _ .vmem, ⟨10, _⟩ => ⟨S4x1x256, .f32⟩
  | .local _ .vmem, ⟨11, _⟩ => ⟨S4x80x256, .f32⟩
  | .local _ .vmem, ⟨12, _⟩ => ⟨S3x1024x256, .f32⟩
  | .local _ .vmem, ⟨13, _⟩ => ⟨S3x1024x256, .f32⟩
  | _, _ => ⟨S512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

def k0_cond1 (i : grid0.Coords) : BitVec 1 :=
  let arg2 : BitVec 32 := BitVec.ofNat 32 (i 2).val
  let c1_i32 : BitVec 32 := 1#32
  let v68 : BitVec 32 := Scalar.muli arg2 c1_i32
  let c0_i32 : BitVec 32 := 0#32
  let v69 : BitVec 1 := Scalar.cmpi .sgt v68 c0_i32
  let v70 : BitVec 32 := Scalar.extui v69
  let c0_i32_43 : BitVec 32 := 0#32
  let v71 : BitVec 1 := Scalar.cmpi .ne v70 c0_i32_43
  v71

def k0_mult1 : BitVec 32 :=
  let c0_i32_70 : BitVec 32 := 0#32
  c0_i32_70
@[reducible] def k0_t1_loop (i : grid0.Coords) : Scf.Loop 32 :=
  let c0_i32_52 : BitVec 32 := 0#32
  let arg2 : BitVec 32 := BitVec.ofNat 32 (i 2).val
  let c1_i32 : BitVec 32 := 1#32
  let v68 : BitVec 32 := Scalar.muli arg2 c1_i32
  let c1_i32_44 : BitVec 32 := 1#32
  let v72 : BitVec 32 := Scalar.subi v68 c1_i32_44
  let c0_i32_45 : BitVec 32 := 0#32
  let v74 : BitVec 1 := Scalar.cmpi .sgt v72 c0_i32_45
  let v75 : BitVec 32 := Scalar.extui v74
  let c0_i32_46 : BitVec 32 := 0#32
  let v76 : BitVec 1 := Scalar.cmpi .slt v72 c0_i32_46
  let v77 : BitVec 32 := Scalar.extui v76
  let v78 : BitVec 32 := Scalar.subi v75 v77
  let c2_i32 : BitVec 32 := 2#32
  let c0_i32_47 : BitVec 32 := 0#32
  let v79 : BitVec 1 := Scalar.cmpi .sgt c2_i32 c0_i32_47
  let v80 : BitVec 32 := Scalar.extui v79
  let c0_i32_48 : BitVec 32 := 0#32
  let v81 : BitVec 1 := Scalar.cmpi .slt c2_i32 c0_i32_48
  let v82 : BitVec 32 := Scalar.extui v81
  let v83 : BitVec 32 := Scalar.subi v80 v82
  let v84 : BitVec 1 := Scalar.cmpi .ne v78 v83
  let v85 : BitVec 32 := Scalar.remsi v72 c2_i32
  let c0_i32_49 : BitVec 32 := 0#32
  let v86 : BitVec 1 := Scalar.cmpi .ne v85 c0_i32_49
  let v87 : BitVec 1 := Scalar.andi v84 v86
  let v73 : BitVec 32 := Scalar.divsi v72 c2_i32
  let c1_i32_50 : BitVec 32 := 1#32
  let v88 : BitVec 32 := Scalar.subi v73 c1_i32_50
  let v89 : BitVec 32 := Scalar.select v87 v88 v73
  let v90 : BitVec 32 := Scalar.subi v89 c0_i32_52
  let c1_i32_53 : BitVec 32 := 1#32
  let v92 : BitVec 32 := Scalar.divsi v90 c1_i32_53
  let v93 : BitVec 32 := Scalar.muli v92 c1_i32_53
  let v94 : BitVec 32 := Scalar.addi c0_i32_52 v93
  let c1_i32_54 : BitVec 32 := 1#32
  ⟨c0_i32_52, v94, c1_i32_54⟩
def k0_mult2 (i : grid0.Coords) (k0_t1 : Fin (k0_t1_loop i).trips) : BitVec 32 :=
  let c2_i32_70 : BitVec 32 := 2#32
  let c0_i32_52 : BitVec 32 := 0#32
  let c1_i32_54 : BitVec 32 := 1#32
  let arg12 : BitVec 32 := Scf.iv c0_i32_52 c1_i32_54 k0_t1
  let v119 : BitVec 32 := Scalar.muli c2_i32_70 arg12
  let c1_i32_71 : BitVec 32 := 1#32
  let v120 : BitVec 32 := Scalar.addi v119 c1_i32_71
  let c1024_i32 : BitVec 32 := 1024#32
  let v121 : BitVec 32 := Scalar.muli v120 c1024_i32
  v121
def k0_off1 (i : grid0.Coords) (k0_t1 : Fin (k0_t1_loop i).trips) (c1_i32_71 : BitVec 32) : Fin 2 → Nat :=
  let c0_72 : Index := 0#32
  let c2_i32_70 : BitVec 32 := 2#32
  let c0_i32_52 : BitVec 32 := 0#32
  let c1_i32_54 : BitVec 32 := 1#32
  let arg12 : BitVec 32 := Scf.iv c0_i32_52 c1_i32_54 k0_t1
  let v119 : BitVec 32 := Scalar.muli c2_i32_70 arg12
  let v120 : BitVec 32 := Scalar.addi v119 c1_i32_71
  let c1024_i32 : BitVec 32 := 1024#32
  let v121 : BitVec 32 := Scalar.muli v120 c1024_i32
  let v122 : BitVec 32 := v121
  let v123 : Index := Scalar.indexCast v122
  ![0, v123.toNat]
def k0_off2 (i : grid0.Coords) (k0_t1 : Fin (k0_t1_loop i).trips) (c1_i32_71 : BitVec 32) : Fin 3 → Nat :=
  let c0_73 : Index := 0#32
  let c0_74 : Index := 0#32
  let c2_i32_70 : BitVec 32 := 2#32
  let c0_i32_52 : BitVec 32 := 0#32
  let c1_i32_54 : BitVec 32 := 1#32
  let arg12 : BitVec 32 := Scf.iv c0_i32_52 c1_i32_54 k0_t1
  let v119 : BitVec 32 := Scalar.muli c2_i32_70 arg12
  let v120 : BitVec 32 := Scalar.addi v119 c1_i32_71
  let c1024_i32 : BitVec 32 := 1024#32
  let v121 : BitVec 32 := Scalar.muli v120 c1024_i32
  let v122 : BitVec 32 := v121
  let v125 : Index := Scalar.indexCast v122
  ![0, 0, v125.toNat]
def k0_mult3 (i : grid0.Coords) (k0_t1 : Fin (k0_t1_loop i).trips) : BitVec 32 :=
  let c2_i32_70 : BitVec 32 := 2#32
  let c0_i32_52 : BitVec 32 := 0#32
  let c1_i32_54 : BitVec 32 := 1#32
  let arg12 : BitVec 32 := Scf.iv c0_i32_52 c1_i32_54 k0_t1
  let v119 : BitVec 32 := Scalar.muli c2_i32_70 arg12
  let c1_i32_71 : BitVec 32 := 1#32
  let v120 : BitVec 32 := Scalar.addi v119 c1_i32_71
  let c1_i32_76 : BitVec 32 := 1#32
  let v130 : BitVec 32 := Scalar.subi v120 c1_i32_76
  let c1024_i32_77 : BitVec 32 := 1024#32
  let v131 : BitVec 32 := Scalar.muli v130 c1024_i32_77
  v131
def k0_off3 (i : grid0.Coords) (k0_t1 : Fin (k0_t1_loop i).trips) (c1_i32_71 : BitVec 32) : Fin 2 → Nat :=
  let c0_88 : Index := 0#32
  let c2_i32_70 : BitVec 32 := 2#32
  let c0_i32_52 : BitVec 32 := 0#32
  let c1_i32_54 : BitVec 32 := 1#32
  let arg12 : BitVec 32 := Scf.iv c0_i32_52 c1_i32_54 k0_t1
  let v119 : BitVec 32 := Scalar.muli c2_i32_70 arg12
  let v120 : BitVec 32 := Scalar.addi v119 c1_i32_71
  let c1_i32_76 : BitVec 32 := 1#32
  let v130 : BitVec 32 := Scalar.subi v120 c1_i32_76
  let c1024_i32_77 : BitVec 32 := 1024#32
  let v131 : BitVec 32 := Scalar.muli v130 c1024_i32_77
  let v132 : BitVec 32 := v131
  let v170 : Index := Scalar.indexCast v132
  ![0, v170.toNat]
def k0_mult4 (i : grid0.Coords) (k0_t1 : Fin (k0_t1_loop i).trips) : BitVec 32 :=
  let c2_i32_171 : BitVec 32 := 2#32
  let c0_i32_52 : BitVec 32 := 0#32
  let c1_i32_54 : BitVec 32 := 1#32
  let arg12 : BitVec 32 := Scf.iv c0_i32_52 c1_i32_54 k0_t1
  let v367 : BitVec 32 := Scalar.muli c2_i32_171 arg12
  let c2_i32_172 : BitVec 32 := 2#32
  let v368 : BitVec 32 := Scalar.addi v367 c2_i32_172
  let c1024_i32_173 : BitVec 32 := 1024#32
  let v369 : BitVec 32 := Scalar.muli v368 c1024_i32_173
  v369
def k0_mult5 (i : grid0.Coords) (k0_t1 : Fin (k0_t1_loop i).trips) : BitVec 32 :=
  let c2_i32_171 : BitVec 32 := 2#32
  let c0_i32_52 : BitVec 32 := 0#32
  let c1_i32_54 : BitVec 32 := 1#32
  let arg12 : BitVec 32 := Scf.iv c0_i32_52 c1_i32_54 k0_t1
  let v367 : BitVec 32 := Scalar.muli c2_i32_171 arg12
  let c2_i32_172 : BitVec 32 := 2#32
  let v368 : BitVec 32 := Scalar.addi v367 c2_i32_172
  let c1_i32_178 : BitVec 32 := 1#32
  let v378 : BitVec 32 := Scalar.subi v368 c1_i32_178
  let c1024_i32_179 : BitVec 32 := 1024#32
  let v379 : BitVec 32 := Scalar.muli v378 c1024_i32_179
  v379
@[reducible] def k0_t2_loop (i : grid0.Coords) : Scf.Loop 32 :=
  let c0_i32_52 : BitVec 32 := 0#32
  let arg2 : BitVec 32 := BitVec.ofNat 32 (i 2).val
  let c1_i32 : BitVec 32 := 1#32
  let v68 : BitVec 32 := Scalar.muli arg2 c1_i32
  let c1_i32_44 : BitVec 32 := 1#32
  let v72 : BitVec 32 := Scalar.subi v68 c1_i32_44
  let c0_i32_45 : BitVec 32 := 0#32
  let v74 : BitVec 1 := Scalar.cmpi .sgt v72 c0_i32_45
  let v75 : BitVec 32 := Scalar.extui v74
  let c0_i32_46 : BitVec 32 := 0#32
  let v76 : BitVec 1 := Scalar.cmpi .slt v72 c0_i32_46
  let v77 : BitVec 32 := Scalar.extui v76
  let v78 : BitVec 32 := Scalar.subi v75 v77
  let c2_i32 : BitVec 32 := 2#32
  let c0_i32_47 : BitVec 32 := 0#32
  let v79 : BitVec 1 := Scalar.cmpi .sgt c2_i32 c0_i32_47
  let v80 : BitVec 32 := Scalar.extui v79
  let c0_i32_48 : BitVec 32 := 0#32
  let v81 : BitVec 1 := Scalar.cmpi .slt c2_i32 c0_i32_48
  let v82 : BitVec 32 := Scalar.extui v81
  let v83 : BitVec 32 := Scalar.subi v80 v82
  let v84 : BitVec 1 := Scalar.cmpi .ne v78 v83
  let v85 : BitVec 32 := Scalar.remsi v72 c2_i32
  let c0_i32_49 : BitVec 32 := 0#32
  let v86 : BitVec 1 := Scalar.cmpi .ne v85 c0_i32_49
  let v87 : BitVec 1 := Scalar.andi v84 v86
  let v73 : BitVec 32 := Scalar.divsi v72 c2_i32
  let c1_i32_50 : BitVec 32 := 1#32
  let v88 : BitVec 32 := Scalar.subi v73 c1_i32_50
  let v89 : BitVec 32 := Scalar.select v87 v88 v73
  let v90 : BitVec 32 := Scalar.subi v89 c0_i32_52
  let c1_i32_53 : BitVec 32 := 1#32
  let v92 : BitVec 32 := Scalar.divsi v90 c1_i32_53
  let v93 : BitVec 32 := Scalar.muli v92 c1_i32_53
  let v94 : BitVec 32 := Scalar.addi c0_i32_52 v93
  let v91 : BitVec 32 := Scalar.addi c0_i32_52 v90
  let c1_i32_55 : BitVec 32 := 1#32
  ⟨v94, v91, c1_i32_55⟩
def k0_mult6 (i : grid0.Coords) (k0_t2 : Fin (k0_t2_loop i).trips) : BitVec 32 :=
  let c2_i32_70 : BitVec 32 := 2#32
  let c0_i32_52 : BitVec 32 := 0#32
  let arg2 : BitVec 32 := BitVec.ofNat 32 (i 2).val
  let c1_i32 : BitVec 32 := 1#32
  let v68 : BitVec 32 := Scalar.muli arg2 c1_i32
  let c1_i32_44 : BitVec 32 := 1#32
  let v72 : BitVec 32 := Scalar.subi v68 c1_i32_44
  let c0_i32_45 : BitVec 32 := 0#32
  let v74 : BitVec 1 := Scalar.cmpi .sgt v72 c0_i32_45
  let v75 : BitVec 32 := Scalar.extui v74
  let c0_i32_46 : BitVec 32 := 0#32
  let v76 : BitVec 1 := Scalar.cmpi .slt v72 c0_i32_46
  let v77 : BitVec 32 := Scalar.extui v76
  let v78 : BitVec 32 := Scalar.subi v75 v77
  let c2_i32 : BitVec 32 := 2#32
  let c0_i32_47 : BitVec 32 := 0#32
  let v79 : BitVec 1 := Scalar.cmpi .sgt c2_i32 c0_i32_47
  let v80 : BitVec 32 := Scalar.extui v79
  let c0_i32_48 : BitVec 32 := 0#32
  let v81 : BitVec 1 := Scalar.cmpi .slt c2_i32 c0_i32_48
  let v82 : BitVec 32 := Scalar.extui v81
  let v83 : BitVec 32 := Scalar.subi v80 v82
  let v84 : BitVec 1 := Scalar.cmpi .ne v78 v83
  let v85 : BitVec 32 := Scalar.remsi v72 c2_i32
  let c0_i32_49 : BitVec 32 := 0#32
  let v86 : BitVec 1 := Scalar.cmpi .ne v85 c0_i32_49
  let v87 : BitVec 1 := Scalar.andi v84 v86
  let v73 : BitVec 32 := Scalar.divsi v72 c2_i32
  let c1_i32_50 : BitVec 32 := 1#32
  let v88 : BitVec 32 := Scalar.subi v73 c1_i32_50
  let v89 : BitVec 32 := Scalar.select v87 v88 v73
  let v90 : BitVec 32 := Scalar.subi v89 c0_i32_52
  let c1_i32_53 : BitVec 32 := 1#32
  let v92 : BitVec 32 := Scalar.divsi v90 c1_i32_53
  let v93 : BitVec 32 := Scalar.muli v92 c1_i32_53
  let v94 : BitVec 32 := Scalar.addi c0_i32_52 v93
  let c1_i32_55 : BitVec 32 := 1#32
  let arg12 : BitVec 32 := Scf.iv v94 c1_i32_55 k0_t2
  let v119 : BitVec 32 := Scalar.muli c2_i32_70 arg12
  let c1_i32_71 : BitVec 32 := 1#32
  let v120 : BitVec 32 := Scalar.addi v119 c1_i32_71
  let c1024_i32 : BitVec 32 := 1024#32
  let v121 : BitVec 32 := Scalar.muli v120 c1024_i32
  v121
def k0_off4 (i : grid0.Coords) (k0_t2 : Fin (k0_t2_loop i).trips) (c1_i32_71 : BitVec 32) : Fin 2 → Nat :=
  let c0_72 : Index := 0#32
  let c2_i32_70 : BitVec 32 := 2#32
  let c0_i32_52 : BitVec 32 := 0#32
  let arg2 : BitVec 32 := BitVec.ofNat 32 (i 2).val
  let c1_i32 : BitVec 32 := 1#32
  let v68 : BitVec 32 := Scalar.muli arg2 c1_i32
  let c1_i32_44 : BitVec 32 := 1#32
  let v72 : BitVec 32 := Scalar.subi v68 c1_i32_44
  let c0_i32_45 : BitVec 32 := 0#32
  let v74 : BitVec 1 := Scalar.cmpi .sgt v72 c0_i32_45
  let v75 : BitVec 32 := Scalar.extui v74
  let c0_i32_46 : BitVec 32 := 0#32
  let v76 : BitVec 1 := Scalar.cmpi .slt v72 c0_i32_46
  let v77 : BitVec 32 := Scalar.extui v76
  let v78 : BitVec 32 := Scalar.subi v75 v77
  let c2_i32 : BitVec 32 := 2#32
  let c0_i32_47 : BitVec 32 := 0#32
  let v79 : BitVec 1 := Scalar.cmpi .sgt c2_i32 c0_i32_47
  let v80 : BitVec 32 := Scalar.extui v79
  let c0_i32_48 : BitVec 32 := 0#32
  let v81 : BitVec 1 := Scalar.cmpi .slt c2_i32 c0_i32_48
  let v82 : BitVec 32 := Scalar.extui v81
  let v83 : BitVec 32 := Scalar.subi v80 v82
  let v84 : BitVec 1 := Scalar.cmpi .ne v78 v83
  let v85 : BitVec 32 := Scalar.remsi v72 c2_i32
  let c0_i32_49 : BitVec 32 := 0#32
  let v86 : BitVec 1 := Scalar.cmpi .ne v85 c0_i32_49
  let v87 : BitVec 1 := Scalar.andi v84 v86
  let v73 : BitVec 32 := Scalar.divsi v72 c2_i32
  let c1_i32_50 : BitVec 32 := 1#32
  let v88 : BitVec 32 := Scalar.subi v73 c1_i32_50
  let v89 : BitVec 32 := Scalar.select v87 v88 v73
  let v90 : BitVec 32 := Scalar.subi v89 c0_i32_52
  let c1_i32_53 : BitVec 32 := 1#32
  let v92 : BitVec 32 := Scalar.divsi v90 c1_i32_53
  let v93 : BitVec 32 := Scalar.muli v92 c1_i32_53
  let v94 : BitVec 32 := Scalar.addi c0_i32_52 v93
  let c1_i32_55 : BitVec 32 := 1#32
  let arg12 : BitVec 32 := Scf.iv v94 c1_i32_55 k0_t2
  let v119 : BitVec 32 := Scalar.muli c2_i32_70 arg12
  let v120 : BitVec 32 := Scalar.addi v119 c1_i32_71
  let c1024_i32 : BitVec 32 := 1024#32
  let v121 : BitVec 32 := Scalar.muli v120 c1024_i32
  let v122 : BitVec 32 := v121
  let v123 : Index := Scalar.indexCast v122
  ![0, v123.toNat]
def k0_off5 (i : grid0.Coords) (k0_t2 : Fin (k0_t2_loop i).trips) (c1_i32_71 : BitVec 32) : Fin 3 → Nat :=
  let c0_73 : Index := 0#32
  let c0_74 : Index := 0#32
  let c2_i32_70 : BitVec 32 := 2#32
  let c0_i32_52 : BitVec 32 := 0#32
  let arg2 : BitVec 32 := BitVec.ofNat 32 (i 2).val
  let c1_i32 : BitVec 32 := 1#32
  let v68 : BitVec 32 := Scalar.muli arg2 c1_i32
  let c1_i32_44 : BitVec 32 := 1#32
  let v72 : BitVec 32 := Scalar.subi v68 c1_i32_44
  let c0_i32_45 : BitVec 32 := 0#32
  let v74 : BitVec 1 := Scalar.cmpi .sgt v72 c0_i32_45
  let v75 : BitVec 32 := Scalar.extui v74
  let c0_i32_46 : BitVec 32 := 0#32
  let v76 : BitVec 1 := Scalar.cmpi .slt v72 c0_i32_46
  let v77 : BitVec 32 := Scalar.extui v76
  let v78 : BitVec 32 := Scalar.subi v75 v77
  let c2_i32 : BitVec 32 := 2#32
  let c0_i32_47 : BitVec 32 := 0#32
  let v79 : BitVec 1 := Scalar.cmpi .sgt c2_i32 c0_i32_47
  let v80 : BitVec 32 := Scalar.extui v79
  let c0_i32_48 : BitVec 32 := 0#32
  let v81 : BitVec 1 := Scalar.cmpi .slt c2_i32 c0_i32_48
  let v82 : BitVec 32 := Scalar.extui v81
  let v83 : BitVec 32 := Scalar.subi v80 v82
  let v84 : BitVec 1 := Scalar.cmpi .ne v78 v83
  let v85 : BitVec 32 := Scalar.remsi v72 c2_i32
  let c0_i32_49 : BitVec 32 := 0#32
  let v86 : BitVec 1 := Scalar.cmpi .ne v85 c0_i32_49
  let v87 : BitVec 1 := Scalar.andi v84 v86
  let v73 : BitVec 32 := Scalar.divsi v72 c2_i32
  let c1_i32_50 : BitVec 32 := 1#32
  let v88 : BitVec 32 := Scalar.subi v73 c1_i32_50
  let v89 : BitVec 32 := Scalar.select v87 v88 v73
  let v90 : BitVec 32 := Scalar.subi v89 c0_i32_52
  let c1_i32_53 : BitVec 32 := 1#32
  let v92 : BitVec 32 := Scalar.divsi v90 c1_i32_53
  let v93 : BitVec 32 := Scalar.muli v92 c1_i32_53
  let v94 : BitVec 32 := Scalar.addi c0_i32_52 v93
  let c1_i32_55 : BitVec 32 := 1#32
  let arg12 : BitVec 32 := Scf.iv v94 c1_i32_55 k0_t2
  let v119 : BitVec 32 := Scalar.muli c2_i32_70 arg12
  let v120 : BitVec 32 := Scalar.addi v119 c1_i32_71
  let c1024_i32 : BitVec 32 := 1024#32
  let v121 : BitVec 32 := Scalar.muli v120 c1024_i32
  let v122 : BitVec 32 := v121
  let v125 : Index := Scalar.indexCast v122
  ![0, 0, v125.toNat]
def k0_mult7 (i : grid0.Coords) (k0_t2 : Fin (k0_t2_loop i).trips) : BitVec 32 :=
  let c2_i32_70 : BitVec 32 := 2#32
  let c0_i32_52 : BitVec 32 := 0#32
  let arg2 : BitVec 32 := BitVec.ofNat 32 (i 2).val
  let c1_i32 : BitVec 32 := 1#32
  let v68 : BitVec 32 := Scalar.muli arg2 c1_i32
  let c1_i32_44 : BitVec 32 := 1#32
  let v72 : BitVec 32 := Scalar.subi v68 c1_i32_44
  let c0_i32_45 : BitVec 32 := 0#32
  let v74 : BitVec 1 := Scalar.cmpi .sgt v72 c0_i32_45
  let v75 : BitVec 32 := Scalar.extui v74
  let c0_i32_46 : BitVec 32 := 0#32
  let v76 : BitVec 1 := Scalar.cmpi .slt v72 c0_i32_46
  let v77 : BitVec 32 := Scalar.extui v76
  let v78 : BitVec 32 := Scalar.subi v75 v77
  let c2_i32 : BitVec 32 := 2#32
  let c0_i32_47 : BitVec 32 := 0#32
  let v79 : BitVec 1 := Scalar.cmpi .sgt c2_i32 c0_i32_47
  let v80 : BitVec 32 := Scalar.extui v79
  let c0_i32_48 : BitVec 32 := 0#32
  let v81 : BitVec 1 := Scalar.cmpi .slt c2_i32 c0_i32_48
  let v82 : BitVec 32 := Scalar.extui v81
  let v83 : BitVec 32 := Scalar.subi v80 v82
  let v84 : BitVec 1 := Scalar.cmpi .ne v78 v83
  let v85 : BitVec 32 := Scalar.remsi v72 c2_i32
  let c0_i32_49 : BitVec 32 := 0#32
  let v86 : BitVec 1 := Scalar.cmpi .ne v85 c0_i32_49
  let v87 : BitVec 1 := Scalar.andi v84 v86
  let v73 : BitVec 32 := Scalar.divsi v72 c2_i32
  let c1_i32_50 : BitVec 32 := 1#32
  let v88 : BitVec 32 := Scalar.subi v73 c1_i32_50
  let v89 : BitVec 32 := Scalar.select v87 v88 v73
  let v90 : BitVec 32 := Scalar.subi v89 c0_i32_52
  let c1_i32_53 : BitVec 32 := 1#32
  let v92 : BitVec 32 := Scalar.divsi v90 c1_i32_53
  let v93 : BitVec 32 := Scalar.muli v92 c1_i32_53
  let v94 : BitVec 32 := Scalar.addi c0_i32_52 v93
  let c1_i32_55 : BitVec 32 := 1#32
  let arg12 : BitVec 32 := Scf.iv v94 c1_i32_55 k0_t2
  let v119 : BitVec 32 := Scalar.muli c2_i32_70 arg12
  let c1_i32_71 : BitVec 32 := 1#32
  let v120 : BitVec 32 := Scalar.addi v119 c1_i32_71
  let c1_i32_76 : BitVec 32 := 1#32
  let v130 : BitVec 32 := Scalar.subi v120 c1_i32_76
  let c1024_i32_77 : BitVec 32 := 1024#32
  let v131 : BitVec 32 := Scalar.muli v130 c1024_i32_77
  v131
def k0_off6 (i : grid0.Coords) (k0_t2 : Fin (k0_t2_loop i).trips) (c1_i32_71 : BitVec 32) : Fin 2 → Nat :=
  let c0_88 : Index := 0#32
  let c2_i32_70 : BitVec 32 := 2#32
  let c0_i32_52 : BitVec 32 := 0#32
  let arg2 : BitVec 32 := BitVec.ofNat 32 (i 2).val
  let c1_i32 : BitVec 32 := 1#32
  let v68 : BitVec 32 := Scalar.muli arg2 c1_i32
  let c1_i32_44 : BitVec 32 := 1#32
  let v72 : BitVec 32 := Scalar.subi v68 c1_i32_44
  let c0_i32_45 : BitVec 32 := 0#32
  let v74 : BitVec 1 := Scalar.cmpi .sgt v72 c0_i32_45
  let v75 : BitVec 32 := Scalar.extui v74
  let c0_i32_46 : BitVec 32 := 0#32
  let v76 : BitVec 1 := Scalar.cmpi .slt v72 c0_i32_46
  let v77 : BitVec 32 := Scalar.extui v76
  let v78 : BitVec 32 := Scalar.subi v75 v77
  let c2_i32 : BitVec 32 := 2#32
  let c0_i32_47 : BitVec 32 := 0#32
  let v79 : BitVec 1 := Scalar.cmpi .sgt c2_i32 c0_i32_47
  let v80 : BitVec 32 := Scalar.extui v79
  let c0_i32_48 : BitVec 32 := 0#32
  let v81 : BitVec 1 := Scalar.cmpi .slt c2_i32 c0_i32_48
  let v82 : BitVec 32 := Scalar.extui v81
  let v83 : BitVec 32 := Scalar.subi v80 v82
  let v84 : BitVec 1 := Scalar.cmpi .ne v78 v83
  let v85 : BitVec 32 := Scalar.remsi v72 c2_i32
  let c0_i32_49 : BitVec 32 := 0#32
  let v86 : BitVec 1 := Scalar.cmpi .ne v85 c0_i32_49
  let v87 : BitVec 1 := Scalar.andi v84 v86
  let v73 : BitVec 32 := Scalar.divsi v72 c2_i32
  let c1_i32_50 : BitVec 32 := 1#32
  let v88 : BitVec 32 := Scalar.subi v73 c1_i32_50
  let v89 : BitVec 32 := Scalar.select v87 v88 v73
  let v90 : BitVec 32 := Scalar.subi v89 c0_i32_52
  let c1_i32_53 : BitVec 32 := 1#32
  let v92 : BitVec 32 := Scalar.divsi v90 c1_i32_53
  let v93 : BitVec 32 := Scalar.muli v92 c1_i32_53
  let v94 : BitVec 32 := Scalar.addi c0_i32_52 v93
  let c1_i32_55 : BitVec 32 := 1#32
  let arg12 : BitVec 32 := Scf.iv v94 c1_i32_55 k0_t2
  let v119 : BitVec 32 := Scalar.muli c2_i32_70 arg12
  let v120 : BitVec 32 := Scalar.addi v119 c1_i32_71
  let c1_i32_76 : BitVec 32 := 1#32
  let v130 : BitVec 32 := Scalar.subi v120 c1_i32_76
  let c1024_i32_77 : BitVec 32 := 1024#32
  let v131 : BitVec 32 := Scalar.muli v130 c1024_i32_77
  let v132 : BitVec 32 := v131
  let v170 : Index := Scalar.indexCast v132
  ![0, v170.toNat]
def k0_mult8 (i : grid0.Coords) (k0_t2 : Fin (k0_t2_loop i).trips) : BitVec 32 :=
  let c2_i32_171 : BitVec 32 := 2#32
  let c0_i32_52 : BitVec 32 := 0#32
  let arg2 : BitVec 32 := BitVec.ofNat 32 (i 2).val
  let c1_i32 : BitVec 32 := 1#32
  let v68 : BitVec 32 := Scalar.muli arg2 c1_i32
  let c1_i32_44 : BitVec 32 := 1#32
  let v72 : BitVec 32 := Scalar.subi v68 c1_i32_44
  let c0_i32_45 : BitVec 32 := 0#32
  let v74 : BitVec 1 := Scalar.cmpi .sgt v72 c0_i32_45
  let v75 : BitVec 32 := Scalar.extui v74
  let c0_i32_46 : BitVec 32 := 0#32
  let v76 : BitVec 1 := Scalar.cmpi .slt v72 c0_i32_46
  let v77 : BitVec 32 := Scalar.extui v76
  let v78 : BitVec 32 := Scalar.subi v75 v77
  let c2_i32 : BitVec 32 := 2#32
  let c0_i32_47 : BitVec 32 := 0#32
  let v79 : BitVec 1 := Scalar.cmpi .sgt c2_i32 c0_i32_47
  let v80 : BitVec 32 := Scalar.extui v79
  let c0_i32_48 : BitVec 32 := 0#32
  let v81 : BitVec 1 := Scalar.cmpi .slt c2_i32 c0_i32_48
  let v82 : BitVec 32 := Scalar.extui v81
  let v83 : BitVec 32 := Scalar.subi v80 v82
  let v84 : BitVec 1 := Scalar.cmpi .ne v78 v83
  let v85 : BitVec 32 := Scalar.remsi v72 c2_i32
  let c0_i32_49 : BitVec 32 := 0#32
  let v86 : BitVec 1 := Scalar.cmpi .ne v85 c0_i32_49
  let v87 : BitVec 1 := Scalar.andi v84 v86
  let v73 : BitVec 32 := Scalar.divsi v72 c2_i32
  let c1_i32_50 : BitVec 32 := 1#32
  let v88 : BitVec 32 := Scalar.subi v73 c1_i32_50
  let v89 : BitVec 32 := Scalar.select v87 v88 v73
  let v90 : BitVec 32 := Scalar.subi v89 c0_i32_52
  let c1_i32_53 : BitVec 32 := 1#32
  let v92 : BitVec 32 := Scalar.divsi v90 c1_i32_53
  let v93 : BitVec 32 := Scalar.muli v92 c1_i32_53
  let v94 : BitVec 32 := Scalar.addi c0_i32_52 v93
  let c1_i32_55 : BitVec 32 := 1#32
  let arg12 : BitVec 32 := Scf.iv v94 c1_i32_55 k0_t2
  let v367 : BitVec 32 := Scalar.muli c2_i32_171 arg12
  let c2_i32_172 : BitVec 32 := 2#32
  let v368 : BitVec 32 := Scalar.addi v367 c2_i32_172
  let c1024_i32_173 : BitVec 32 := 1024#32
  let v369 : BitVec 32 := Scalar.muli v368 c1024_i32_173
  v369
def k0_mult9 (i : grid0.Coords) (k0_t2 : Fin (k0_t2_loop i).trips) : BitVec 32 :=
  let c2_i32_171 : BitVec 32 := 2#32
  let c0_i32_52 : BitVec 32 := 0#32
  let arg2 : BitVec 32 := BitVec.ofNat 32 (i 2).val
  let c1_i32 : BitVec 32 := 1#32
  let v68 : BitVec 32 := Scalar.muli arg2 c1_i32
  let c1_i32_44 : BitVec 32 := 1#32
  let v72 : BitVec 32 := Scalar.subi v68 c1_i32_44
  let c0_i32_45 : BitVec 32 := 0#32
  let v74 : BitVec 1 := Scalar.cmpi .sgt v72 c0_i32_45
  let v75 : BitVec 32 := Scalar.extui v74
  let c0_i32_46 : BitVec 32 := 0#32
  let v76 : BitVec 1 := Scalar.cmpi .slt v72 c0_i32_46
  let v77 : BitVec 32 := Scalar.extui v76
  let v78 : BitVec 32 := Scalar.subi v75 v77
  let c2_i32 : BitVec 32 := 2#32
  let c0_i32_47 : BitVec 32 := 0#32
  let v79 : BitVec 1 := Scalar.cmpi .sgt c2_i32 c0_i32_47
  let v80 : BitVec 32 := Scalar.extui v79
  let c0_i32_48 : BitVec 32 := 0#32
  let v81 : BitVec 1 := Scalar.cmpi .slt c2_i32 c0_i32_48
  let v82 : BitVec 32 := Scalar.extui v81
  let v83 : BitVec 32 := Scalar.subi v80 v82
  let v84 : BitVec 1 := Scalar.cmpi .ne v78 v83
  let v85 : BitVec 32 := Scalar.remsi v72 c2_i32
  let c0_i32_49 : BitVec 32 := 0#32
  let v86 : BitVec 1 := Scalar.cmpi .ne v85 c0_i32_49
  let v87 : BitVec 1 := Scalar.andi v84 v86
  let v73 : BitVec 32 := Scalar.divsi v72 c2_i32
  let c1_i32_50 : BitVec 32 := 1#32
  let v88 : BitVec 32 := Scalar.subi v73 c1_i32_50
  let v89 : BitVec 32 := Scalar.select v87 v88 v73
  let v90 : BitVec 32 := Scalar.subi v89 c0_i32_52
  let c1_i32_53 : BitVec 32 := 1#32
  let v92 : BitVec 32 := Scalar.divsi v90 c1_i32_53
  let v93 : BitVec 32 := Scalar.muli v92 c1_i32_53
  let v94 : BitVec 32 := Scalar.addi c0_i32_52 v93
  let c1_i32_55 : BitVec 32 := 1#32
  let arg12 : BitVec 32 := Scf.iv v94 c1_i32_55 k0_t2
  let v367 : BitVec 32 := Scalar.muli c2_i32_171 arg12
  let c2_i32_172 : BitVec 32 := 2#32
  let v368 : BitVec 32 := Scalar.addi v367 c2_i32_172
  let c1_i32_178 : BitVec 32 := 1#32
  let v378 : BitVec 32 := Scalar.subi v368 c1_i32_178
  let c1024_i32_179 : BitVec 32 := 1024#32
  let v379 : BitVec 32 := Scalar.muli v378 c1024_i32_179
  v379
def k0_cond2 (i : grid0.Coords) : BitVec 1 :=
  let arg2 : BitVec 32 := BitVec.ofNat 32 (i 2).val
  let c1_i32 : BitVec 32 := 1#32
  let v68 : BitVec 32 := Scalar.muli arg2 c1_i32
  let c0_i32_64 : BitVec 32 := 0#32
  let v107 : BitVec 1 := Scalar.cmpi .eq v68 c0_i32_64
  let v108 : BitVec 32 := Scalar.extui v107
  let c0_i32_65 : BitVec 32 := 0#32
  let v109 : BitVec 1 := Scalar.cmpi .ne v108 c0_i32_65
  v109

def k0_mult10 (i : grid0.Coords) : BitVec 32 :=
  let arg2 : BitVec 32 := BitVec.ofNat 32 (i 2).val
  let c1024_i32 : BitVec 32 := 1024#32
  let v119 : BitVec 32 := Scalar.muli arg2 c1024_i32
  v119
def k0_off7 (i : grid0.Coords) : Fin 2 → Nat :=
  let c0_70 : Index := 0#32
  let arg2 : BitVec 32 := BitVec.ofNat 32 (i 2).val
  let c1024_i32 : BitVec 32 := 1024#32
  let v119 : BitVec 32 := Scalar.muli arg2 c1024_i32
  let v120 : BitVec 32 := v119
  let v121 : Index := Scalar.indexCast v120
  ![0, v121.toNat]
def k0_off8 (i : grid0.Coords) : Fin 3 → Nat :=
  let c0_71 : Index := 0#32
  let c0_72 : Index := 0#32
  let arg2 : BitVec 32 := BitVec.ofNat 32 (i 2).val
  let c1024_i32 : BitVec 32 := 1024#32
  let v119 : BitVec 32 := Scalar.muli arg2 c1024_i32
  let v120 : BitVec 32 := v119
  let v123 : Index := Scalar.indexCast v120
  ![0, 0, v123.toNat]
def k0_off9 (i : grid0.Coords) : Fin 2 → Nat :=
  let c0_86 : Index := 0#32
  let arg2 : BitVec 32 := BitVec.ofNat 32 (i 2).val
  let c1024_i32 : BitVec 32 := 1024#32
  let v119 : BitVec 32 := Scalar.muli arg2 c1024_i32
  let v120 : BitVec 32 := v119
  let v170 : Index := Scalar.indexCast v120
  ![0, v170.toNat]
def k0_off10 (i : grid0.Coords) : Fin 2 → Nat :=
  let c0_110 : Index := 0#32
  let arg2 : BitVec 32 := BitVec.ofNat 32 (i 2).val
  let c1024_i32 : BitVec 32 := 1024#32
  let v119 : BitVec 32 := Scalar.muli arg2 c1024_i32
  let v120 : BitVec 32 := v119
  let v236 : Index := Scalar.indexCast v120
  ![0, v236.toNat]
def k0_off11 (i : grid0.Coords) : Fin 2 → Nat :=
  let c0_134 : Index := 0#32
  let arg2 : BitVec 32 := BitVec.ofNat 32 (i 2).val
  let c1024_i32 : BitVec 32 := 1024#32
  let v119 : BitVec 32 := Scalar.muli arg2 c1024_i32
  let v120 : BitVec 32 := v119
  let v299 : Index := Scalar.indexCast v120
  ![0, v299.toNat]
def k0_cond3 (i : grid0.Coords) : BitVec 1 :=
  let arg2 : BitVec 32 := BitVec.ofNat 32 (i 2).val
  let c1_i32 : BitVec 32 := 1#32
  let v68 : BitVec 32 := Scalar.muli arg2 c1_i32
  let c0_i32_66 : BitVec 32 := 0#32
  let v110 : BitVec 1 := Scalar.cmpi .sgt v68 c0_i32_66
  let c1_i32_56 : BitVec 32 := 1#32
  let v95 : BitVec 32 := Scalar.subi v68 c1_i32_56
  let c2_i32_57 : BitVec 32 := 2#32
  let c0_i32_58 : BitVec 32 := 0#32
  let v96 : BitVec 1 := Scalar.cmpi .eq c2_i32_57 c0_i32_58
  let c1_i32_59 : BitVec 32 := 1#32
  let v97 : BitVec 32 := Scalar.select v96 c1_i32_59 c2_i32_57
  let v98 : BitVec 32 := Scalar.remsi v95 v97
  let c0_i32_61 : BitVec 32 := 0#32
  let v100 : BitVec 1 := Scalar.cmpi .slt v98 c0_i32_61
  let c0_i32_62 : BitVec 32 := 0#32
  let v101 : BitVec 1 := Scalar.cmpi .slt v97 c0_i32_62
  let v102 : BitVec 1 := Scalar.xori v100 v101
  let c0_i32_60 : BitVec 32 := 0#32
  let v99 : BitVec 1 := Scalar.cmpi .ne v98 c0_i32_60
  let v103 : BitVec 1 := Scalar.andi v102 v99
  let v104 : BitVec 32 := Scalar.addi v98 v97
  let v105 : BitVec 32 := Scalar.select v103 v104 v98
  let c1_i32_63 : BitVec 32 := 1#32
  let v106 : BitVec 1 := Scalar.cmpi .eq v105 c1_i32_63
  let v111 : BitVec 1 := Scalar.andi v110 v106
  let v112 : BitVec 32 := Scalar.extui v111
  let c0_i32_67 : BitVec 32 := 0#32
  let v113 : BitVec 1 := Scalar.cmpi .ne v112 c0_i32_67
  v113

def k0_mult11 (i : grid0.Coords) : BitVec 32 :=
  let arg2 : BitVec 32 := BitVec.ofNat 32 (i 2).val
  let c1_i32 : BitVec 32 := 1#32
  let v68 : BitVec 32 := Scalar.muli arg2 c1_i32
  let c1_i32_56 : BitVec 32 := 1#32
  let v95 : BitVec 32 := Scalar.subi v68 c1_i32_56
  let c1024_i32 : BitVec 32 := 1024#32
  let v119 : BitVec 32 := Scalar.muli v95 c1024_i32
  v119
def k0_off12 (i : grid0.Coords) : Fin 2 → Nat :=
  let c0_70 : Index := 0#32
  let arg2 : BitVec 32 := BitVec.ofNat 32 (i 2).val
  let c1_i32 : BitVec 32 := 1#32
  let v68 : BitVec 32 := Scalar.muli arg2 c1_i32
  let c1_i32_56 : BitVec 32 := 1#32
  let v95 : BitVec 32 := Scalar.subi v68 c1_i32_56
  let c1024_i32 : BitVec 32 := 1024#32
  let v119 : BitVec 32 := Scalar.muli v95 c1024_i32
  let v120 : BitVec 32 := v119
  let v121 : Index := Scalar.indexCast v120
  ![0, v121.toNat]
def k0_off13 (i : grid0.Coords) : Fin 3 → Nat :=
  let c0_71 : Index := 0#32
  let c0_72 : Index := 0#32
  let arg2 : BitVec 32 := BitVec.ofNat 32 (i 2).val
  let c1_i32 : BitVec 32 := 1#32
  let v68 : BitVec 32 := Scalar.muli arg2 c1_i32
  let c1_i32_56 : BitVec 32 := 1#32
  let v95 : BitVec 32 := Scalar.subi v68 c1_i32_56
  let c1024_i32 : BitVec 32 := 1024#32
  let v119 : BitVec 32 := Scalar.muli v95 c1024_i32
  let v120 : BitVec 32 := v119
  let v123 : Index := Scalar.indexCast v120
  ![0, 0, v123.toNat]
def k0_mult12 (i : grid0.Coords) : BitVec 32 :=
  let arg2 : BitVec 32 := BitVec.ofNat 32 (i 2).val
  let c1_i32 : BitVec 32 := 1#32
  let v68 : BitVec 32 := Scalar.muli arg2 c1_i32
  let c1_i32_56 : BitVec 32 := 1#32
  let v95 : BitVec 32 := Scalar.subi v68 c1_i32_56
  let c1_i32_74 : BitVec 32 := 1#32
  let v128 : BitVec 32 := Scalar.subi v95 c1_i32_74
  let c1024_i32_75 : BitVec 32 := 1024#32
  let v129 : BitVec 32 := Scalar.muli v128 c1024_i32_75
  v129
def k0_off14 (i : grid0.Coords) : Fin 2 → Nat :=
  let c0_86 : Index := 0#32
  let arg2 : BitVec 32 := BitVec.ofNat 32 (i 2).val
  let c1_i32 : BitVec 32 := 1#32
  let v68 : BitVec 32 := Scalar.muli arg2 c1_i32
  let c1_i32_56 : BitVec 32 := 1#32
  let v95 : BitVec 32 := Scalar.subi v68 c1_i32_56
  let c1_i32_74 : BitVec 32 := 1#32
  let v128 : BitVec 32 := Scalar.subi v95 c1_i32_74
  let c1024_i32_75 : BitVec 32 := 1024#32
  let v129 : BitVec 32 := Scalar.muli v128 c1024_i32_75
  let v130 : BitVec 32 := v129
  let v168 : Index := Scalar.indexCast v130
  ![0, v168.toNat]
def k0_mult13 (i : grid0.Coords) : BitVec 32 :=
  let arg2 : BitVec 32 := BitVec.ofNat 32 (i 2).val
  let c1024_i32_169 : BitVec 32 := 1024#32
  let v365 : BitVec 32 := Scalar.muli arg2 c1024_i32_169
  v365
def k0_off15 (i : grid0.Coords) : Fin 2 → Nat :=
  let c0_170 : Index := 0#32
  let arg2 : BitVec 32 := BitVec.ofNat 32 (i 2).val
  let c1024_i32_169 : BitVec 32 := 1024#32
  let v365 : BitVec 32 := Scalar.muli arg2 c1024_i32_169
  let v366 : BitVec 32 := v365
  let v367 : Index := Scalar.indexCast v366
  ![0, v367.toNat]
def k0_off16 (i : grid0.Coords) : Fin 3 → Nat :=
  let c0_171 : Index := 0#32
  let c0_172 : Index := 0#32
  let arg2 : BitVec 32 := BitVec.ofNat 32 (i 2).val
  let c1024_i32_169 : BitVec 32 := 1024#32
  let v365 : BitVec 32 := Scalar.muli arg2 c1024_i32_169
  let v366 : BitVec 32 := v365
  let v369 : Index := Scalar.indexCast v366
  ![0, 0, v369.toNat]
def k0_mult14 (i : grid0.Coords) : BitVec 32 :=
  let arg2 : BitVec 32 := BitVec.ofNat 32 (i 2).val
  let c1_i32 : BitVec 32 := 1#32
  let v68 : BitVec 32 := Scalar.muli arg2 c1_i32
  let c1_i32_56 : BitVec 32 := 1#32
  let v95 : BitVec 32 := Scalar.subi v68 c1_i32_56
  let c1024_i32_177 : BitVec 32 := 1024#32
  let v380 : BitVec 32 := Scalar.muli v95 c1024_i32_177
  v380
def k0_off17 (i : grid0.Coords) : Fin 2 → Nat :=
  let c0_250 : Index := 0#32
  let arg2 : BitVec 32 := BitVec.ofNat 32 (i 2).val
  let c1024_i32_169 : BitVec 32 := 1024#32
  let v365 : BitVec 32 := Scalar.muli arg2 c1024_i32_169
  let v366 : BitVec 32 := v365
  let v586 : Index := Scalar.indexCast v366
  ![0, v586.toNat]
def k0_off18 (i : grid0.Coords) : Fin 2 → Nat :=
  let c0_274 : Index := 0#32
  let arg2 : BitVec 32 := BitVec.ofNat 32 (i 2).val
  let c1024_i32_169 : BitVec 32 := 1024#32
  let v365 : BitVec 32 := Scalar.muli arg2 c1024_i32_169
  let v366 : BitVec 32 := v365
  let v652 : Index := Scalar.indexCast v366
  ![0, v652.toNat]
def k0_off19 (i : grid0.Coords) : Fin 2 → Nat :=
  let c0_298 : Index := 0#32
  let arg2 : BitVec 32 := BitVec.ofNat 32 (i 2).val
  let c1024_i32_169 : BitVec 32 := 1024#32
  let v365 : BitVec 32 := Scalar.muli arg2 c1024_i32_169
  let v366 : BitVec 32 := v365
  let v715 : Index := Scalar.indexCast v366
  ![0, v715.toNat]
def k0_cond4 (i : grid0.Coords) : BitVec 1 :=
  let arg2 : BitVec 32 := BitVec.ofNat 32 (i 2).val
  let c1_i32 : BitVec 32 := 1#32
  let v68 : BitVec 32 := Scalar.muli arg2 c1_i32
  let c0_i32_68 : BitVec 32 := 0#32
  let v114 : BitVec 1 := Scalar.cmpi .sgt v68 c0_i32_68
  let c1_i32_56 : BitVec 32 := 1#32
  let v95 : BitVec 32 := Scalar.subi v68 c1_i32_56
  let c2_i32_57 : BitVec 32 := 2#32
  let c0_i32_58 : BitVec 32 := 0#32
  let v96 : BitVec 1 := Scalar.cmpi .eq c2_i32_57 c0_i32_58
  let c1_i32_59 : BitVec 32 := 1#32
  let v97 : BitVec 32 := Scalar.select v96 c1_i32_59 c2_i32_57
  let v98 : BitVec 32 := Scalar.remsi v95 v97
  let c0_i32_61 : BitVec 32 := 0#32
  let v100 : BitVec 1 := Scalar.cmpi .slt v98 c0_i32_61
  let c0_i32_62 : BitVec 32 := 0#32
  let v101 : BitVec 1 := Scalar.cmpi .slt v97 c0_i32_62
  let v102 : BitVec 1 := Scalar.xori v100 v101
  let c0_i32_60 : BitVec 32 := 0#32
  let v99 : BitVec 1 := Scalar.cmpi .ne v98 c0_i32_60
  let v103 : BitVec 1 := Scalar.andi v102 v99
  let v104 : BitVec 32 := Scalar.addi v98 v97
  let v105 : BitVec 32 := Scalar.select v103 v104 v98
  let c1_i32_63 : BitVec 32 := 1#32
  let v106 : BitVec 1 := Scalar.cmpi .eq v105 c1_i32_63
  let v_true : BitVec 1 := 1#1
  let v115 : BitVec 1 := Scalar.xori v106 v_true
  let v116 : BitVec 1 := Scalar.andi v114 v115
  let v117 : BitVec 32 := Scalar.extui v116
  let c0_i32_69 : BitVec 32 := 0#32
  let v118 : BitVec 1 := Scalar.cmpi .ne v117 c0_i32_69
  v118

def k0_mult15 (i : grid0.Coords) : BitVec 32 :=
  let arg2 : BitVec 32 := BitVec.ofNat 32 (i 2).val
  let c1024_i32 : BitVec 32 := 1024#32
  let v119 : BitVec 32 := Scalar.muli arg2 c1024_i32
  v119
def k0_off20 (i : grid0.Coords) : Fin 2 → Nat :=
  let c0_70 : Index := 0#32
  let arg2 : BitVec 32 := BitVec.ofNat 32 (i 2).val
  let c1024_i32 : BitVec 32 := 1024#32
  let v119 : BitVec 32 := Scalar.muli arg2 c1024_i32
  let v120 : BitVec 32 := v119
  let v121 : Index := Scalar.indexCast v120
  ![0, v121.toNat]
def k0_off21 (i : grid0.Coords) : Fin 3 → Nat :=
  let c0_71 : Index := 0#32
  let c0_72 : Index := 0#32
  let arg2 : BitVec 32 := BitVec.ofNat 32 (i 2).val
  let c1024_i32 : BitVec 32 := 1024#32
  let v119 : BitVec 32 := Scalar.muli arg2 c1024_i32
  let v120 : BitVec 32 := v119
  let v123 : Index := Scalar.indexCast v120
  ![0, 0, v123.toNat]
def k0_mult16 (i : grid0.Coords) : BitVec 32 :=
  let arg2 : BitVec 32 := BitVec.ofNat 32 (i 2).val
  let c1_i32 : BitVec 32 := 1#32
  let v68 : BitVec 32 := Scalar.muli arg2 c1_i32
  let c1_i32_56 : BitVec 32 := 1#32
  let v95 : BitVec 32 := Scalar.subi v68 c1_i32_56
  let c1024_i32_77 : BitVec 32 := 1024#32
  let v134 : BitVec 32 := Scalar.muli v95 c1024_i32_77
  v134
def k0_off22 (i : grid0.Coords) : Fin 2 → Nat :=
  let c0_88 : Index := 0#32
  let arg2 : BitVec 32 := BitVec.ofNat 32 (i 2).val
  let c1_i32 : BitVec 32 := 1#32
  let v68 : BitVec 32 := Scalar.muli arg2 c1_i32
  let c1_i32_56 : BitVec 32 := 1#32
  let v95 : BitVec 32 := Scalar.subi v68 c1_i32_56
  let c1024_i32_77 : BitVec 32 := 1024#32
  let v134 : BitVec 32 := Scalar.muli v95 c1024_i32_77
  let v135 : BitVec 32 := v134
  let v173 : Index := Scalar.indexCast v135
  ![0, v173.toNat]
def k0_off23 (i : grid0.Coords) : Fin 2 → Nat :=
  let c0_150 : Index := 0#32
  let arg2 : BitVec 32 := BitVec.ofNat 32 (i 2).val
  let c1024_i32 : BitVec 32 := 1024#32
  let v119 : BitVec 32 := Scalar.muli arg2 c1024_i32
  let v120 : BitVec 32 := v119
  let v340 : Index := Scalar.indexCast v120
  ![0, v340.toNat]
def k0_off24 (i : grid0.Coords) : Fin 2 → Nat :=
  let c0_174 : Index := 0#32
  let arg2 : BitVec 32 := BitVec.ofNat 32 (i 2).val
  let c1024_i32 : BitVec 32 := 1024#32
  let v119 : BitVec 32 := Scalar.muli arg2 c1024_i32
  let v120 : BitVec 32 := v119
  let v406 : Index := Scalar.indexCast v120
  ![0, v406.toNat]
def k0_off25 (i : grid0.Coords) : Fin 2 → Nat :=
  let c0_198 : Index := 0#32
  let arg2 : BitVec 32 := BitVec.ofNat 32 (i 2).val
  let c1024_i32 : BitVec 32 := 1024#32
  let v119 : BitVec 32 := Scalar.muli arg2 c1024_i32
  let v120 : BitVec 32 := v119
  let v469 : Index := Scalar.indexCast v120
  ![0, v469.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S64x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S512x16384 : Shape := ⟨2, ![512, 16384]⟩
abbrev S8x16x16384 : Shape := ⟨3, ![8, 16, 16384]⟩
abbrev S8x64x2x8192 : Shape := ⟨4, ![8, 64, 2, 8192]⟩
abbrev S2x8x8192x64 : Shape := ⟨4, ![2, 8, 8192, 64]⟩
abbrev S8x1x16384 : Shape := ⟨3, ![8, 1, 16384]⟩
abbrev S8x16384 : Shape := ⟨2, ![8, 16384]⟩
abbrev S8x2x8192 : Shape := ⟨3, ![8, 2, 8192]⟩
abbrev S2x8x8192 : Shape := ⟨3, ![2, 8, 8192]⟩
abbrev S2x8x8192x8192 : Shape := ⟨4, ![2, 8, 8192, 8192]⟩
abbrev S2x8x8192x1 : Shape := ⟨4, ![2, 8, 8192, 1]⟩
abbrev S2x8x1x8192 : Shape := ⟨4, ![2, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S512x16384, .bf16⟩
  | .hbm, ⟨1, _⟩ => ⟨S512x16384, .bf16⟩
  | .hbm, ⟨2, _⟩ => ⟨S8x16x16384, .bf16⟩
  | .hbm, ⟨3, _⟩ => ⟨S512x16384, .bf16⟩
  | .hbm, ⟨4, _⟩ => ⟨S512x16384, .f32⟩
  | .hbm, ⟨5, _⟩ => ⟨S8x64x2x8192, .f32⟩
  | .hbm, ⟨6, _⟩ => ⟨S2x8x8192x64, .f32⟩
  | .hbm, ⟨7, _⟩ => ⟨S512x16384, .f32⟩
  | .hbm, ⟨8, _⟩ => ⟨S8x64x2x8192, .f32⟩
  | .hbm, ⟨9, _⟩ => ⟨S2x8x8192x64, .f32⟩
  | .hbm, ⟨10, _⟩ => ⟨S512x16384, .f32⟩
  | .hbm, ⟨11, _⟩ => ⟨S8x64x2x8192, .f32⟩
  | .hbm, ⟨12, _⟩ => ⟨S2x8x8192x64, .f32⟩
  | .hbm, ⟨13, _⟩ => ⟨S8x16x16384, .f32⟩
  | .hbm, ⟨14, _⟩ => ⟨S8x1x16384, .f32⟩
  | .hbm, ⟨15, _⟩ => ⟨S8x16384, .f32⟩
  | .hbm, ⟨16, _⟩ => ⟨S8x1x16384, .f32⟩
  | .hbm, ⟨17, _⟩ => ⟨S8x16384, .f32⟩
  | .hbm, ⟨18, _⟩ => ⟨S8x16384, .f32⟩
  | .hbm, ⟨19, _⟩ => ⟨S8x1x16384, .f32⟩
  | .hbm, ⟨20, _⟩ => ⟨S8x16384, .f32⟩
  | .hbm, ⟨21, _⟩ => ⟨S8x16384, .f32⟩
  | .hbm, ⟨22, _⟩ => ⟨S8x16384, .f32⟩
  | .hbm, ⟨23, _⟩ => ⟨S8x2x8192, .f32⟩
  | .hbm, ⟨24, _⟩ => ⟨S2x8x8192, .f32⟩
  | .hbm, ⟨25, _⟩ => ⟨S2x8x8192x8192, .f32⟩
  | .hbm, ⟨26, _⟩ => ⟨S2x8x8192x1, .f32⟩
  | .hbm, ⟨27, _⟩ => ⟨S2x8x8192x8192, .f32⟩
  | .hbm, ⟨28, _⟩ => ⟨S2x8x8192x8192, .f32⟩
  | .hbm, ⟨29, _⟩ => ⟨S2x8x1x8192, .f32⟩
  | .hbm, ⟨30, _⟩ => ⟨S2x8x8192x8192, .f32⟩
  | .hbm, ⟨31, _⟩ => ⟨S2x8x8192x8192, .f32⟩
  | .hbm, ⟨32, _⟩ => ⟨S8192, .i32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S2x8x8192x8192, .i1⟩
  | .hbm, ⟨41, _⟩ => ⟨S2x8x8192x8192, .f32⟩
  | .hbm, ⟨42, _⟩ => ⟨S2x8x8192x8192, .f32⟩
  | .hbm, ⟨43, _⟩ => ⟨S_, .f32⟩
  | .hbm, ⟨44, _⟩ => ⟨S2x8x8192, .f32⟩
  | .hbm, ⟨45, _⟩ => ⟨S_, .f32⟩
  | .hbm, ⟨46, _⟩ => ⟨S2x8x8192, .f32⟩
  | .hbm, ⟨47, _⟩ => ⟨S2x8x8192, .f32⟩
  | .hbm, ⟨48, _⟩ => ⟨S2x8x8192x1, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S_, .f32⟩
  | .hbm, ⟨53, _⟩ => ⟨S2x8x8192, .f32⟩
  | .hbm, ⟨54, _⟩ => ⟨S2x8x8192x1, .f32⟩
  | .hbm, ⟨55, _⟩ => ⟨S2x8x8192x8192, .f32⟩
  | .hbm, ⟨56, _⟩ => ⟨S2x8x8192x8192, .f32⟩
  | .hbm, ⟨57, _⟩ => ⟨S2x8x8192x64, .f32⟩
  | .hbm, ⟨58, _⟩ => ⟨S8x64x2x8192, .f32⟩
  | .hbm, ⟨59, _⟩ => ⟨S512x16384, .f32⟩
  | .hbm, ⟨60, _⟩ => ⟨S512x16384, .bf16⟩
  | _, _ => ⟨S512x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Ffn.lean ====
abbrev S16384x1024 : Shape := ⟨2, ![16384, 1024]⟩
abbrev S2x1x1024 : Shape := ⟨3, ![2, 1, 1024]⟩
abbrev S2x1024x5632 : Shape := ⟨3, ![2, 1024, 5632]⟩
abbrev S2x2816x1024 : Shape := ⟨3, ![2, 2816, 1024]⟩
abbrev S1x1x1024 : Shape := ⟨3, ![1, 1, 1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1024x5632, .bf16⟩
  | .hbm, ⟨3, _⟩ => ⟨S2x2816x1024, .bf16⟩
  | .hbm, ⟨4, _⟩ => ⟨S1x1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S2x1x1024 : Shape := ⟨3, ![2, 1, 1024]⟩
abbrev S2x1024x5632 : Shape := ⟨3, ![2, 1024, 5632]⟩
abbrev S2x2816x1024 : Shape := ⟨3, ![2, 2816, 1024]⟩
abbrev S1x1x1024 : Shape := ⟨3, ![1, 1, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1024x5632, .bf16⟩
  | .hbm, ⟨3, _⟩ => ⟨S2x2816x1024, .bf16⟩
  | .hbm, ⟨4, _⟩ => ⟨S1x1x1024, .f32⟩
  | .hbm, ⟨5, _⟩ => ⟨S1x1x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1x1024x5632, .bf16⟩
  | .hbm, ⟨23, _⟩ => ⟨S1024x5632, .bf16⟩
  | .hbm, ⟨24, _⟩ => ⟨S1024x5632, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S1x2816x1024, .bf16⟩
  | .hbm, ⟨39, _⟩ => ⟨S2816x1024, .bf16⟩
  | .hbm, ⟨40, _⟩ => ⟨S2816x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Half.lean ====
abbrev S16384x1024 : Shape := ⟨2, ![16384, 1024]⟩
abbrev S2x1x1024 : Shape := ⟨3, ![2, 1, 1024]⟩
abbrev S2x1024x5632 : Shape := ⟨3, ![2, 1024, 5632]⟩
abbrev S2x2816x1024 : Shape := ⟨3, ![2, 2816, 1024]⟩
abbrev S1x1x1024 : Shape := ⟨3, ![1, 1, 1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1024x5632, .bf16⟩
  | .hbm, ⟨3, _⟩ => ⟨S2x2816x1024, .bf16⟩
  | .hbm, ⟨4, _⟩ => ⟨S1x1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== HalfRefIdeal.lean ====
abbrev S16384x1024 : Shape := ⟨2, ![16384, 1024]⟩
abbrev S2x1x1024 : Shape := ⟨3, ![2, 1, 1024]⟩
abbrev S2x1024x5632 : Shape := ⟨3, ![2, 1024, 5632]⟩
abbrev S2x2816x1024 : Shape := ⟨3, ![2, 2816, 1024]⟩
abbrev S1x1x1024 : Shape := ⟨3, ![1, 1, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1024x5632, .bf16⟩
  | .hbm, ⟨3, _⟩ => ⟨S2x2816x1024, .bf16⟩
  | .hbm, ⟨4, _⟩ => ⟨S1x1x1024, .f32⟩
  | .hbm, ⟨5, _⟩ => ⟨S1x1x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1x1024x5632, .bf16⟩
  | .hbm, ⟨23, _⟩ => ⟨S1024x5632, .bf16⟩
  | .hbm, ⟨24, _⟩ => ⟨S1024x5632, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S1x2816x1024, .bf16⟩
  | .hbm, ⟨39, _⟩ => ⟨S2816x1024, .bf16⟩
  | .hbm, ⟨40, _⟩ => ⟨S2816x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Proof.Fox.Strips.lean ====
/-
  Arrays of strips: a `[n, 1·b, d]` scratch array read and written one strip `[1, b, d]` at a time, stated as a
  function of the strip's number.
-/
module

public import Idealize.ShloMosaic.Lib.VecWindow
public import Idealize.ShloMosaic.Lib.Tactic

@[expose] public section

noncomputable section

namespace Cert.Fox

open Idealize.ShloMosaic

variable {α : Type} {n b d : ℕ}

/-- The array whose strip `c` is `m c`. -/
def asm (m : ℕ → Shape.Idx ⟨3, ![1, b, d]⟩ → α) : Shape.Idx ⟨3, ![n, b, d]⟩ → α :=
  fun y => m (y 0).val (fun a => match a with | 0 => (0 : Fin 1) | 1 => y 1 | 2 => y 2)

/-- The strips of an array. -/
def strips [NeZero n] (X : Shape.Idx ⟨3, ![n, b, d]⟩ → α) : ℕ → Shape.Idx ⟨3, ![1, b, d]⟩ → α :=
  fun c y => X (fun a => match a with | 0 => Fin.ofNat n c | 1 => y 1 | 2 => y 2)

theorem asm_strips [NeZero n] (X : Shape.Idx ⟨3, ![n, b, d]⟩ → α) : asm (strips X) = X := by
  funext y
  refine congrArg X (funext fun a => ?_)
  match a with
  | 0 => exact Fin.ext (Nat.mod_eq_of_lt (y 0).isLt)
  | 1 => rfl
  | 2 => rfl

theorem asm_ext {m m' : ℕ → Shape.Idx ⟨3, ![1, b, d]⟩ → α} (h : ∀ c < n, m c = m' c) :
    (asm m : Shape.Idx ⟨3, ![n, b, d]⟩ → α) = asm m' := by
  funext y
  exact congrFun (h (y 0).val (y 0).isLt) _

theorem window_asm (m : ℕ → Shape.Idx ⟨3, ![1, b, d]⟩ → α) (c : ℕ)
    (inb : ∀ a, (![c, 0, 0] : Fin 3 → ℕ) a + (![1, b, d] : Fin 3 → ℕ) a ≤ (⟨3, ![n, b, d]⟩ : Shape).size a) :
    VecWindow.window (s := ⟨3, ![n, b, d]⟩) (asm m) ![c, 0, 0] ![1, b, d] inb = m c := by
  funext y
  have h0 : (y 0).val = 0 := Nat.lt_one_iff.mp (y 0).isLt
  have e0 : ((Rect.unit (s := ⟨3, ![n, b, d]⟩) ![c, 0, 0] ![1, b, d] inb).emb y 0).val = c := by
    show c + 1 * (y 0).val = c
    omega
  show m _ _ = m c y
  rw [e0]
  refine congrArg (m c) (funext fun a => ?_)
  match a with
  | 0 => exact Fin.ext h0.symm
  | 1 => exact Fin.ext (show 0 + 1 * (y 1).val = (y 1).val by omega)
  | 2 => exact Fin.ext (show 0 + 1 * (y 2).val = (y 2).val by omega)

theorem put_asm (m : ℕ → Shape.Idx ⟨3, ![1, b, d]⟩ → α) (c : ℕ) (w : Shape.Idx ⟨3, ![1, b, d]⟩ → α) :
    VecWindow.put (s := ⟨3, ![n, b, d]⟩) (asm m) ![c, 0, 0] ![1, b, d] w = asm (Function.update m c w) := by
  funext y
  by_cases hc : (y 0).val = c
  · have h : ∀ a, (![c, 0, 0] : Fin 3 → ℕ) a ≤ (y a).val ∧ (y a).val < (![c, 0, 0] : Fin 3 → ℕ) a + (![1, b, d] : Fin 3 → ℕ) a := by
      intro a
      match a with
      | 0 => exact ⟨hc.ge, by show (y 0).val < c + 1; omega⟩
      | 1 => exact ⟨Nat.zero_le _, by show (y 1).val < 0 + b; have := (y 1).isLt; exact (Nat.zero_add b).symm ▸ this⟩
      | 2 => exact ⟨Nat.zero_le _, by show (y 2).val < 0 + d; have := (y 2).isLt; exact (Nat.zero_add d).symm ▸ this⟩
    refine (dif_pos h).trans ?_
    show _ = Function.update m c w (y 0).val _
    rw [hc, Function.update_self]
    refine congrArg w (funext fun a => ?_)
    match a with
    | 0 => exact Fin.ext (show (y 0).val - c = 0 by omega)
    | 1 => exact Fin.ext (show (y 1).val - 0 = (y 1).val by omega)
    | 2 => exact Fin.ext (show (y 2).val - 0 = (y 2).val by omega)
  · refine (dif_neg fun h => hc ?_).trans ?_
    · have := h 0
      have h1 : c ≤ (y 0).val := this.1
      have h2 : (y 0).val < c + 1 := this.2
      omega
    · show m _ _ = Function.update m c w (y 0).val _
      rw [Function.update_of_ne hc]

/-- The 64 by 1024 array whose strip `c` of 256 columns is `o c`. -/
def asm2 (o : ℕ → Shape.Idx ⟨2, ![64, 256]⟩ → α) : Shape.Idx ⟨2, ![64, 1024]⟩ → α :=
  fun y => o ((y 1).val / 256) (fun a => match a with | 0 => y 0 | 1 => (⟨(y 1).val % 256, Nat.mod_lt _ (by decide)⟩ : Fin 256))

/-- The strips of 256 columns of an array. -/
def strips2 (X : Shape.Idx ⟨2, ![64, 1024]⟩ → α) : ℕ → Shape.Idx ⟨2, ![64, 256]⟩ → α :=
  fun c y => X (fun a => match a with | 0 => y 0 | 1 => Fin.ofNat 1024 (256 * c + (y 1).val))

theorem asm2_strips2 (X : Shape.Idx ⟨2, ![64, 1024]⟩ → α) : asm2 (strips2 X) = X := by
  funext y
  refine congrArg X (funext fun a => ?_)
  match a with
  | 0 => rfl
  | 1 =>
    have h : (y 1).val < 1024 := (y 1).isLt
    refine Fin.ext ?_
    show (256 * ((y 1).val / 256) + (y 1).val % 256) % 1024 = (y 1).val
    omega

theorem asm2_ext {m m' : ℕ → Shape.Idx ⟨2, ![64, 256]⟩ → α} (h : ∀ c < 4, m c = m' c) : asm2 m = asm2 m' := by
  funext y
  have h1 : (y 1).val < 1024 := (y 1).isLt
  exact congrFun (h ((y 1).val / 256) (by omega)) _

theorem put_asm2 (o : ℕ → Shape.Idx ⟨2, ![64, 256]⟩ → α) (c : ℕ) (w : Shape.Idx ⟨2, ![64, 256]⟩ → α) :
    VecWindow.put (s := ⟨2, ![64, 1024]⟩) (asm2 o) ![0, 256 * c] ![64, 256] w = asm2 (Function.update o c w) := by
  funext y
  by_cases hc : (y 1).val / 256 = c
  · have h : ∀ a, (![0, 256 * c] : Fin 2 → ℕ) a ≤ (y a).val ∧ (y a).val < (![0, 256 * c] : Fin 2 → ℕ) a + (![64, 256] : Fin 2 → ℕ) a := by
      intro a
      match a with
      | 0 => exact ⟨Nat.zero_le _, by show (y 0).val < 0 + 64; have := (y 0).isLt; exact (Nat.zero_add 64).symm ▸ this⟩
      | 1 => exact ⟨by show 256 * c ≤ (y 1).val; omega, by show (y 1).val < 256 * c + 256; omega⟩
    refine (dif_pos h).trans ?_
    show _ = Function.update o c w ((y 1).val / 256) _
    rw [hc, Function.update_self]
    refine congrArg w (funext fun a => ?_)
    match a with
    | 0 => exact Fin.ext (show (y 0).val - 0 = (y 0).val by omega)
    | 1 => exact Fin.ext (show (y 1).val - 256 * c = (y 1).val % 256 by omega)
  · refine (dif_neg fun h => hc ?_).trans ?_
    · have := h 1
      have h1 : 256 * c ≤ (y 1).val := this.1
      have h2 : (y 1).val < 256 * c + 256 := this.2
      omega
    · show o _ _ = Function.update o c w ((y 1).val / 256) _
      rw [Function.update_of_ne hc]

section Reads

variable {sig : RefSig} {κ : Kind} {sp : Space} {e : EltTy} {Val : EltTy → Type} [∀ e, Nonempty (Val e)] {s : Shape}

/-- A load of the box last written reads what was written. -/
theorem readCov_same (v : View sig κ sp s e) {off size : Fin s.rank → ℕ} (inb inb' : ∀ a, off a + size a ≤ s.size a)
    (w : (Rect.unit off size inb).shape.Idx → Val e) (L : List (View.Piece Val s e)) :
    v.readCov (⟨Rect.unit off size inb, w⟩ :: L) (Rect.unit off size inb').toLoadRect = w := by
  unfold View.readCov
  rw [View.readAt_unit v _ inb' rfl inb', View.read_writes_cons_put v _ inb w L rfl]
  exact VecWindow.window_put_same _ _ _ _ _

/-- A load of a box apart from the one last written reads the earlier writes. -/
theorem readCov_other (v : View sig κ sp s e) {off off' size size' : Fin s.rank → ℕ} (inb : ∀ a, off a + size a ≤ s.size a)
    (inb' : ∀ a, off' a + size' a ≤ s.size a) (w : (Rect.unit off size inb).shape.Idx → Val e) (L : List (View.Piece Val s e)) (a : Fin s.rank)
    (h : off' a + size' a ≤ off a ∨ off a + size a ≤ off' a) :
    v.readCov (⟨Rect.unit off size inb, w⟩ :: L) (Rect.unit off' size' inb').toLoadRect = v.readCov L (Rect.unit off' size' inb').toLoadRect := by
  unfold View.readCov
  rw [View.readAt_unit v _ inb' rfl inb', View.readAt_unit v _ inb' rfl inb', View.read_writes_cons_put v _ inb w L rfl]
  exact VecWindow.window_put_of_disjoint _ _ _ _ _ inb' _ a h

end Reads

end Cert.Fox

end
-- ==== Proof.Fox.Spec.lean ====
/-
  What one strip of the attention computes, as functions of vectors: the score of a strip of queries against a block
  of keys, the running maximum and the rescaled accumulator after one more block, and the two after every number of blocks.
-/
module

public import proofs.«01_k».proof.Proof.Fox.Strips
public import proofs.«01_k».proof.Proof.Gen.KernelIdeal.Skeleton
public import Idealize.ShloMosaic.Lib.VecWindow
public import Idealize.ShloMosaic.Lib.Pipeline.Value

@[expose] public section

set_option maxRecDepth 8192
set_option maxHeartbeats 4000000

noncomputable section

namespace Cert.KernelIdeal.Fox

open Cert.KernelIdeal Cert.KernelIdeal.Gen Cert.Fox
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A block of keys with its sixteen rows of pieces of the running sum below it. -/
def kaug (kb : Vec F S64x1024 .bf16) (cb : Vec F S1x16x1024 .bf16) : FVec F S80x1024 .bf16 := k0_pay14 kb cb

/-- The scores of a block of keys against a strip of queries. -/
def sc (q : FVec F S80x256 .bf16) (K : FVec F S80x1024 .bf16) : FVec F S1024x256 .f32 :=
  matmul dot_S80x1024_S80x256_S1024x256_0_0_1_1_n_n none K q (constant S1024x256 .f32 0x00000000#32)

/-- The scores as a scratch strip holds them. -/
def sc3 (s : FVec F S1024x256 .f32) : FVec F S1x1024x256 .f32 := shapeCast S1x1024x256 s shapeCasts_S1024x256_S1x1024x256

/-- The maximum over 256 rows, by halves. -/
def top256 (s : FVec F S256x256 .f32) : FVec F S1x256 .f32 :=
  have v143 : FVec F S128x256 .f32 := extractStridedSlice S128x256 ![0, 0] s slices_S256x256_o0_0_S128x256
  have v144 : FVec F S128x256 .f32 := extractStridedSlice S128x256 ![128, 0] s slices_S256x256_o128_0_S128x256
  have v145 : FVec F S128x256 .f32 := maximumf v143 v144
  have v146 : FVec F S64x256 .f32 := extractStridedSlice S64x256 ![0, 0] v145 slices_S128x256_o0_0_S64x256
  have v147 : FVec F S64x256 .f32 := extractStridedSlice S64x256 ![64, 0] v145 slices_S128x256_o64_0_S64x256
  have v148 : FVec F S64x256 .f32 := maximumf v146 v147
  have v149 : FVec F S32x256 .f32 := extractStridedSlice S32x256 ![0, 0] v148 slices_S64x256_o0_0_S32x256
  have v150 : FVec F S32x256 .f32 := extractStridedSlice S32x256 ![32, 0] v148 slices_S64x256_o32_0_S32x256
  have v151 : FVec F S32x256 .f32 := maximumf v149 v150
  have v152 : FVec F S16x256 .f32 := extractStridedSlice S16x256 ![0, 0] v151 slices_S32x256_o0_0_S16x256
  have v153 : FVec F S16x256 .f32 := extractStridedSlice S16x256 ![16, 0] v151 slices_S32x256_o16_0_S16x256
  have v154 : FVec F S16x256 .f32 := maximumf v152 v153
  have v155 : FVec F S8x256 .f32 := extractStridedSlice S8x256 ![0, 0] v154 slices_S16x256_o0_0_S8x256
  have v156 : FVec F S8x256 .f32 := extractStridedSlice S8x256 ![8, 0] v154 slices_S16x256_o8_0_S8x256
  have v157 : FVec F S8x256 .f32 := maximumf v155 v156
  have v158 : FVec F S256 .f32 := multiReduction .maximumf [0] S256 v157 0xFF800000#32 reduces_S8x256_S256 (.inl rfl) rfl
  shapeCast S1x256 v158 shapeCasts_S256_S1x256

/-- The maximum over 512 rows. -/
def top512 (s : FVec F S512x256 .f32) : FVec F S1x256 .f32 :=
  top256 (maximumf (extractStridedSlice S256x256 ![0, 0] s slices_S512x256_o0_0_S256x256) (extractStridedSlice S256x256 ![256, 0] s slices_S512x256_o256_0_S256x256))

/-- The maximum over 1024 rows. -/
def top1024 (s : FVec F S1024x256 .f32) : FVec F S1x256 .f32 :=
  top512 (maximumf (extractStridedSlice S512x256 ![0, 0] s slices_S1024x256_o0_0_S512x256) (extractStridedSlice S512x256 ![512, 0] s slices_S1024x256_o512_0_S512x256))

/-- A strip's running maximum without its leading axis, and back. -/
def unM (m : Vec F S1x1x256 .f32) : FVec F S1x256 .f32 := shapeCast S1x256 m shapeCasts_S1x1x256_S1x256
def toM (m : FVec F S1x256 .f32) : FVec F S1x1x256 .f32 := shapeCast S1x1x256 m shapeCasts_S1x256_S1x1x256

/-- The maximum with one more block's scores. -/
def newMax (s : FVec F S1024x256 .f32) (m : Vec F S1x1x256 .f32) : FVec F S1x256 .f32 := maximumf (unM m) (top1024 s)
def newM (s : FVec F S1024x256 .f32) (m : Vec F S1x1x256 .f32) : FVec F S1x1x256 .f32 := toM (newMax s m)

/-- The accumulator with one more block: rescaled to the new maximum, the block's weighted values and weights added. -/
def newA (s : FVec F S1024x256 .f32) (m : Vec F S1x1x256 .f32) (vb : Vec F S64x1024 .bf16) (a : Vec F S1x80x256 .f32) : FVec F S1x80x256 .f32 :=
  k0_pay21 s (newMax s m) (subf (unM m) (newMax s m)) vb a

/-- A strip of scores without its leading axis. -/
def unS (s : Vec F S1x1024x256 .f32) : FVec F S1024x256 .f32 := shapeCast S1024x256 s shapeCasts_S1x1024x256_S1024x256

/-- Block `j` of the keys (or the values), 1024 positions wide. -/
def blk (X : Vec F S64x8192 .bf16) (j : ℕ) : Vec F S64x1024 .bf16 :=
  fun y => X (fun a => match a with | 0 => y 0 | 1 => Fin.ofNat 8192 (1024 * j + (y 1).val))

/-- Block `j` of the pieces of the running sum. -/
def cblk (X : Vec F S1x16x8192 .bf16) (j : ℕ) : Vec F S1x16x1024 .bf16 :=
  fun y => X (fun a => match a with | 0 => y 0 | 1 => y 1 | 2 => Fin.ofNat 8192 (1024 * j + (y 2).val))

/-- Block `j` of the keys with the pieces below. -/
def KA (X4 : Vec F S64x8192 .bf16) (X5 : Vec F S1x16x8192 .bf16) (j : ℕ) : FVec F S80x1024 .bf16 := kaug (blk X4 j) (cblk X5 j)

theorem window_blk (X : Vec F S64x8192 .bf16) (j : ℕ) (inb : ∀ a, (![0, 1024 * j] : Fin 2 → ℕ) a + S64x1024.size a ≤ S64x8192.size a) :
    VecWindow.window X ![0, 1024 * j] S64x1024.size inb = blk X j := by
  funext y
  refine congrArg X (funext fun a => ?_)
  match a with
  | 0 => exact Fin.ext (show 0 + 1 * (y 0).val = (y 0).val by omega)
  | 1 =>
    have h1 : 1024 * j + 1024 ≤ 8192 := inb 1
    have h2 : (y 1).val < 1024 := (y 1).isLt
    refine Fin.ext ?_
    show 1024 * j + 1 * (y 1).val = (1024 * j + (y 1).val) % 8192
    omega

theorem window_cblk (X : Vec F S1x16x8192 .bf16) (j : ℕ) (inb : ∀ a, (![0, 0, 1024 * j] : Fin 3 → ℕ) a + S1x16x1024.size a ≤ S1x16x8192.size a) :
    VecWindow.window X ![0, 0, 1024 * j] S1x16x1024.size inb = cblk X j := by
  funext y
  refine congrArg X (funext fun a => ?_)
  match a with
  | 0 => exact Fin.ext (show 0 + 1 * (y 0).val = (y 0).val by omega)
  | 1 => exact Fin.ext (show 0 + 1 * (y 1).val = (y 1).val by omega)
  | 2 =>
    have h1 : 1024 * j + 1024 ≤ 8192 := inb 2
    have h2 : (y 2).val < 1024 := (y 2).isLt
    refine Fin.ext ?_
    show 1024 * j + 1 * (y 2).val = (1024 * j + (y 2).val) % 8192
    omega

theorem unS_sc3 (s : FVec F S1024x256 .f32) : unS (sc3 s) = s := shapeCast_shapeCast s _ _

/-- The four strips of queries by number. -/
def qs (v8 v17 v26 v35 : FVec F S80x256 .bf16) : ℕ → FVec F S80x256 .bf16
  | 0 => v8
  | 1 => v17
  | 2 => v26
  | _ => v35

/-- A strip's running maximum after its first `j` blocks. -/
def stM (q : FVec F S80x256 .bf16) (K : ℕ → FVec F S80x1024 .bf16) : ℕ → FVec F S1x1x256 .f32
  | 0 => toM (broadcast S1x256 (Scalar.ofBits .f32 0xFF800000#32))
  | j + 1 => newM (sc q (K j)) (stM q K j)

/-- A strip's accumulator after its first `j` blocks. -/
def stA (q : FVec F S80x256 .bf16) (K : ℕ → FVec F S80x1024 .bf16) (V : ℕ → Vec F S64x1024 .bf16) : ℕ → FVec F S1x80x256 .f32
  | 0 => k0_pay349 (broadcast S80x256 (Scalar.ofBits .f32 0x00000000#32))
  | j + 1 => newA (sc q (K j)) (stM q K j) (V j) (stA q K V j)

/-- A block of `n` columns from position `1024 j`. -/
def vwin (n : ℕ) (X : Vec F S64x8192 .bf16) (j : ℕ) : Shape.Idx ⟨2, ![64, n]⟩ → Elt F .bf16 :=
  fun y => X (fun a => match a with | 0 => y 0 | 1 => Fin.ofNat 8192 (1024 * j + (y 1).val))

theorem readAt_vwin [∀ e, Nonempty (Elt F e)] (n : ℕ) {κ' : Kind} {sp : Space} (v : View sig κ' sp S64x8192 .bf16) (X : Vec F S64x8192 .bf16) (j : ℕ) (off : Fin 2 → ℕ)
    (h : off = ![0, 1024 * j]) (inb : ∀ a, off a + (![64, n] : Fin 2 → ℕ) a ≤ S64x8192.size a) :
    v.readAt (Elt F) (Rect.unit (s := S64x8192) off ![64, n] inb).toLoadRect (v.rep X) = vwin n X j := by
  subst h
  refine (View.readAt_rep_unit v _ inb rfl inb).trans ?_
  funext y
  refine congrArg X (funext fun a => ?_)
  match a with
  | 0 => exact Fin.ext (show 0 + 1 * (y 0).val = (y 0).val by omega)
  | 1 =>
    have h1 : 1024 * j + n ≤ 8192 := inb 1
    have h2 : (y 1).val < n := (y 1).isLt
    refine Fin.ext ?_
    show 1024 * j + 1 * (y 1).val = (1024 * j + (y 1).val) % 8192
    omega

/-- Strip `c` of a tile of queries, with the sixteen rows below it. -/
def qa (X : Vec F S64x1024 .bf16) (c : ℕ) : FVec F S80x256 .bf16 := k0_pay333 (strips2 X c)

theorem readAt_strips2 [∀ e, Nonempty (Elt F e)] {κ' : Kind} {sp : Space} (v : View sig κ' sp S64x1024 .bf16) (X : Vec F S64x1024 .bf16) (c : ℕ) (off : Fin 2 → ℕ)
    (h : off = ![0, 256 * c]) (inb : ∀ a, off a + S64x256.size a ≤ S64x1024.size a) :
    v.readAt (Elt F) (Rect.unit (s := S64x1024) off S64x256.size inb).toLoadRect (v.rep X) = strips2 X c := by
  subst h
  refine (View.readAt_rep_unit v _ inb rfl inb).trans ?_
  funext y
  refine congrArg X (funext fun a => ?_)
  match a with
  | 0 => exact Fin.ext (show 0 + 1 * (y 0).val = (y 0).val by omega)
  | 1 =>
    have h1 : 256 * c + 256 ≤ 1024 := inb 1
    have h2 : (y 1).val < 256 := (y 1).isLt
    refine Fin.ext ?_
    show 256 * c + 1 * (y 1).val = (256 * c + (y 1).val) % 1024
    omega

/-- The accumulator after the diagonal block, strip by strip: strip `c` takes the first `256 (c + 1)` keys of the block, those past a query masked. -/
def dg0 (q : FVec F S80x256 .bf16) (kb : Vec F S64x1024 .bf16) (cb : Vec F S1x16x1024 .bf16) (m : Vec F S1x1x256 .f32) (vb : Vec F S64x256 .bf16) (a : Vec F S1x80x256 .f32) : FVec F S1x80x256 .f32 :=
  k0_pay154 (k0_pay151 q kb cb m) (k0_pay152 q kb cb m) vb a
def dg1 (q : FVec F S80x256 .bf16) (kb : Vec F S64x1024 .bf16) (cb : Vec F S1x16x1024 .bf16) (m : Vec F S1x1x256 .f32) (vb : Vec F S64x512 .bf16) (a : Vec F S1x80x256 .f32) : FVec F S1x80x256 .f32 :=
  k0_pay164 (k0_pay160 (k0_pay145 q kb cb) k0_pay156 m) (k0_pay161 (k0_pay145 q kb cb) k0_pay156 m) (k0_pay163 vb) a
def dg2 (q : FVec F S80x256 .bf16) (kb : Vec F S64x1024 .bf16) (cb : Vec F S1x16x1024 .bf16) (m : Vec F S1x1x256 .f32) (vb : Vec F S64x768 .bf16) (a : Vec F S1x80x256 .f32) : FVec F S1x80x256 .f32 :=
  k0_pay171 (k0_pay166 (k0_pay146 q kb cb)) (k0_pay167 m) (k0_pay168 (k0_pay146 q kb cb)) vb a
def dg3 (q : FVec F S80x256 .bf16) (kb : Vec F S64x1024 .bf16) (cb : Vec F S1x16x1024 .bf16) (m : Vec F S1x1x256 .f32) (vb : Vec F S64x1024 .bf16) (a : Vec F S1x80x256 .f32) : FVec F S1x80x256 .f32 :=
  k0_pay1 (k0_pay176 (k0_pay147 q kb cb) (iota .tc S1024x256 32 [0] iota_S1024x256_d0_w32) m) (k0_pay177 (k0_pay147 q kb cb) (iota .tc S1024x256 32 [0] iota_S1024x256_d0_w32) m)
    vb k0_pay179 (Scalar.ofBits .f32 0x3F800000#32) (Scalar.ofBits .f32 0x00000000#32) a

/-- What is stored for each strip of the queries of block `n`. -/
def outs (q : ℕ → FVec F S80x256 .bf16) (X4 : Vec F S64x8192 .bf16) (X5 : Vec F S1x16x8192 .bf16) (X6 : Vec F S64x8192 .bf16) (n : ℕ) : ℕ → FVec F S64x256 .bf16
  | 0 => k0_pay155 (dg0 (q 0) (blk X4 n) (cblk X5 n) (stM (q 0) (KA X4 X5) n) (vwin 256 X6 n) (stA (q 0) (KA X4 X5) (blk X6) n))
  | 1 => k0_pay155 (dg1 (q 1) (blk X4 n) (cblk X5 n) (stM (q 1) (KA X4 X5) n) (vwin 512 X6 n) (stA (q 1) (KA X4 X5) (blk X6) n))
  | 2 => k0_pay155 (dg2 (q 2) (blk X4 n) (cblk X5 n) (stM (q 2) (KA X4 X5) n) (vwin 768 X6 n) (stA (q 2) (KA X4 X5) (blk X6) n))
  | _ => k0_pay155 (dg3 (q 3) (blk X4 n) (cblk X5 n) (stM (q 3) (KA X4 X5) n) (vwin 1024 X6 n) (stA (q 3) (KA X4 X5) (blk X6) n))

/-- The tile stored for the queries `X3` of block `n`. -/
def outTile (X3 : Vec F S64x1024 .bf16) (X4 : Vec F S64x8192 .bf16) (X5 : Vec F S1x16x8192 .bf16) (X6 : Vec F S64x8192 .bf16) (n : ℕ) : Vec F S64x1024 .bf16 :=
  asm2 (outs (qs (qa X3 0) (qa X3 1) (qa X3 2) (qa X3 3)) X4 X5 X6 n)

end Cert.KernelIdeal.Fox

end
-- ==== Proof.Fox.Softmax.lean ====
/- Softmax of a column of scores, taken key by key with a running maximum.

   Scores and values are functions of the key's position. After the first `n` keys the kernel holds the greatest score `mx s n` and the
   sums `num s w n` of weighted values at that maximum; more keys rescale them (`num_add`), masked keys (score −∞) change
   nothing (`att_mask`), and a constant added to every score changes nothing (`att_shift`). -/
module

public import Idealize.ShloMosaic.PureOps.Ideal.Laws
public import Mathlib.Data.EReal.Inv

@[expose] public section

noncomputable section

namespace Cert.Fox.Softmax

open Idealize.ShloMosaic
open scoped BigOperators

/-- The greatest of the first `n` scores. -/
def mx (s : ℕ → EReal) (n : ℕ) : EReal := (Finset.range n).sup s

/-- The first `n` values weighted by the exponentials of their scores under `M`. -/
def num (s w : ℕ → EReal) (n : ℕ) (M : EReal) : EReal := ∑ p ∈ Finset.range n, w p * Ideal.exp (s p - M)

/-- The softmax average of the first `n` values. -/
def att (s w : ℕ → EReal) (n : ℕ) : EReal := Ideal.div (num s w n (mx s n)) (num s (fun _ => 1) n (mx s n))

theorem mx_add (s : ℕ → EReal) (n k : ℕ) : mx s (n + k) = max (mx s n) (Finset.univ.sup fun j : Fin k => s (n + j.val)) := by
  refine le_antisymm (Finset.sup_le fun p hp => ?_) (max_le (Finset.sup_mono fun p hp => ?_) (Finset.sup_le fun j _ => ?_))
  · have hp := Finset.mem_range.1 hp
    by_cases h : p < n
    · exact le_max_of_le_left (Finset.le_sup (f := s) (Finset.mem_range.2 h))
    · refine le_max_of_le_right (le_trans (le_of_eq ?_) (Finset.le_sup (f := fun j : Fin k => s (n + j.val)) (Finset.mem_univ ⟨p - n, by omega⟩)))
      show s p = s (n + (p - n))
      congr 1; omega
  · have := Finset.mem_range.1 hp
    exact Finset.mem_range.2 (by omega)
  · exact Finset.le_sup (f := s) (Finset.mem_range.2 (by have := j.isLt; omega))

theorem le_mx (s : ℕ → EReal) {n p : ℕ} (h : p < n) : s p ≤ mx s n := Finset.le_sup (f := s) (Finset.mem_range.2 h)

theorem mx_ne_top {s : ℕ → EReal} (hs : ∀ p, s p ≠ ⊤) (n : ℕ) : mx s n ≠ ⊤ :=
  ne_of_lt ((Finset.sup_lt_iff (by exact bot_lt_top)).2 fun p _ => lt_top_iff_ne_top.2 (hs p))

theorem exp_nonneg (x : EReal) : 0 ≤ Ideal.exp x := by
  induction x with
  | bot => exact le_of_eq Ideal.exp_bot.symm
  | coe r => rw [Ideal.exp_coe]; exact EReal.coe_nonneg.2 (Real.exp_pos r).le
  | top => rw [Ideal.exp_top]; exact le_top

/-- The rescaling factor is finite. -/
theorem exp_sub_ne_top {a b : EReal} (h : a ≤ b) (hb : b ≠ ⊤) : Ideal.exp (a - b) ≠ ⊤ := by
  induction a with
  | bot => rw [EReal.bot_sub, Ideal.exp_bot]; exact EReal.zero_ne_top
  | top => exact absurd (top_le_iff.1 h) hb
  | coe r =>
    induction b with
    | bot => exact absurd (le_bot_iff.1 h) (EReal.coe_ne_bot r)
    | top => exact absurd rfl hb
    | coe t => rw [← EReal.coe_sub, Ideal.exp_coe]; exact EReal.coe_ne_top _

/-- Rescaling a weight from one maximum to a greater one. -/
theorem exp_rescale {x a b : EReal} (hx : x ≤ a) (h : a ≤ b) (hb : b ≠ ⊤) :
    Ideal.exp (a - b) * Ideal.exp (x - a) = Ideal.exp (x - b) := by
  induction x with
  | bot => rw [EReal.bot_sub, EReal.bot_sub, Ideal.exp_bot, mul_zero]
  | top => exact absurd (top_le_iff.1 ((hx.trans h))) hb
  | coe r =>
    induction a with
    | bot => exact absurd (le_bot_iff.1 hx) (EReal.coe_ne_bot r)
    | top => exact absurd (top_le_iff.1 h) hb
    | coe t =>
      induction b with
      | bot => exact absurd (le_bot_iff.1 h) (EReal.coe_ne_bot t)
      | top => exact absurd rfl hb
      | coe u =>
        rw [← EReal.coe_sub, ← EReal.coe_sub, ← EReal.coe_sub, Ideal.exp_coe, Ideal.exp_coe, Ideal.exp_coe, ← EReal.coe_mul, ← Real.exp_add]
        congr 2; ring

/-- A nonnegative finite factor moves into a sum. -/
theorem mul_sum {ι : Type} (A : Finset ι) (f : ι → EReal) {c : EReal} (h0 : 0 ≤ c) (h1 : c ≠ ⊤) : c * ∑ p ∈ A, f p = ∑ p ∈ A, c * f p := by
  classical
  induction A using Finset.induction_on with
  | empty => simp
  | insert a A ha ih => rw [Finset.sum_insert ha, Finset.sum_insert ha, EReal.left_distrib_of_nonneg_of_ne_top h0 h1, ih]

/-- One more block of keys: the old sums rescaled to the new maximum, the block's added. -/
theorem num_add {s : ℕ → EReal} (hs : ∀ p, s p ≠ ⊤) (w : ℕ → EReal) (n k : ℕ) :
    Ideal.exp (mx s n - mx s (n + k)) * num s w n (mx s n) + ∑ j : Fin k, w (n + j.val) * Ideal.exp (s (n + j.val) - mx s (n + k))
      = num s w (n + k) (mx s (n + k)) := by
  have hle : mx s n ≤ mx s (n + k) := by rw [mx_add]; exact le_max_left _ _
  have ht := mx_ne_top hs (n + k)
  unfold num
  rw [mul_sum _ _ (exp_nonneg _) (exp_sub_ne_top hle ht), Finset.sum_range_add, ← Finset.sum_range fun j => w (n + j) * Ideal.exp (s (n + j) - mx s (n + k))]
  refine congrArg (· + _) (Finset.sum_congr rfl fun p hp => ?_)
  rw [mul_left_comm, exp_rescale (le_mx s (Finset.mem_range.1 hp)) hle ht]

/-- Keys of score −∞ past the first `n` do not count. -/
theorem mx_mask {s : ℕ → EReal} {n k : ℕ} (h : ∀ p, n ≤ p → s p = ⊥) : mx s (n + k) = mx s n := by
  rw [mx_add]
  exact max_eq_left (Finset.sup_le fun j _ => (le_of_eq (h _ (by omega))).trans bot_le)

theorem num_mask {s : ℕ → EReal} (w : ℕ → EReal) {n k : ℕ} (M : EReal) (h : ∀ p, n ≤ p → s p = ⊥) : num s w (n + k) M = num s w n M := by
  unfold num
  rw [Finset.sum_range_add]
  refine (congrArg (_ + ·) (Finset.sum_eq_zero fun j _ => ?_)).trans (add_zero _)
  rw [h _ (by omega), EReal.bot_sub, Ideal.exp_bot, mul_zero]

theorem att_mask {s : ℕ → EReal} (w : ℕ → EReal) {n k : ℕ} (h : ∀ p, n ≤ p → s p = ⊥) : att s w (n + k) = att s w n := by
  unfold att
  rw [mx_mask h, num_mask w _ h, num_mask _ _ h]

/-- A real constant added to every score leaves the differences from the greatest as they were. -/
theorem mx_shift (s : ℕ → EReal) (c : ℝ) {n : ℕ} : mx (fun p => s p + (c : EReal)) n = mx s n + (c : EReal) := by
  have e (a b : EReal) : max a b + (c : EReal) = max (a + c) (b + c) :=
    Monotone.map_max (f := fun x : EReal => x + (c : EReal)) (fun x y h => add_le_add_left h _)
  induction n with
  | zero => exact (EReal.bot_add _).symm
  | succ n ih =>
    unfold mx at ih ⊢
    rw [Finset.range_add_one, Finset.sup_insert, Finset.sup_insert, ih]
    exact (e _ _).symm

theorem sub_shift (a b : EReal) (c : ℝ) : (a + (c : EReal)) - (b + (c : EReal)) = a - b := by
  induction a with
  | bot => rw [EReal.bot_add, EReal.bot_sub, EReal.bot_sub]
  | top =>
    induction b with
    | bot => rfl
    | top => rfl
    | coe b => rfl
  | coe a =>
    induction b with
    | bot => rfl
    | top => rfl
    | coe b => rw [← EReal.coe_add, ← EReal.coe_add, ← EReal.coe_sub, ← EReal.coe_sub]; congr 1; ring

theorem num_shift (s w : ℕ → EReal) (c : ℝ) (n : ℕ) (M : EReal) :
    num (fun p => s p + (c : EReal)) w n (M + (c : EReal)) = num s w n M :=
  Finset.sum_congr rfl fun p _ => by rw [sub_shift]

/-- The average as the sum of the normalised weights times the values, which is how a softmax spells it. -/
theorem att_eq_sum {s : ℕ → EReal} (hs : ∀ p, s p ≠ ⊤) (w : ℕ → EReal) {n p0 : ℕ} (hp : p0 < n) (h0 : s p0 ≠ ⊥) :
    ∑ p ∈ Finset.range n, Ideal.div (Ideal.exp (s p - mx s n)) (∑ q ∈ Finset.range n, Ideal.exp (s q - mx s n)) * w p = att s w n := by
  have hm : mx s n ≠ ⊤ := mx_ne_top hs n
  have hb : mx s n ≠ ⊥ := fun h => h0 (le_bot_iff.1 (h ▸ le_mx s hp))
  have hsum : num s (fun _ => 1) n (mx s n) = ∑ q ∈ Finset.range n, Ideal.exp (s q - mx s n) := Finset.sum_congr rfl fun p _ => one_mul _
  have hpos : 0 < ∑ q ∈ Finset.range n, Ideal.exp (s q - mx s n) := by
    refine lt_of_lt_of_le ?_ (Finset.single_le_sum (f := fun q => Ideal.exp (s q - mx s n)) (fun q _ => exp_nonneg _) (Finset.mem_range.2 hp))
    show 0 < Ideal.exp (s p0 - mx s n)
    lift mx s n to ℝ using ⟨hm, hb⟩ with M
    lift s p0 to ℝ using ⟨hs p0, h0⟩ with x
    rw [← EReal.coe_sub, Ideal.exp_coe]
    exact EReal.coe_pos.2 (Real.exp_pos _)
  generalize hD : (∑ q ∈ Finset.range n, Ideal.exp (s q - mx s n)) = D at hpos hsum
  unfold att
  rw [hsum]
  have hdiv (x : EReal) : Ideal.div x D = x * D⁻¹ := by
    unfold Ideal.div
    rw [if_neg hpos.ne']
  have hi : 0 ≤ D⁻¹ := EReal.inv_nonneg_of_nonneg hpos.le
  have hf : D⁻¹ ≠ ⊤ := by
    induction D with
    | bot => simp
    | top => simp
    | coe r =>
      rw [← EReal.coe_inv]; exact EReal.coe_ne_top _
  rw [hdiv, mul_comm, num, mul_sum _ _ hi hf]
  refine Finset.sum_congr rfl fun p _ => ?_
  rw [hdiv, mul_comm (Ideal.exp _), mul_assoc, mul_comm (w p)]

/-- The same for scores that all carry one real constant. -/
theorem att_shift (s w : ℕ → EReal) (c : ℝ) (n : ℕ) : att (fun p => s p + (c : EReal)) w n = att s w n := by
  unfold att
  rw [mx_shift, num_shift, num_shift]

end Cert.Fox.Softmax

end
-- ==== Proof.Fox.Columns.lean ====
/- One column of the attention's tile: what the strips' vectors hold at one query.

   Each payload of `Spec` is read at a column: the greatest of a block's scores (`colTop`), the running maximum and sums after one
   block (`newMax_apply`, `newA_apply`, `stepAt`), the masked scores of the diagonal block (`diag`, `dg0_apply` … `dg3_apply`) and the
   quotient that is stored (`pay155_apply`). -/
module

public import proofs.«01_k».proof.Proof.Fox.Spec
public import proofs.«01_k».proof.Proof.Fox.Softmax
public import Idealize.ShloMosaic.Lib.Pointwise
public import Idealize.ShloMosaic.Lib.WordCmp

@[expose] public section

set_option maxRecDepth 16384

noncomputable section

namespace Cert.KernelIdeal.Fox

open Cert.KernelIdeal Cert.KernelIdeal.Gen Cert.Fox Cert.Fox.Softmax Idealize.ShloMosaic
open scoped BigOperators

/-! ## Words -/

theorem ofBits_negInf : Ideal.ofBits .f32 0xFF800000#32 = ⊥ := by simp [Ideal.ofBits, Ideal.ieee]

theorem mask_bot : Named.named (F := Ideal) κ "mask" (φ := .f32) 0xF149F2CA#32 = ⊥ := IdealRules.named_const.ideal_named_scalar _ _ _ _ rfl

theorem select_three (a b : EReal) : ∀ i : Fin 16, Scalar.select (IntOp.cmpi CmpIPredicate.slt (BitVec.ofNat 32 i.val) 3#32) a b = if i.val < 3 then a else b := by
  intro i; fin_cases i <;> rfl

theorem select_key (k col off : ℕ) (hk : k < 1024) (hc : col < 256) (ho : off < 1024) (a b : EReal) :
    Scalar.select (IntOp.cmpi CmpIPredicate.sle (BitVec.ofNat 32 k) (IntOp.addi (BitVec.ofNat 32 col) (BitVec.ofNat 32 off))) a b
      = if k ≤ col + off then a else b := by
  have e : IntOp.addi (BitVec.ofNat 32 col) (BitVec.ofNat 32 off) = BitVec.ofNat 32 (col + off) := (BitVec.ofNat_add _ _).symm
  rw [e, WordCmp.cmpi_sle_ofNat (by norm_num; omega) (by norm_num; omega)]
  by_cases h : k ≤ col + off <;> simp [h, Scalar.select]

/-! ## The greatest element of a column -/

/-- The greatest of a column's rows. -/
def colTop {n : ℕ} (x : FVec Ideal ⟨2, ![n, 256]⟩ .f32) (col : Fin 256) : EReal := Finset.univ.sup fun k : Fin n => x (ix2 k col)

/-- Taking the two halves' maximum row by row keeps a column's greatest. -/
theorem colTop_half (n : ℕ) (x : FVec Ideal ⟨2, ![n + n, 256]⟩ .f32)
    (h1 : (⟨2, ![n + n, 256]⟩ : Shape).Slices ![0, 0] ⟨2, ![n, 256]⟩) (h2 : (⟨2, ![n + n, 256]⟩ : Shape).Slices ![n, 0] ⟨2, ![n, 256]⟩) (col : Fin 256) :
    colTop (maximumf (extractStridedSlice ⟨2, ![n, 256]⟩ ![0, 0] x h1) (extractStridedSlice ⟨2, ![n, 256]⟩ ![n, 0] x h2)) col = colTop x col := by
  have e1 (k : Fin n) : extractStridedSlice ⟨2, ![n, 256]⟩ ![0, 0] x h1 (ix2 k col) = x (ix2 (Fin.castAdd n k) col) :=
    extractStridedSlice_apply _ x h1 _ _ fun a => match a with
      | ⟨0, _⟩ => (Nat.zero_add k.val).symm
      | ⟨1, _⟩ => (Nat.zero_add col.val).symm
  have e2 (k : Fin n) : extractStridedSlice ⟨2, ![n, 256]⟩ ![n, 0] x h2 (ix2 k col) = x (ix2 (Fin.natAdd n k) col) :=
    extractStridedSlice_apply _ x h2 _ _ fun a => match a with
      | ⟨0, _⟩ => rfl
      | ⟨1, _⟩ => (Nat.zero_add col.val).symm
  have e (k : Fin n) : maximumf (extractStridedSlice ⟨2, ![n, 256]⟩ ![0, 0] x h1) (extractStridedSlice ⟨2, ![n, 256]⟩ ![n, 0] x h2) (ix2 k col)
      = max (x (ix2 (Fin.castAdd n k) col)) (x (ix2 (Fin.natAdd n k) col)) := by
    rw [← e1, ← e2]; rfl
  unfold colTop
  refine (Finset.sup_congr rfl fun k _ => e k).trans (le_antisymm (Finset.sup_le fun k _ => max_le ?_ ?_) (Finset.sup_le fun k _ => ?_))
  · exact Finset.le_sup (f := fun k : Fin (n + n) => x (ix2 k col)) (Finset.mem_univ _)
  · exact Finset.le_sup (f := fun k : Fin (n + n) => x (ix2 k col)) (Finset.mem_univ _)
  · refine Fin.addCases (fun i => ?_) (fun i => ?_) k
    · exact le_trans (le_max_left _ _) (Finset.le_sup (f := fun k : Fin n => max (x (ix2 (Fin.castAdd n k) col)) (x (ix2 (Fin.natAdd n k) col))) (Finset.mem_univ i))
    · exact le_trans (le_max_right _ _) (Finset.le_sup (f := fun k : Fin n => max (x (ix2 (Fin.castAdd n k) col)) (x (ix2 (Fin.natAdd n k) col))) (Finset.mem_univ i))

theorem top8 (v : FVec Ideal S8x256 .f32) (col : Fin 256) :
    shapeCast S1x256 (multiReduction .maximumf [0] S256 v 0xFF800000#32 reduces_S8x256_S256 (.inl rfl) rfl) shapeCasts_S256_S1x256 (ix2 0 col) = colTop (n := 8) v col := by
  pointwise []
  rw [ofBits_negInf]
  rfl

theorem top24 (v : FVec Ideal S24x256 .f32) (col : Fin 256) :
    shapeCast S1x256 (multiReduction .maximumf [0] S256 v 0xFF800000#32 reduces_S24x256_S256 (.inl rfl) rfl) shapeCasts_S256_S1x256 (ix2 0 col) = colTop (n := 24) v col := by
  pointwise []
  rw [ofBits_negInf]
  rfl

theorem top256_apply (s : FVec Ideal S256x256 .f32) (col : Fin 256) : top256 s (ix2 0 col) = colTop (n := 256) s col := by
  unfold top256
  exact (top8 _ col).trans <| (colTop_half 8 _ _ _ col).trans <| (colTop_half 16 _ _ _ col).trans <| (colTop_half 32 _ _ _ col).trans <|
    (colTop_half 64 _ _ _ col).trans <| colTop_half 128 s _ _ col

theorem top512_apply (s : FVec Ideal S512x256 .f32) (col : Fin 256) : top512 s (ix2 0 col) = colTop (n := 512) s col :=
  (top256_apply _ col).trans (colTop_half 256 s _ _ col)

theorem top768_apply (s : FVec Ideal S768x256 .f32) (col : Fin 256) : k0_pay168 s (ix2 0 col) = colTop (n := 768) (k0_pay166 s) col := by
  unfold k0_pay168
  exact (top24 _ col).trans <| (colTop_half 24 _ _ _ col).trans <| (colTop_half 48 _ _ _ col).trans <| (colTop_half 96 _ _ _ col).trans <|
    (colTop_half 192 _ _ _ col).trans <| colTop_half 384 (k0_pay166 s) _ _ col

theorem top1024_apply (s : FVec Ideal S1024x256 .f32) (col : Fin 256) : top1024 s (ix2 0 col) = colTop (n := 1024) s col :=
  (top512_apply _ col).trans (colTop_half 512 s _ _ col)

theorem newMax_apply (s : FVec Ideal S1024x256 .f32) (m : Vec Ideal S1x1x256 .f32) (col : Fin 256) :
    newMax s m (ix2 0 col) = max (m (ix3 0 0 col)) (colTop (n := 1024) s col) := by
  rw [← top1024_apply]
  unfold newMax
  generalize top1024 s = T
  pointwise [unM]

/-! ## One block of keys at one column -/

/-- The value rows over the rows of ones and zeros. -/
def wrow (v : Fin 64 → EReal) (r : Fin 80) : EReal :=
  if h : r.val < 64 then v ⟨r.val, h⟩ else Scalar.select (IntOp.cmpi CmpIPredicate.slt (BitVec.ofNat 32 (r.val - 64)) 1#32) (1 : EReal) 0

/-- The sums of one row with `W` more keys of scores `S` and weights `w`, the old maximum `m` and sum `a`. -/
def stepAt (W : ℕ) (S w : Fin W → EReal) (m a : EReal) : EReal :=
  Ideal.exp (m - max m (Finset.univ.sup S)) * a + ∑ k : Fin W, w k * Ideal.exp (S k - max m (Finset.univ.sup S))

theorem stepAt_eq {s : ℕ → EReal} (hs : ∀ p, s p ≠ ⊤) (w : ℕ → EReal) (n W : ℕ) :
    stepAt W (fun k => s (n + k.val)) (fun k => w (n + k.val)) (mx s n) (num s w n (mx s n)) = num s w (n + W) (mx s (n + W)) := by
  unfold stepAt
  rw [← mx_add]
  exact num_add hs w n W

theorem newA_apply (s : FVec Ideal S1024x256 .f32) (m : Vec Ideal S1x1x256 .f32) (vb : Vec Ideal S64x1024 .bf16) (a : Vec Ideal S1x80x256 .f32) (r : Fin 80) (col : Fin 256) :
    newA s m vb a (ix3 0 r col)
      = stepAt 1024 (fun k => s (ix2 k col)) (fun k => wrow (fun d => vb (ix2 d k)) r) (m (ix3 0 0 col)) (a (ix3 0 r col)) := by
  unfold newA stepAt wrow
  have h := newMax_apply s m col
  unfold colTop at h
  rw [← h]
  generalize newMax s m = M
  pointwise [k0_pay21, unM]

/-- The diagonal block's scores in a strip, the keys past the query masked. -/
def diag (W off : ℕ) (S : Fin W → EReal) (col : Fin 256) : Fin W → EReal := fun k => if k.val ≤ col.val + off then S k else ⊥

/-- The scores of a strip of queries against the block of keys, at row `k`. -/
def kq (q : FVec Ideal S80x256 .bf16) (K : FVec Ideal S80x1024 .bf16) (k : Fin 1024) (col : Fin 256) : EReal := ∑ x : Fin 80, K (ix2 x k) * q (ix2 x col)

theorem sc_apply (q : FVec Ideal S80x256 .bf16) (K : FVec Ideal S80x1024 .bf16) (r : Fin 1024) (col : Fin 256) : sc q K (ix2 r col) = kq q K r col := by
  pointwise [sc, kq]

theorem pay148_apply (q : FVec Ideal S80x256 .bf16) (kb : Vec Ideal S64x1024 .bf16) (cb : Vec Ideal S1x16x1024 .bf16) (k col : Fin 256) :
    k0_pay148 q kb cb (ix2 k col) = diag 256 0 (fun k => kq q (kaug kb cb) ⟨k.val, by have := k.isLt; omega⟩ col) col k := by
  unfold k0_pay148 diag kq
  rw [show k0_pay144 kb cb = kaug kb cb from rfl]
  generalize kaug kb cb = K
  pointwise []
  rw [mask_bot]
  exact select_key k.val col.val 0 (by omega) col.isLt (by norm_num) _ _

theorem pay157_apply (q : FVec Ideal S80x256 .bf16) (kb : Vec Ideal S64x1024 .bf16) (cb : Vec Ideal S1x16x1024 .bf16) (k : Fin 512) (col : Fin 256) :
    k0_pay157 (k0_pay145 q kb cb) k0_pay156 (ix2 k col) = diag 512 256 (fun k => kq q (kaug kb cb) ⟨k.val, by have := k.isLt; omega⟩ col) col k := by
  unfold k0_pay157 k0_pay145 k0_pay156 diag kq
  rw [show k0_pay144 kb cb = kaug kb cb from rfl]
  generalize kaug kb cb = K
  pointwise []
  rw [mask_bot]
  exact select_key k.val col.val 256 (by omega) col.isLt (by norm_num) _ _

theorem pay166_apply (q : FVec Ideal S80x256 .bf16) (kb : Vec Ideal S64x1024 .bf16) (cb : Vec Ideal S1x16x1024 .bf16) (k : Fin 768) (col : Fin 256) :
    k0_pay166 (k0_pay146 q kb cb) (ix2 k col) = diag 768 512 (fun k => kq q (kaug kb cb) ⟨k.val, by have := k.isLt; omega⟩ col) col k := by
  unfold k0_pay166 k0_pay146 diag kq
  rw [show k0_pay144 kb cb = kaug kb cb from rfl]
  generalize kaug kb cb = K
  pointwise []
  rw [mask_bot]
  exact select_key k.val col.val 512 (by omega) col.isLt (by norm_num) _ _

theorem pay173_apply (q : FVec Ideal S80x256 .bf16) (kb : Vec Ideal S64x1024 .bf16) (cb : Vec Ideal S1x16x1024 .bf16) (k : Fin 1024) (col : Fin 256) :
    k0_pay173 (k0_pay147 q kb cb) (iota .tc S1024x256 32 [0] iota_S1024x256_d0_w32) (ix2 k col) = diag 1024 768 (fun k => kq q (kaug kb cb) k col) col k := by
  unfold k0_pay173 k0_pay147 diag kq
  rw [show k0_pay144 kb cb = kaug kb cb from rfl]
  generalize kaug kb cb = K
  pointwise []
  rw [mask_bot]
  exact select_key k.val col.val 768 (by omega) col.isLt (by norm_num) _ _

theorem dg0_apply (q : FVec Ideal S80x256 .bf16) (kb : Vec Ideal S64x1024 .bf16) (cb : Vec Ideal S1x16x1024 .bf16) (m : Vec Ideal S1x1x256 .f32)
    (vb : Vec Ideal S64x256 .bf16) (a : Vec Ideal S1x80x256 .f32) (r : Fin 80) (col : Fin 256) :
    dg0 q kb cb m vb a (ix3 0 r col)
      = stepAt 256 (diag 256 0 (fun k => kq q (kaug kb cb) ⟨k.val, by have := k.isLt; omega⟩ col) col) (fun k => wrow (fun d => vb (ix2 d k)) r) (m (ix3 0 0 col)) (a (ix3 0 r col)) := by
  have hS : diag 256 0 (fun k => kq q (kaug kb cb) ⟨k.val, by have := k.isLt; omega⟩ col) col = fun k => k0_pay148 q kb cb (ix2 k col) :=
    funext fun k => (pay148_apply q kb cb k col).symm
  have hM : k0_pay150 q kb cb m (ix2 0 col) = max (m (ix3 0 0 col)) (Finset.univ.sup fun k => k0_pay148 q kb cb (ix2 k col)) := by
    rw [show k0_pay150 q kb cb m = maximumf (k0_pay149 m) (top256 (k0_pay148 q kb cb)) from rfl]
    refine Eq.trans ?_ (congrArg (max _) (top256_apply (k0_pay148 q kb cb) col))
    generalize top256 (k0_pay148 q kb cb) = T
    pointwise [k0_pay149]
  rw [hS]
  unfold dg0 stepAt wrow k0_pay151 k0_pay152
  rw [← hM]
  generalize k0_pay150 q kb cb m = M
  generalize k0_pay148 q kb cb = S
  pointwise [k0_pay154, k0_pay149]

theorem dg1_apply (q : FVec Ideal S80x256 .bf16) (kb : Vec Ideal S64x1024 .bf16) (cb : Vec Ideal S1x16x1024 .bf16) (m : Vec Ideal S1x1x256 .f32)
    (vb : Vec Ideal S64x512 .bf16) (a : Vec Ideal S1x80x256 .f32) (r : Fin 80) (col : Fin 256) :
    dg1 q kb cb m vb a (ix3 0 r col)
      = stepAt 512 (diag 512 256 (fun k => kq q (kaug kb cb) ⟨k.val, by have := k.isLt; omega⟩ col) col) (fun k => wrow (fun d => vb (ix2 d k)) r) (m (ix3 0 0 col)) (a (ix3 0 r col)) := by
  have hS : diag 512 256 (fun k => kq q (kaug kb cb) ⟨k.val, by have := k.isLt; omega⟩ col) col = fun k => k0_pay157 (k0_pay145 q kb cb) k0_pay156 (ix2 k col) :=
    funext fun k => (pay157_apply q kb cb k col).symm
  have hM : k0_pay159 (k0_pay145 q kb cb) k0_pay156 m (ix2 0 col) = max (m (ix3 0 0 col)) (Finset.univ.sup fun k => k0_pay157 (k0_pay145 q kb cb) k0_pay156 (ix2 k col)) := by
    rw [show k0_pay159 (k0_pay145 q kb cb) k0_pay156 m = maximumf (k0_pay158 m) (top512 (k0_pay157 (k0_pay145 q kb cb) k0_pay156)) from rfl]
    refine Eq.trans ?_ (congrArg (max _) (top512_apply (k0_pay157 (k0_pay145 q kb cb) k0_pay156) col))
    generalize top512 (k0_pay157 (k0_pay145 q kb cb) k0_pay156) = T
    pointwise [k0_pay158]
  rw [hS]
  unfold dg1 stepAt wrow k0_pay160 k0_pay161
  rw [← hM]
  generalize k0_pay159 (k0_pay145 q kb cb) k0_pay156 m = M
  generalize k0_pay157 (k0_pay145 q kb cb) k0_pay156 = S
  pointwise [k0_pay164, k0_pay163, k0_pay158]

theorem dg2_apply (q : FVec Ideal S80x256 .bf16) (kb : Vec Ideal S64x1024 .bf16) (cb : Vec Ideal S1x16x1024 .bf16) (m : Vec Ideal S1x1x256 .f32)
    (vb : Vec Ideal S64x768 .bf16) (a : Vec Ideal S1x80x256 .f32) (r : Fin 80) (col : Fin 256) :
    dg2 q kb cb m vb a (ix3 0 r col)
      = stepAt 768 (diag 768 512 (fun k => kq q (kaug kb cb) ⟨k.val, by have := k.isLt; omega⟩ col) col) (fun k => wrow (fun d => vb (ix2 d k)) r) (m (ix3 0 0 col)) (a (ix3 0 r col)) := by
  have hS : diag 768 512 (fun k => kq q (kaug kb cb) ⟨k.val, by have := k.isLt; omega⟩ col) col = fun k => k0_pay166 (k0_pay146 q kb cb) (ix2 k col) :=
    funext fun k => (pay166_apply q kb cb k col).symm
  have hM : k0_pay169 (k0_pay167 m) (k0_pay168 (k0_pay146 q kb cb)) (ix2 0 col) = max (m (ix3 0 0 col)) (Finset.univ.sup fun k => k0_pay166 (k0_pay146 q kb cb) (ix2 k col)) := by
    refine Eq.trans ?_ (congrArg (max _) (top768_apply (k0_pay146 q kb cb) col))
    generalize k0_pay168 (k0_pay146 q kb cb) = T
    pointwise [k0_pay169, k0_pay167]
  rw [hS]
  unfold dg2 stepAt wrow k0_pay171
  rw [← hM]
  generalize k0_pay169 (k0_pay167 m) (k0_pay168 (k0_pay146 q kb cb)) = M
  generalize k0_pay166 (k0_pay146 q kb cb) = S
  pointwise [k0_pay167]

theorem dg3_apply (q : FVec Ideal S80x256 .bf16) (kb : Vec Ideal S64x1024 .bf16) (cb : Vec Ideal S1x16x1024 .bf16) (m : Vec Ideal S1x1x256 .f32)
    (vb : Vec Ideal S64x1024 .bf16) (a : Vec Ideal S1x80x256 .f32) (r : Fin 80) (col : Fin 256) :
    dg3 q kb cb m vb a (ix3 0 r col)
      = stepAt 1024 (diag 1024 768 (fun k => kq q (kaug kb cb) k col) col) (fun k => wrow (fun d => vb (ix2 d k)) r) (m (ix3 0 0 col)) (a (ix3 0 r col)) := by
  rw [show diag 1024 768 (fun k => kq q (kaug kb cb) k col) col = fun k => k0_pay173 (k0_pay147 q kb cb) (iota .tc S1024x256 32 [0] iota_S1024x256_d0_w32) (ix2 k col) from
    funext fun k => (pay173_apply q kb cb k col).symm]
  exact newA_apply (k0_pay173 (k0_pay147 q kb cb) (iota .tc S1024x256 32 [0] iota_S1024x256_d0_w32)) m vb a r col

theorem pay155_apply (v : Vec Ideal S1x80x256 .f32) (r : Fin 64) (col : Fin 256) :
    k0_pay155 v (ix2 r col) = Ideal.div (v (ix3 0 ⟨r.val, by have := r.isLt; omega⟩ col)) (v (ix3 0 64 col)) := by
  pointwise [k0_pay155]

end Cert.KernelIdeal.Fox

end
-- ==== Proof.Fox.Tile.lean ====
/- The tile that a grid step stores, as softmax averages.

   The scores of a query against the keys by position are `score`; `masked` is −∞ past the query's own position. The running
   vectors are read block by block (`stM_col`, `stA_col`), the diagonal block closes them (`diag_col`), and the element of the
   stored tile is the average `att` over all 8192 positions (`outTile_apply`). -/
module

public import proofs.«01_k».proof.Proof.Fox.Columns

@[expose] public section

set_option maxRecDepth 16384

noncomputable section

namespace Cert.KernelIdeal.Fox

open Cert.KernelIdeal Cert.KernelIdeal.Gen Cert.Fox Cert.Fox.Softmax Idealize.ShloMosaic
open scoped BigOperators

/-- A position as a column of the keys. -/
def pos (p : ℕ) : Fin 8192 := Fin.ofNat 8192 p

/-- The score of query `x` of the tile against the key at position `p`: their product plus the three pieces there. -/
def score (X3 : Vec Ideal S64x1024 .bf16) (X4 : Vec Ideal S64x8192 .bf16) (X5 : Vec Ideal S1x16x8192 .bf16) (x : Fin 1024) (p : ℕ) : EReal :=
  (∑ d : Fin 64, X4 (ix2 d (pos p)) * X3 (ix2 d x)) + (X5 (ix3 0 0 (pos p)) + X5 (ix3 0 1 (pos p)) + X5 (ix3 0 2 (pos p)))

/-- Scores with the keys past position `i` masked. -/
def masked (s : ℕ → EReal) (i : ℕ) : ℕ → EReal := fun p => if p ≤ i then s p else ⊥

theorem masked_ne_top {s : ℕ → EReal} (hs : ∀ p, s p ≠ ⊤) (i : ℕ) (p : ℕ) : masked s i p ≠ ⊤ := by
  unfold masked
  split
  · exact hs p
  · exact bot_ne_top

/-! ## The blocks at an index -/

theorem blk_apply (X : Vec Ideal S64x8192 .bf16) (j : ℕ) (d : Fin 64) (k : Fin 1024) : blk X j (ix2 d k) = X (ix2 d (pos (1024 * j + k.val))) :=
  congrArg X (funext fun a => match a with | ⟨0, _⟩ => rfl | ⟨1, _⟩ => rfl)

theorem cblk_apply (X : Vec Ideal S1x16x8192 .bf16) (j : ℕ) (i : Fin 16) (k : Fin 1024) : cblk X j (ix3 0 i k) = X (ix3 0 i (pos (1024 * j + k.val))) :=
  congrArg X (funext fun a => match a with | ⟨0, _⟩ => rfl | ⟨1, _⟩ => rfl | ⟨2, _⟩ => rfl)

theorem vwin_apply (n : ℕ) (X : Vec Ideal S64x8192 .bf16) (j : ℕ) (d : Fin 64) (k : Fin n) : vwin n X j (ix2 d k) = X (ix2 d (pos (1024 * j + k.val))) :=
  congrArg X (funext fun a => match a with | ⟨0, _⟩ => rfl | ⟨1, _⟩ => rfl)

theorem KA_lo (X4 : Vec Ideal S64x8192 .bf16) (X5 : Vec Ideal S1x16x8192 .bf16) (j : ℕ) (d : Fin 64) (k : Fin 1024) :
    KA X4 X5 j (ix2 (⟨d.val, by have := d.isLt; omega⟩ : Fin 80) k) = X4 (ix2 d (pos (1024 * j + k.val))) := by
  rw [← blk_apply X4 j d k]
  unfold KA kaug
  generalize blk X4 j = A
  generalize cblk X5 j = B
  pointwise [k0_pay14]

theorem KA_hi (X4 : Vec Ideal S64x8192 .bf16) (X5 : Vec Ideal S1x16x8192 .bf16) (j : ℕ) (i : Fin 16) (k : Fin 1024) :
    KA X4 X5 j (ix2 (⟨64 + i.val, by have := i.isLt; omega⟩ : Fin 80) k) = X5 (ix3 0 i (pos (1024 * j + k.val))) := by
  rw [← cblk_apply X5 j i k]
  unfold KA kaug
  generalize blk X4 j = A
  generalize cblk X5 j = B
  pointwise [k0_pay14]

theorem qa_lo (X : Vec Ideal S64x1024 .bf16) (c : ℕ) (d : Fin 64) (col : Fin 256) :
    qa X c (ix2 (⟨d.val, by have := d.isLt; omega⟩ : Fin 80) col) = X (ix2 d (Fin.ofNat 1024 (256 * c + col.val))) := by
  have e : strips2 X c (ix2 d col) = X (ix2 d (Fin.ofNat 1024 (256 * c + col.val))) :=
    congrArg X (funext fun a => match a with | ⟨0, _⟩ => rfl | ⟨1, _⟩ => rfl)
  rw [← e]
  unfold qa
  generalize strips2 X c = A
  pointwise [k0_pay333]

theorem qa_hi (X : Vec Ideal S64x1024 .bf16) (c : ℕ) (i : Fin 16) (col : Fin 256) :
    qa X c (ix2 (⟨64 + i.val, by have := i.isLt; omega⟩ : Fin 80) col) = if i.val < 3 then 1 else 0 := by
  unfold qa
  generalize strips2 X c = A
  pointwise [k0_pay333]
  exact select_three _ _ i

theorem sum_three (f : Fin 16 → EReal) : ∑ i : Fin 16, f i * (if i.val < 3 then 1 else 0) = f 0 + f 1 + f 2 := by
  rw [show f 0 + f 1 + f 2 = ∑ i : Fin 3, f ⟨i.val, by omega⟩ from (Fin.sum_univ_three (fun i : Fin 3 => f ⟨i.val, by omega⟩)).symm]
  rw [show (∑ i : Fin 16, f i * (if i.val < 3 then (1 : EReal) else 0)) = ∑ i : Fin (3 + 13), f i * (if i.val < 3 then (1 : EReal) else 0) from rfl, Fin.sum_univ_add]
  refine (congrArg₂ (· + ·) (Finset.sum_congr rfl fun i _ => ?_) (Finset.sum_eq_zero fun i _ => ?_)).trans (add_zero _)
  · exact (congrArg (f (Fin.castAdd 13 i) * ·) (if_pos (show i.val < 3 from i.isLt))).trans (mul_one _)
  · exact (congrArg (f (Fin.natAdd 3 i) * ·) (if_neg (show ¬ 3 + i.val < 3 by omega))).trans (mul_zero _)

theorem kq_score (X3 : Vec Ideal S64x1024 .bf16) (X4 : Vec Ideal S64x8192 .bf16) (X5 : Vec Ideal S1x16x8192 .bf16) (c j : ℕ) (k : Fin 1024) (col : Fin 256) :
    kq (qa X3 c) (KA X4 X5 j) k col = score X3 X4 X5 (Fin.ofNat 1024 (256 * c + col.val)) (1024 * j + k.val) := by
  unfold kq score
  rw [← sum_three fun i => X5 (ix3 0 i (pos (1024 * j + k.val)))]
  refine (Fin.sum_univ_add (a := 64) (b := 16) (fun x : Fin 80 => KA X4 X5 j (ix2 x k) * qa X3 c (ix2 x col))).trans ?_
  refine congrArg₂ (· + ·) (Finset.sum_congr rfl fun d _ => ?_) (Finset.sum_congr rfl fun i _ => ?_)
  · exact congrArg₂ (· * ·) (KA_lo X4 X5 j d k) (qa_lo X3 c d col)
  · exact congrArg₂ (· * ·) (KA_hi X4 X5 j i k) (qa_hi X3 c i col)

/-! ## The running maximum and sums at a column -/

section Running

variable {q : FVec Ideal S80x256 .bf16} {K : ℕ → FVec Ideal S80x1024 .bf16} {V : ℕ → Vec Ideal S64x1024 .bf16} {col : Fin 256} {s : ℕ → EReal}

theorem toM_apply (m : FVec Ideal S1x256 .f32) (col : Fin 256) : toM m (ix3 0 0 col) = m (ix2 0 col) := by pointwise [toM]

theorem stM_col (hk : ∀ j (k : Fin 1024), kq q (K j) k col = s (1024 * j + k.val)) : ∀ j, stM q K j (ix3 0 0 col) = mx s (1024 * j)
  | 0 => (toM_apply _ col).trans ofBits_negInf
  | j + 1 => by
    refine (toM_apply _ col).trans ((newMax_apply _ _ col).trans ?_)
    rw [stM_col hk j, show 1024 * (j + 1) = 1024 * j + 1024 from rfl, mx_add]
    exact congrArg (max _) (Finset.sup_congr rfl fun k _ => (sc_apply _ _ k col).trans (hk j k))

theorem stA_col (hs : ∀ p, s p ≠ ⊤) (hk : ∀ j (k : Fin 1024), kq q (K j) k col = s (1024 * j + k.val)) (r : Fin 80) (w : ℕ → EReal)
    (hw : ∀ j (k : Fin 1024), wrow (fun d => V j (ix2 d k)) r = w (1024 * j + k.val)) :
    ∀ j, stA q K V j (ix3 0 r col) = num s w (1024 * j) (mx s (1024 * j))
  | 0 => by
    show k0_pay349 (F := Ideal) (broadcast S80x256 (Scalar.ofBits .f32 0x00000000#32)) (ix3 0 r col) = num s w 0 _
    refine Eq.trans ?_ (Finset.sum_range_zero _).symm
    pointwise [k0_pay349]
  | j + 1 => by
    refine (newA_apply _ _ _ _ r col).trans ?_
    rw [stM_col hk j, stA_col hs hk r w hw j, show 1024 * (j + 1) = 1024 * j + 1024 from rfl, ← stepAt_eq hs w (1024 * j) 1024]
    exact congrArg₂ (fun S w => stepAt 1024 S w _ _) (funext fun k => (sc_apply _ _ k col).trans (hk j k)) (funext fun k => hw j k)

end Running

/-! ## The diagonal block -/

theorem mx_masked (s : ℕ → EReal) (n i : ℕ) (h : n ≤ i + 1) : mx (masked s i) n = mx s n :=
  Finset.sup_congr rfl fun p hp => if_pos (by have := Finset.mem_range.1 hp; omega)

theorem num_masked (s w : ℕ → EReal) (n i : ℕ) (M : EReal) (h : n ≤ i + 1) : num (masked s i) w n M = num s w n M :=
  Finset.sum_congr rfl fun p hp => by
    rw [show masked s i p = s p from if_pos (by have := Finset.mem_range.1 hp; omega)]

theorem diag_col {s : ℕ → EReal} (hs : ∀ p, s p ≠ ⊤) (w : ℕ → EReal) (W off n : ℕ) (hW : W = off + 256) (hoff : off ≤ 768) (hn : n < 8) (col : Fin 256) :
    stepAt W (diag W off (fun k => s (1024 * n + k.val)) col) (fun k => w (1024 * n + k.val)) (mx s (1024 * n)) (num s w (1024 * n) (mx s (1024 * n)))
      = num (masked s (1024 * n + (off + col.val))) w 8192 (mx (masked s (1024 * n + (off + col.val))) 8192) := by
  have hc := col.isLt
  have hmask : ∀ p, 1024 * n + W ≤ p → masked s (1024 * n + (off + col.val)) p = ⊥ := fun p hp => if_neg (by omega)
  have hd : diag W off (fun k => s (1024 * n + k.val)) col = fun k => masked s (1024 * n + (off + col.val)) (1024 * n + k.val) := by
    funext k
    unfold diag masked
    exact if_congr (by omega) rfl rfl
  rw [hd, ← mx_masked s (1024 * n) (1024 * n + (off + col.val)) (by omega), ← num_masked s w (1024 * n) (1024 * n + (off + col.val)) _ (by omega),
    stepAt_eq (masked_ne_top hs _) w (1024 * n) W, show 8192 = (1024 * n + W) + (8192 - (1024 * n + W)) by omega, mx_mask hmask, num_mask w _ hmask]

/-! ## The stored tile -/

section Store

variable (X3 : Vec Ideal S64x1024 .bf16) (X4 : Vec Ideal S64x8192 .bf16) (X5 : Vec Ideal S1x16x8192 .bf16) (X6 : Vec Ideal S64x8192 .bf16)

theorem wrow_value (v : Fin 64 → EReal) (d : Fin 64) : wrow v ⟨d.val, by have := d.isLt; omega⟩ = v d := dif_pos d.isLt
theorem wrow_one (v : Fin 64 → EReal) : wrow v 64 = 1 := by
  unfold wrow
  rw [dif_neg (show ¬ (64 : Fin 80).val < 64 by decide)]
  rfl

/-- A strip's stored column, from its sums after the diagonal block. -/
theorem strip_col (hs : ∀ x p, score X3 X4 X5 x p ≠ ⊤) (c W n : ℕ) (hW : W = 256 * c + 256) (hc : c < 4) (hn : n < 8) (d : Fin 64) (col : Fin 256)
    (D : Vec Ideal S1x80x256 .f32) (ik : Fin W → Fin 1024) (hik : ∀ k, (ik k).val = k.val)
    (hD : ∀ r : Fin 80, D (ix3 0 r col) = stepAt W (diag W (256 * c) (fun k => kq (qa X3 c) (KA X4 X5 n) (ik k) col) col)
      (fun k => wrow (fun d => vwin W X6 n (ix2 d k)) r) (stM (qa X3 c) (KA X4 X5) n (ix3 0 0 col)) (stA (qa X3 c) (KA X4 X5) (blk X6) n (ix3 0 r col))) :
    k0_pay155 D (ix2 d col) = att (masked (score X3 X4 X5 (Fin.ofNat 1024 (256 * c + col.val))) (1024 * n + (256 * c + col.val)))
      (fun p => X6 (ix2 d (pos p))) 8192 := by
  set s := score X3 X4 X5 (Fin.ofNat 1024 (256 * c + col.val)) with hsd
  have hk : ∀ j (k : Fin 1024), kq (qa X3 c) (KA X4 X5 j) k col = s (1024 * j + k.val) := fun j k => kq_score X3 X4 X5 c j k col
  have key (r : Fin 80) (w : ℕ → EReal) (hw : ∀ j (k : Fin 1024), wrow (fun d => blk X6 j (ix2 d k)) r = w (1024 * j + k.val))
      (hw' : ∀ k : Fin W, wrow (fun d => vwin W X6 n (ix2 d k)) r = w (1024 * n + k.val)) :
      D (ix3 0 r col) = num (masked s (1024 * n + (256 * c + col.val))) w 8192 (mx (masked s (1024 * n + (256 * c + col.val))) 8192) := by
    rw [hD r, stM_col hk n, stA_col (hs _) hk r w hw n, ← diag_col (hs _) w W (256 * c) n hW (by omega) hn col]
    refine congrArg₂ (fun S w => stepAt W (diag W (256 * c) S col) w _ _) (funext fun k => ?_) (funext hw')
    rw [hk, hik]
  rw [pay155_apply, key _ (fun p => X6 (ix2 d (pos p))) (fun j k => (wrow_value _ d).trans (blk_apply X6 j d k)) (fun k => (wrow_value _ d).trans (vwin_apply W X6 n d k)),
    key 64 (fun _ => 1) (fun j k => wrow_one _) (fun k => wrow_one _)]
  rfl

theorem outs_apply (hs : ∀ x p, score X3 X4 X5 x p ≠ ⊤) (n : ℕ) (hn : n < 8) (d : Fin 64) (col : Fin 256) : ∀ c < 4,
    outs (qs (qa X3 0) (qa X3 1) (qa X3 2) (qa X3 3)) X4 X5 X6 n c (ix2 d col)
      = att (masked (score X3 X4 X5 (Fin.ofNat 1024 (256 * c + col.val))) (1024 * n + (256 * c + col.val))) (fun p => X6 (ix2 d (pos p))) 8192
  | 0, hc => strip_col X3 X4 X5 X6 hs 0 256 n rfl hc hn d col _ _ (fun _ => rfl) (fun r => dg0_apply _ _ _ _ _ _ r col)
  | 1, hc => strip_col X3 X4 X5 X6 hs 1 512 n rfl hc hn d col _ _ (fun _ => rfl) (fun r => dg1_apply _ _ _ _ _ _ r col)
  | 2, hc => strip_col X3 X4 X5 X6 hs 2 768 n rfl hc hn d col _ _ (fun _ => rfl) (fun r => dg2_apply _ _ _ _ _ _ r col)
  | 3, hc => strip_col X3 X4 X5 X6 hs 3 1024 n rfl hc hn d col _ id (fun _ => rfl) (fun r => dg3_apply _ _ _ _ _ _ r col)
  | c + 4, hc => absurd hc (by omega)

theorem outTile_apply (hs : ∀ x p, score X3 X4 X5 x p ≠ ⊤) (n : ℕ) (hn : n < 8) (d : Fin 64) (x : Fin 1024) :
    outTile X3 X4 X5 X6 n (ix2 d x) = att (masked (score X3 X4 X5 x) (1024 * n + x.val)) (fun p => X6 (ix2 d (pos p))) 8192 := by
  have hx := x.isLt
  have e : 256 * (x.val / 256) + x.val % 256 = x.val := by omega
  have ei : (fun a => match a with | 0 => d | 1 => (⟨x.val % 256, Nat.mod_lt _ (by decide)⟩ : Fin 256) : S64x256.Idx)
      = ix2 d (⟨x.val % 256, Nat.mod_lt _ (by decide)⟩ : Fin 256) := funext fun a => match a with | ⟨0, _⟩ => rfl | ⟨1, _⟩ => rfl
  refine (congrArg (outs (qs (qa X3 0) (qa X3 1) (qa X3 2) (qa X3 3)) X4 X5 X6 n (x.val / 256)) ei).trans ?_
  refine (outs_apply X3 X4 X5 X6 hs n hn d _ (x.val / 256) (by omega)).trans ?_
  have ex : Fin.ofNat 1024 (256 * (x.val / 256) + x.val % 256) = x := Fin.ext (by show (_ % 1024) = _; omega)
  show att (masked (score X3 X4 X5 (Fin.ofNat 1024 (256 * (x.val / 256) + x.val % 256))) (1024 * n + (256 * (x.val / 256) + x.val % 256))) _ 8192 = _
  rw [ex, e]

end Store

end Cert.KernelIdeal.Fox

end
-- ==== Proof.Fox.Trip.lean ====
/-
  One trip of the two-blocks loop: what it leaves in the scratch strips, by the strip functions.
-/
module

public import proofs.«01_k».proof.Proof.Fox.Spec
public import proofs.«01_k».proof.Proof.Fox.Strips
public import Idealize.ShloMosaic.Lib.Exec
public import Idealize.ShloMosaic.Lib.Tactic
public import Idealize.ShloMosaic.Lib.VecWindow
public import Idealize.ShloMosaic.Lib.Pipeline.Kit

@[expose] public section

set_option maxRecDepth 8192
set_option maxHeartbeats 4000000

noncomputable section

namespace Cert.KernelIdeal.Fox

open Cert.KernelIdeal Cert.KernelIdeal.Gen Cert.Fox
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄G" => MT nD τ sig Unit (Elt F) ℕ (UR sig nD τ) ℕ

variable (𝒱 : Variants) (c : Dev nD) (bd : Option 𝒱.V) (i : grid0.Coords) (arg3 : Memref sig .tc .vmem S64x1024 .bf16) (harg3 : arg3.IsWhole) (arg4 : Memref sig .tc .vmem S64x8192 .bf16) (harg4 : arg4.IsWhole) (arg5 : Memref sig .tc .vmem S1x16x8192 .bf16) (harg5 : arg5.IsWhole) (arg6 : Memref sig .tc .vmem S64x8192 .bf16) (harg6 : arg6.IsWhole) (arg7 : Memref sig .tc .vmem S64x1024 .bf16) (harg7 : arg7.IsWhole) (arg8 : Memref sig .tc .vmem S4x1x256 .f32) (harg8 : arg8.IsWhole) (arg9 : Memref sig .tc .vmem S4x80x256 .f32) (harg9 : arg9.IsWhole) (arg10 : Memref sig .tc .vmem S3x1024x256 .f32) (harg10 : arg10.IsWhole) (arg11 : Memref sig .tc .vmem S3x1024x256 .f32) (harg11 : arg11.IsWhole) (arg2 : BitVec 32) (v8 : FVec F S80x256 .bf16) (v17 : FVec F S80x256 .bf16) (v26 : FVec F S80x256 .bf16) (v35 : FVec F S80x256 .bf16) (v60 : FVec F S1x256 .f32)

/-- Everything a trip touches. -/
abbrev Res (X4 : Vec F S64x8192 .bf16) (X5 : Vec F S1x16x8192 .bf16) (X6 : Vec F S64x8192 .bf16)
    (m : ℕ → Vec F S1x1x256 .f32) (a : ℕ → Vec F S1x80x256 .f32) (s : ℕ → Vec F S1x1024x256 .f32) : sProp 𝕄G :=
  iprop((arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6) ∗ (arg8.view.loc (c : Thread nD τ) ↦[arg8.view.set]{fullShare} arg8.view.rep (asm m)) ∗ (arg9.view.loc (c : Thread nD τ) ↦[arg9.view.set]{fullShare} arg9.view.rep (asm a)) ∗ (arg10.view.loc (c : Thread nD τ) ↦[arg10.view.set]{fullShare} arg10.view.rep (asm s)) ∗ (∃ f, (arg11.view.loc (c : Thread nD τ) ↦[arg11.view.set]{fullShare} f)))

/-- The running maxima after a trip: strip 0 takes the two new blocks, the others the held scores and the first new block. -/
def tripM (q : ℕ → FVec F S80x256 .bf16) (K1 K2 : FVec F S80x1024 .bf16) (m : ℕ → Vec F S1x1x256 .f32) (s : ℕ → Vec F S1x1024x256 .f32) : ℕ → Vec F S1x1x256 .f32
  | 0 => newM (sc (q 0) K2) (newM (sc (q 0) K1) (m 0))
  | c + 1 => newM (sc (q (c + 1)) K1) (newM (unS (s c)) (m (c + 1)))

/-- The accumulators after a trip. -/
def tripA (q : ℕ → FVec F S80x256 .bf16) (K1 K2 : FVec F S80x1024 .bf16) (V0 V1 V2 : Vec F S64x1024 .bf16)
    (m : ℕ → Vec F S1x1x256 .f32) (s : ℕ → Vec F S1x1024x256 .f32) (a : ℕ → Vec F S1x80x256 .f32) : ℕ → Vec F S1x80x256 .f32
  | 0 => newA (sc (q 0) K2) (newM (sc (q 0) K1) (m 0)) V2 (newA (sc (q 0) K1) (m 0) V1 (a 0))
  | c + 1 => newA (sc (q (c + 1)) K1) (newM (unS (s c)) (m (c + 1))) V1 (newA (unS (s c)) (m (c + 1)) V0 (a (c + 1)))

/-- The scores held after a trip. -/
def tripS (q : ℕ → FVec F S80x256 .bf16) (K2 : FVec F S80x1024 .bf16) (c : ℕ) : Vec F S1x1024x256 .f32 := sc3 (sc (q (c + 1)) K2)

theorem newA_congr {s s' : FVec F S1024x256 .f32} {m m' : Vec F S1x1x256 .f32} {vb vb' : Vec F S64x1024 .bf16} {a a' : Vec F S1x80x256 .f32}
    (hs : s = s') (hm : m = m') (hv : vb = vb') (ha : a = a') : newA s m vb a = newA s' m' vb' a' := by
  subst hs hm hv ha; rfl

theorem readAt_asm {b d : ℕ} {n : ℕ} {κ' : Kind} {sp : Space} {e : EltTy} (v : View sig κ' sp ⟨3, ![n, b, d]⟩ e) (x : ℕ → Shape.Idx ⟨3, ![1, b, d]⟩ → Elt F e) (j : ℕ)
    (inb : ∀ a, (![j, 0, 0] : Fin 3 → ℕ) a + (![1, b, d] : Fin 3 → ℕ) a ≤ (⟨3, ![n, b, d]⟩ : Shape).size a) :
    v.readAt (Elt F) (Rect.unit (s := ⟨3, ![n, b, d]⟩) ![j, 0, 0] ![1, b, d] inb).toLoadRect (v.rep (asm x)) = x j :=
  (View.readAt_rep_unit v _ inb rfl inb).trans (window_asm x j inb)

/-- A store into one strip, of contents read as strips. -/
theorem read_put_asm {b d n : ℕ} {κ' : Kind} {sp : Space} {e : EltTy} (v : View sig κ' sp ⟨3, ![n, b, d]⟩ e) (j : ℕ)
    (inb : ∀ a, (![j, 0, 0] : Fin 3 → ℕ) a + (![1, b, d] : Fin 3 → ℕ) a ≤ (⟨3, ![n, b, d]⟩ : Shape).size a)
    (w : Shape.Idx ⟨3, ![1, b, d]⟩ → Elt F e) {f : v.ty.Contents (Elt F)} {L : List (View.Piece (Elt F) ⟨3, ![n, b, d]⟩ e)} {x : ℕ → Shape.Idx ⟨3, ![1, b, d]⟩ → Elt F e}
    (h : v.read (Elt F) (v.writes (Elt F) f L) = asm x) :
    v.read (Elt F) (v.writes (Elt F) f (⟨Rect.unit (s := ⟨3, ![n, b, d]⟩) ![j, 0, 0] ![1, b, d] inb, w⟩ :: L)) = asm (Function.update x j w) := by
  rw [View.read_writes_cons_put v f inb w L rfl, h, put_asm]

/-- Two rounds of stores into four strips leave the second round's. -/
theorem read_eight {b : ℕ} {κ' : Kind} {sp : Space} {e : EltTy} (v : View sig κ' sp ⟨3, ![4, b, 256]⟩ e) (x x' : ℕ → Shape.Idx ⟨3, ![1, b, 256]⟩ → Elt F e)
    (i0 : ∀ a, (![0, 0, 0] : Fin 3 → ℕ) a + (![1, b, 256] : Fin 3 → ℕ) a ≤ (⟨3, ![4, b, 256]⟩ : Shape).size a)
    (i1 : ∀ a, (![1, 0, 0] : Fin 3 → ℕ) a + (![1, b, 256] : Fin 3 → ℕ) a ≤ (⟨3, ![4, b, 256]⟩ : Shape).size a)
    (i2 : ∀ a, (![2, 0, 0] : Fin 3 → ℕ) a + (![1, b, 256] : Fin 3 → ℕ) a ≤ (⟨3, ![4, b, 256]⟩ : Shape).size a)
    (i3 : ∀ a, (![3, 0, 0] : Fin 3 → ℕ) a + (![1, b, 256] : Fin 3 → ℕ) a ≤ (⟨3, ![4, b, 256]⟩ : Shape).size a)
    (u1 u2 u3 u0 : Shape.Idx ⟨3, ![1, b, 256]⟩ → Elt F e) {w1 w2 w3 w0 : Shape.Idx ⟨3, ![1, b, 256]⟩ → Elt F e}
    (h1 : w1 = x' 1) (h2 : w2 = x' 2) (h3 : w3 = x' 3) (h0 : w0 = x' 0) :
    v.read (Elt F) (v.writes (Elt F) (v.rep (asm x)) [⟨Rect.unit ![0, 0, 0] ![1, b, 256] i0, w0⟩, ⟨Rect.unit ![3, 0, 0] ![1, b, 256] i3, w3⟩,
      ⟨Rect.unit ![2, 0, 0] ![1, b, 256] i2, w2⟩, ⟨Rect.unit ![1, 0, 0] ![1, b, 256] i1, w1⟩, ⟨Rect.unit ![0, 0, 0] ![1, b, 256] i0, u0⟩,
      ⟨Rect.unit ![3, 0, 0] ![1, b, 256] i3, u3⟩, ⟨Rect.unit ![2, 0, 0] ![1, b, 256] i2, u2⟩, ⟨Rect.unit ![1, 0, 0] ![1, b, 256] i1, u1⟩]) = asm x' := by
  refine (read_put_asm v 0 i0 w0 (read_put_asm v 3 i3 w3 (read_put_asm v 2 i2 w2 (read_put_asm v 1 i1 w1 (read_put_asm v 0 i0 u0 (read_put_asm v 3 i3 u3
    (read_put_asm v 2 i2 u2 (read_put_asm v 1 i1 u1 (View.read_rep v (asm x)))))))))).trans (asm_ext fun c hc => ?_)
  interval_cases c
  · exact h0
  · exact h1
  · exact h2
  · exact h3

/-- Stores into three strips. -/
theorem read_three {b : ℕ} {κ' : Kind} {sp : Space} {e : EltTy} (v : View sig κ' sp ⟨3, ![3, b, 256]⟩ e) (f : v.ty.Contents (Elt F)) (x' : ℕ → Shape.Idx ⟨3, ![1, b, 256]⟩ → Elt F e)
    (i0 : ∀ a, (![0, 0, 0] : Fin 3 → ℕ) a + (![1, b, 256] : Fin 3 → ℕ) a ≤ (⟨3, ![3, b, 256]⟩ : Shape).size a)
    (i1 : ∀ a, (![1, 0, 0] : Fin 3 → ℕ) a + (![1, b, 256] : Fin 3 → ℕ) a ≤ (⟨3, ![3, b, 256]⟩ : Shape).size a)
    (i2 : ∀ a, (![2, 0, 0] : Fin 3 → ℕ) a + (![1, b, 256] : Fin 3 → ℕ) a ≤ (⟨3, ![3, b, 256]⟩ : Shape).size a)
    {w0 w1 w2 : Shape.Idx ⟨3, ![1, b, 256]⟩ → Elt F e} (h0 : w0 = x' 0) (h1 : w1 = x' 1) (h2 : w2 = x' 2) :
    v.read (Elt F) (v.writes (Elt F) f [⟨Rect.unit ![2, 0, 0] ![1, b, 256] i2, w2⟩, ⟨Rect.unit ![1, 0, 0] ![1, b, 256] i1, w1⟩, ⟨Rect.unit ![0, 0, 0] ![1, b, 256] i0, w0⟩]) = asm x' := by
  refine (read_put_asm v 2 i2 w2 (read_put_asm v 1 i1 w1 (read_put_asm v 0 i0 w0 (L := []) (x := strips (v.read (Elt F) f)) (asm_strips (v.read (Elt F) f)).symm))).trans (asm_ext fun c hc => ?_)
  interval_cases c
  · exact h0
  · exact h1
  · exact h2

theorem off1_one : ∀ (i : grid0.Coords) (k : Fin (k0_t1_loop i).trips), k0_off1 i k 1#32 = ![0, 1024 * (2 * k.val + 1)] := by decide +kernel
theorem off1_two : ∀ (i : grid0.Coords) (k : Fin (k0_t1_loop i).trips), k0_off1 i k 2#32 = ![0, 1024 * (2 * k.val + 2)] := by decide +kernel
theorem off2_one : ∀ (i : grid0.Coords) (k : Fin (k0_t1_loop i).trips), k0_off2 i k 1#32 = ![0, 0, 1024 * (2 * k.val + 1)] := by decide +kernel
theorem off2_two : ∀ (i : grid0.Coords) (k : Fin (k0_t1_loop i).trips), k0_off2 i k 2#32 = ![0, 0, 1024 * (2 * k.val + 2)] := by decide +kernel
theorem off3_one : ∀ (i : grid0.Coords) (k : Fin (k0_t1_loop i).trips), k0_off3 i k 1#32 = ![0, 1024 * (2 * k.val)] := by decide +kernel
theorem off3_two : ∀ (i : grid0.Coords) (k : Fin (k0_t1_loop i).trips), k0_off3 i k 2#32 = ![0, 1024 * (2 * k.val + 1)] := by decide +kernel

/-- A block read at its offset. -/
theorem readAt_blk {κ' : Kind} {sp : Space} (v : View sig κ' sp S64x8192 .bf16) (X : Vec F S64x8192 .bf16) (j : ℕ) (off : Fin 2 → ℕ) (h : off = ![0, 1024 * j])
    (inb : ∀ a, off a + S64x1024.size a ≤ S64x8192.size a) :
    v.readAt (Elt F) (Rect.unit (s := S64x8192) off S64x1024.size inb).toLoadRect (v.rep X) = blk X j := by
  subst h; exact (View.readAt_rep_unit v _ inb rfl inb).trans (window_blk X j inb)

theorem readAt_cblk {κ' : Kind} {sp : Space} (v : View sig κ' sp S1x16x8192 .bf16) (X : Vec F S1x16x8192 .bf16) (j : ℕ) (off : Fin 3 → ℕ) (h : off = ![0, 0, 1024 * j])
    (inb : ∀ a, off a + S1x16x1024.size a ≤ S1x16x8192.size a) :
    v.readAt (Elt F) (Rect.unit (s := S1x16x8192) off S1x16x1024.size inb).toLoadRect (v.rep X) = cblk X j := by
  subst h; exact (View.readAt_rep_unit v _ inb rfl inb).trans (window_cblk X j inb)

/-- One trip. -/
theorem trip (k : Fin (k0_t1_loop i).trips) (E : Set ℕ) (X4 : Vec F S64x8192 .bf16) (X5 : Vec F S1x16x8192 .bf16) (X6 : Vec F S64x8192 .bf16)
    (m : ℕ → Vec F S1x1x256 .f32) (a : ℕ → Vec F S1x80x256 .f32) (s : ℕ → Vec F S1x1024x256 .f32) :
    Res c arg4 arg5 arg6 arg8 arg9 arg10 arg11 X4 X5 X6 m a s
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg2 v8 v17 v26 v35 v60 k PUnit.unit)
          (fun _ => Res c arg4 arg5 arg6 arg8 arg9 arg10 arg11 X4 X5 X6
            (tripM (qs v8 v17 v26 v35) (KA X4 X5 (2 * k.val + 1)) (KA X4 X5 (2 * k.val + 2)) m s)
            (tripA (qs v8 v17 v26 v35) (KA X4 X5 (2 * k.val + 1)) (KA X4 X5 (2 * k.val + 2)) (blk X6 (2 * k.val)) (blk X6 (2 * k.val + 1)) (blk X6 (2 * k.val + 2)) m s a)
            (tripS (qs v8 v17 v26 v35) (KA X4 X5 (2 * k.val + 2)))) := by
  unfold k0_t1_body
  iintro ⟨H4, H5, H6, H8, H9, H10, ⟨%f11, H11⟩⟩
  sl_exec
  sl_step
  have k1 : (trip.sl.v128 i arg4 arg5 k X4 X5) = KA X4 X5 (2 * k.val + 1) := congrArg₂ kaug (readAt_blk _ _ _ _ (off1_one i k) _) (readAt_cblk _ _ _ _ (off2_one i k) _)
  have k2 : (trip.sl.v376 i arg4 arg5 k X4 X5) = KA X4 X5 (2 * k.val + 2) := congrArg₂ kaug (readAt_blk _ _ _ _ (off1_two i k) _) (readAt_cblk _ _ _ _ (off2_two i k) _)
  have s129 : (trip.sl.v129 i arg4 arg5 v8 k X4 X5) = sc v8 (KA X4 X5 (2 * k.val + 1)) := congrArg (sc v8) k1
  have s301 : (trip.sl.v301 i arg4 arg5 v17 k X4 X5) = sc v17 (KA X4 X5 (2 * k.val + 1)) := congrArg (sc v17) k1
  have s305 : (trip.sl.v305 i arg4 arg5 v26 k X4 X5) = sc v26 (KA X4 X5 (2 * k.val + 1)) := congrArg (sc v26) k1
  have s309 : (trip.sl.v309 i arg4 arg5 v35 k X4 X5) = sc v35 (KA X4 X5 (2 * k.val + 1)) := congrArg (sc v35) k1
  have s377 : (trip.sl.v377 i arg4 arg5 v8 k X4 X5) = sc v8 (KA X4 X5 (2 * k.val + 2)) := congrArg (sc v8) k2
  have s549 : (trip.sl.v549 i arg4 arg5 v17 k X4 X5) = sc v17 (KA X4 X5 (2 * k.val + 2)) := congrArg (sc v17) k2
  have s553 : (trip.sl.v553 i arg4 arg5 v26 k X4 X5) = sc v26 (KA X4 X5 (2 * k.val + 2)) := congrArg (sc v26) k2
  have s557 : (trip.sl.v557 i arg4 arg5 v35 k X4 X5) = sc v35 (KA X4 X5 (2 * k.val + 2)) := congrArg (sc v35) k2
  have h134 : (trip.sl.v134 arg10 s) = unS (s 0) := congrArg unS (readAt_asm _ s 0 _)
  have h190 : (trip.sl.v190 arg10 s) = unS (s 1) := congrArg unS (readAt_asm _ s 1 _)
  have h246 : (trip.sl.v246 arg10 s) = unS (s 2) := congrArg unS (readAt_asm _ s 2 _)
  have c381 : (trip.sl.v381 i arg4 arg5 arg11 v17 v26 v35 k X4 X5) = (trip.sl.v304 i arg4 arg5 v17 k X4 X5) := (readCov_other _ _ _ _ _ 0 (by decide)).trans ((readCov_other _ _ _ _ _ 0 (by decide)).trans (readCov_same _ _ _ _ _))
  have c437 : (trip.sl.v437 i arg4 arg5 arg11 v17 v26 v35 k X4 X5) = (trip.sl.v308 i arg4 arg5 v26 k X4 X5) := (readCov_other _ _ _ _ _ 0 (by decide)).trans (readCov_same _ _ _ _ _)
  have c493 : (trip.sl.v493 i arg4 arg5 arg11 v17 v26 v35 k X4 X5) = (trip.sl.v312 i arg4 arg5 v35 k X4 X5) := readCov_same _ _ _ _ _
  have m169 : (trip.sl.v169 arg8 arg10 m s) = newM (unS (s 0)) (m 1) := congrArg₂ newM h134 (readAt_asm _ m 1 _)
  have m225 : (trip.sl.v225 arg8 arg10 m s) = newM (unS (s 1)) (m 2) := congrArg₂ newM h190 (readAt_asm _ m 2 _)
  have m281 : (trip.sl.v281 arg8 arg10 m s) = newM (unS (s 2)) (m 3) := congrArg₂ newM h246 (readAt_asm _ m 3 _)
  have m347 : (trip.sl.v347 i arg4 arg5 arg8 v8 k X4 X5 m) = newM (sc v8 (KA X4 X5 (2 * k.val + 1))) (m 0) := congrArg₂ newM s129 (readAt_asm _ m 0 _)
  have r383 : (trip.sl.v383 i arg4 arg5 arg8 arg10 v8 k X4 X5 m s) = (trip.sl.v169 arg8 arg10 m s) := (readCov_other _ _ _ _ _ 0 (by decide)).trans ((readCov_other _ _ _ _ _ 0 (by decide)).trans ((readCov_other _ _ _ _ _ 0 (by decide)).trans (readCov_same _ _ _ _ _)))
  have r439 : (trip.sl.v439 i arg4 arg5 arg8 arg10 arg11 v8 v17 v26 v35 k X4 X5 m s) = (trip.sl.v225 arg8 arg10 m s) := (readCov_other _ _ _ _ _ 0 (by decide)).trans ((readCov_other _ _ _ _ _ 0 (by decide)).trans ((readCov_other _ _ _ _ _ 0 (by decide)).trans (readCov_same _ _ _ _ _)))
  have r495 : (trip.sl.v495 i arg4 arg5 arg8 arg10 arg11 v8 v17 v26 v35 k X4 X5 m s) = (trip.sl.v281 arg8 arg10 m s) := (readCov_other _ _ _ _ _ 0 (by decide)).trans ((readCov_other _ _ _ _ _ 0 (by decide)).trans ((readCov_other _ _ _ _ _ 0 (by decide)).trans (readCov_same _ _ _ _ _)))
  have r561 : (trip.sl.v561 i arg4 arg5 arg8 arg10 arg11 v8 v17 v26 v35 k X4 X5 m s) = (trip.sl.v347 i arg4 arg5 arg8 v8 k X4 X5 m) := (readCov_other _ _ _ _ _ 0 (by decide)).trans ((readCov_other _ _ _ _ _ 0 (by decide)).trans ((readCov_other _ _ _ _ _ 0 (by decide)).trans (readCov_same _ _ _ _ _)))
  have n417 : (trip.sl.v417 i arg4 arg5 arg8 arg10 arg11 v8 v17 v26 v35 k X4 X5 m s) = newM (sc (qs v8 v17 v26 v35 1) (KA X4 X5 (2 * k.val + 1))) (newM (unS (s 0)) (m 1)) := congrArg₂ newM ((congrArg unS c381).trans ((unS_sc3 _).trans s301)) (r383.trans m169)
  have n473 : (trip.sl.v473 i arg4 arg5 arg8 arg10 arg11 v8 v17 v26 v35 k X4 X5 m s) = newM (sc (qs v8 v17 v26 v35 2) (KA X4 X5 (2 * k.val + 1))) (newM (unS (s 1)) (m 2)) := congrArg₂ newM ((congrArg unS c437).trans ((unS_sc3 _).trans s305)) (r439.trans m225)
  have n529 : (trip.sl.v529 i arg4 arg5 arg8 arg10 arg11 v8 v17 v26 v35 k X4 X5 m s) = newM (sc (qs v8 v17 v26 v35 3) (KA X4 X5 (2 * k.val + 1))) (newM (unS (s 2)) (m 3)) := congrArg₂ newM ((congrArg unS c493).trans ((unS_sc3 _).trans s309)) (r495.trans m281)
  have n595 : (trip.sl.v595 i arg4 arg5 arg8 arg10 arg11 v8 v17 v26 v35 k X4 X5 m s) = newM (sc v8 (KA X4 X5 (2 * k.val + 2))) (newM (sc v8 (KA X4 X5 (2 * k.val + 1))) (m 0)) := congrArg₂ newM s377 (r561.trans m347)
  have a188 : (trip.sl.v188 i arg6 arg8 arg9 arg10 k X6 m a s) = newA (unS (s 0)) (m 1) (blk X6 (2 * k.val)) (a 1) := newA_congr h134 (readAt_asm _ m 1 _) (readAt_blk _ _ _ _ (off3_one i k) _) (readAt_asm _ a 1 _)
  have a244 : (trip.sl.v244 i arg6 arg8 arg9 arg10 k X6 m a s) = newA (unS (s 1)) (m 2) (blk X6 (2 * k.val)) (a 2) := newA_congr h190 (readAt_asm _ m 2 _) (readAt_blk _ _ _ _ (off3_one i k) _) (readAt_asm _ a 2 _)
  have a300 : (trip.sl.v300 i arg6 arg8 arg9 arg10 k X6 m a s) = newA (unS (s 2)) (m 3) (blk X6 (2 * k.val)) (a 3) := newA_congr h246 (readAt_asm _ m 3 _) (readAt_blk _ _ _ _ (off3_one i k) _) (readAt_asm _ a 3 _)
  have a366 : (trip.sl.v366 i arg4 arg5 arg6 arg8 arg9 v8 k X4 X5 X6 m a) = newA (sc v8 (KA X4 X5 (2 * k.val + 1))) (m 0) (blk X6 (2 * k.val + 1)) (a 0) := newA_congr s129 (readAt_asm _ m 0 _) (readAt_blk _ _ _ _ (off1_one i k) _) (readAt_asm _ a 0 _)
  have r428 : (trip.sl.v428 i arg4 arg5 arg6 arg8 arg9 arg10 v8 k X4 X5 X6 m a s) = (trip.sl.v188 i arg6 arg8 arg9 arg10 k X6 m a s) := (readCov_other _ _ _ _ _ 0 (by decide)).trans ((readCov_other _ _ _ _ _ 0 (by decide)).trans ((readCov_other _ _ _ _ _ 0 (by decide)).trans (readCov_same _ _ _ _ _)))
  have r484 : (trip.sl.v484 i arg4 arg5 arg6 arg8 arg9 arg10 arg11 v8 v17 v26 v35 k X4 X5 X6 m a s) = (trip.sl.v244 i arg6 arg8 arg9 arg10 k X6 m a s) := (readCov_other _ _ _ _ _ 0 (by decide)).trans ((readCov_other _ _ _ _ _ 0 (by decide)).trans ((readCov_other _ _ _ _ _ 0 (by decide)).trans (readCov_same _ _ _ _ _)))
  have r540 : (trip.sl.v540 i arg4 arg5 arg6 arg8 arg9 arg10 arg11 v8 v17 v26 v35 k X4 X5 X6 m a s) = (trip.sl.v300 i arg6 arg8 arg9 arg10 k X6 m a s) := (readCov_other _ _ _ _ _ 0 (by decide)).trans ((readCov_other _ _ _ _ _ 0 (by decide)).trans ((readCov_other _ _ _ _ _ 0 (by decide)).trans (readCov_same _ _ _ _ _)))
  have r606 : (trip.sl.v606 i arg4 arg5 arg6 arg8 arg9 arg10 arg11 v8 v17 v26 v35 k X4 X5 X6 m a s) = (trip.sl.v366 i arg4 arg5 arg6 arg8 arg9 v8 k X4 X5 X6 m a) := (readCov_other _ _ _ _ _ 0 (by decide)).trans ((readCov_other _ _ _ _ _ 0 (by decide)).trans ((readCov_other _ _ _ _ _ 0 (by decide)).trans (readCov_same _ _ _ _ _)))
  have b436 : (trip.sl.v436 i arg4 arg5 arg6 arg8 arg9 arg10 arg11 v8 v17 v26 v35 k X4 X5 X6 m a s) = newA (sc (qs v8 v17 v26 v35 1) (KA X4 X5 (2 * k.val + 1))) (newM (unS (s 0)) (m 1)) (blk X6 (2 * k.val + 1)) (newA (unS (s 0)) (m 1) (blk X6 (2 * k.val)) (a 1)) := newA_congr ((congrArg unS c381).trans ((unS_sc3 _).trans s301)) (r383.trans m169) (readAt_blk _ _ _ _ (off3_two i k) _) (r428.trans a188)
  have b492 : (trip.sl.v492 i arg4 arg5 arg6 arg8 arg9 arg10 arg11 v8 v17 v26 v35 k X4 X5 X6 m a s) = newA (sc (qs v8 v17 v26 v35 2) (KA X4 X5 (2 * k.val + 1))) (newM (unS (s 1)) (m 2)) (blk X6 (2 * k.val + 1)) (newA (unS (s 1)) (m 2) (blk X6 (2 * k.val)) (a 2)) := newA_congr ((congrArg unS c437).trans ((unS_sc3 _).trans s305)) (r439.trans m225) (readAt_blk _ _ _ _ (off3_two i k) _) (r484.trans a244)
  have b548 : (trip.sl.v548 i arg4 arg5 arg6 arg8 arg9 arg10 arg11 v8 v17 v26 v35 k X4 X5 X6 m a s) = newA (sc (qs v8 v17 v26 v35 3) (KA X4 X5 (2 * k.val + 1))) (newM (unS (s 2)) (m 3)) (blk X6 (2 * k.val + 1)) (newA (unS (s 2)) (m 3) (blk X6 (2 * k.val)) (a 3)) := newA_congr ((congrArg unS c493).trans ((unS_sc3 _).trans s309)) (r495.trans m281) (readAt_blk _ _ _ _ (off3_two i k) _) (r540.trans a300)
  have b611 : k0_pay349 (trip.sl.v611 i arg4 arg5 arg6 arg8 arg9 arg10 arg11 v8 v17 v26 v35 k X4 X5 X6 m a s) = newA (sc v8 (KA X4 X5 (2 * k.val + 2))) (newM (sc v8 (KA X4 X5 (2 * k.val + 1))) (m 0)) (blk X6 (2 * k.val + 2)) (newA (sc v8 (KA X4 X5 (2 * k.val + 1))) (m 0) (blk X6 (2 * k.val + 1)) (a 0)) := newA_congr s377 (r561.trans m347) (readAt_blk _ _ _ _ (off1_two i k) _) (r606.trans a366)
  have g8 := read_eight arg8.view m (tripM (qs v8 v17 v26 v35) (KA X4 X5 (2 * k.val + 1)) (KA X4 X5 (2 * k.val + 2)) m s) inb_S4x1x256_S1x1x256_0_0_0 inb_S4x1x256_S1x1x256_1_0_0
    inb_S4x1x256_S1x1x256_2_0_0 inb_S4x1x256_S1x1x256_3_0_0 (trip.sl.v169 arg8 arg10 m s) (trip.sl.v225 arg8 arg10 m s) (trip.sl.v281 arg8 arg10 m s) (trip.sl.v347 i arg4 arg5 arg8 v8 k X4 X5 m) n417 n473 n529 n595
  have g9 := read_eight arg9.view a (tripA (qs v8 v17 v26 v35) (KA X4 X5 (2 * k.val + 1)) (KA X4 X5 (2 * k.val + 2)) (blk X6 (2 * k.val)) (blk X6 (2 * k.val + 1)) (blk X6 (2 * k.val + 2)) m s a)
    inb_S4x80x256_S1x80x256_0_0_0 inb_S4x80x256_S1x80x256_1_0_0 inb_S4x80x256_S1x80x256_2_0_0 inb_S4x80x256_S1x80x256_3_0_0
    (trip.sl.v188 i arg6 arg8 arg9 arg10 k X6 m a s) (trip.sl.v244 i arg6 arg8 arg9 arg10 k X6 m a s) (trip.sl.v300 i arg6 arg8 arg9 arg10 k X6 m a s) (trip.sl.v366 i arg4 arg5 arg6 arg8 arg9 v8 k X4 X5 X6 m a) b436 b492 b548 b611
  have g10 := read_three arg10.view (arg10.view.rep (asm s)) (tripS (qs v8 v17 v26 v35) (KA X4 X5 (2 * k.val + 2))) inb_S3x1024x256_S1x1024x256_0_0_0 inb_S3x1024x256_S1x1024x256_1_0_0
    inb_S3x1024x256_S1x1024x256_2_0_0 (congrArg sc3 s549) (congrArg sc3 s553) (congrArg sc3 s557)
  unfold Res
  isplitl [H4]; · iexact H4
  isplitl [H5]; · iexact H5
  isplitl [H6]; · iexact H6
  isplitl [H8]; · iapply (pointsTo_rep_of_read (c : Thread nD τ) arg8 _ fullShare _ g8); iexact H8
  isplitl [H9]; · iapply (pointsTo_rep_of_read (c : Thread nD τ) arg9 _ fullShare _ g9); iexact H9
  isplitl [H10]; · iapply (pointsTo_rep_of_read (c : Thread nD τ) arg10 _ fullShare _ g10); iexact H10
  iexists _
  iexact H11

end Cert.KernelIdeal.Fox

end
-- ==== Proof.Fox.States.lean ====
/-
  The scratch strips before a trip of the two-blocks loop, by the trip's number.
-/
module

public import proofs.«01_k».proof.Proof.Fox.Trip

@[expose] public section

set_option maxRecDepth 8192
set_option maxHeartbeats 4000000

noncomputable section

namespace Cert.KernelIdeal.Fox

open Cert.KernelIdeal Cert.KernelIdeal.Gen Cert.Fox
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Strip 0 is one block ahead: before trip `k` it has taken blocks 0 to 2k, the others blocks below 2k, with their scores of block 2k held. -/
def stripM (q : ℕ → FVec F S80x256 .bf16) (K : ℕ → FVec F S80x1024 .bf16) (k : ℕ) : ℕ → Vec F S1x1x256 .f32
  | 0 => stM (q 0) K (2 * k + 1)
  | c + 1 => stM (q (c + 1)) K (2 * k)
def stripA (q : ℕ → FVec F S80x256 .bf16) (K : ℕ → FVec F S80x1024 .bf16) (V : ℕ → Vec F S64x1024 .bf16) (k : ℕ) : ℕ → Vec F S1x80x256 .f32
  | 0 => stA (q 0) K V (2 * k + 1)
  | c + 1 => stA (q (c + 1)) K V (2 * k)
def stripS (q : ℕ → FVec F S80x256 .bf16) (K : ℕ → FVec F S80x1024 .bf16) (k : ℕ) (c : ℕ) : Vec F S1x1024x256 .f32 := sc3 (sc (q (c + 1)) (K (2 * k)))

theorem tripM_strip (q : ℕ → FVec F S80x256 .bf16) (K : ℕ → FVec F S80x1024 .bf16) (k : ℕ) :
    tripM q (K (2 * k + 1)) (K (2 * k + 2)) (stripM q K k) (stripS q K k) = stripM q K (k + 1) := by
  funext c
  cases c with
  | zero => rfl
  | succ c => simp only [tripM, stripM, stripS, unS_sc3]; rfl

theorem tripA_strip (q : ℕ → FVec F S80x256 .bf16) (K : ℕ → FVec F S80x1024 .bf16) (V : ℕ → Vec F S64x1024 .bf16) (k : ℕ) :
    tripA q (K (2 * k + 1)) (K (2 * k + 2)) (V (2 * k)) (V (2 * k + 1)) (V (2 * k + 2)) (stripM q K k) (stripS q K k) (stripA q K V k) = stripA q K V (k + 1) := by
  funext c
  cases c with
  | zero => rfl
  | succ c => simp only [tripA, stripM, stripA, stripS, unS_sc3]; rfl

theorem tripS_strip (q : ℕ → FVec F S80x256 .bf16) (K : ℕ → FVec F S80x1024 .bf16) (k : ℕ) :
    tripS q (K (2 * k + 2)) = stripS q K (k + 1) := rfl

end Cert.KernelIdeal.Fox

end
-- ==== Proof.Fox.Body.lean ====
/-
  The attention kernel of one grid step: the tile of outputs it stores, by the strip functions.
-/
module

public import proofs.«01_k».proof.Proof.Fox.Spec
public import proofs.«01_k».proof.Proof.Fox.States
public import Idealize.ShloMosaic.Lib.LoopRemainder
public import Idealize.ShloMosaic.Lib.Exec
public import Idealize.ShloMosaic.Lib.Tactic
public import Idealize.ShloMosaic.Lib.VecWindow
public import Idealize.ShloMosaic.Lib.Pipeline.Kit

@[expose] public section

set_option maxRecDepth 8192
set_option maxHeartbeats 4000000

noncomputable section

namespace Cert.KernelIdeal.Fox

open Cert.KernelIdeal Cert.KernelIdeal.Gen Cert.Fox
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄G" => MT nD τ sig Unit (Elt F) ℕ (UR sig nD τ) ℕ

theorem dg0_congr (q : FVec F S80x256 .bf16) {kb kb' : Vec F S64x1024 .bf16} {cb cb' : Vec F S1x16x1024 .bf16} {m m' : Vec F S1x1x256 .f32} {vb vb' : Vec F S64x256 .bf16} {a a' : Vec F S1x80x256 .f32}
    (hk : kb = kb') (hc : cb = cb') (hm : m = m') (hv : vb = vb') (ha : a = a') : dg0 q kb cb m vb a = dg0 q kb' cb' m' vb' a' := by
  subst hk hc hm hv ha; rfl
theorem dg1_congr (q : FVec F S80x256 .bf16) {kb kb' : Vec F S64x1024 .bf16} {cb cb' : Vec F S1x16x1024 .bf16} {m m' : Vec F S1x1x256 .f32} {vb vb' : Vec F S64x512 .bf16} {a a' : Vec F S1x80x256 .f32}
    (hk : kb = kb') (hc : cb = cb') (hm : m = m') (hv : vb = vb') (ha : a = a') : dg1 q kb cb m vb a = dg1 q kb' cb' m' vb' a' := by
  subst hk hc hm hv ha; rfl
theorem dg2_congr (q : FVec F S80x256 .bf16) {kb kb' : Vec F S64x1024 .bf16} {cb cb' : Vec F S1x16x1024 .bf16} {m m' : Vec F S1x1x256 .f32} {vb vb' : Vec F S64x768 .bf16} {a a' : Vec F S1x80x256 .f32}
    (hk : kb = kb') (hc : cb = cb') (hm : m = m') (hv : vb = vb') (ha : a = a') : dg2 q kb cb m vb a = dg2 q kb' cb' m' vb' a' := by
  subst hk hc hm hv ha; rfl
theorem dg3_congr (q : FVec F S80x256 .bf16) {kb kb' : Vec F S64x1024 .bf16} {cb cb' : Vec F S1x16x1024 .bf16} {m m' : Vec F S1x1x256 .f32} {vb vb' : Vec F S64x1024 .bf16} {a a' : Vec F S1x80x256 .f32}
    (hk : kb = kb') (hc : cb = cb') (hm : m = m') (hv : vb = vb') (ha : a = a') : dg3 q kb cb m vb a = dg3 q kb' cb' m' vb' a' := by
  subst hk hc hm hv ha; rfl

theorem dg1_apart (q : FVec F S80x256 .bf16) (kb : Vec F S64x1024 .bf16) (cb : Vec F S1x16x1024 .bf16) (m : Vec F S1x1x256 .f32) (vb : Vec F S64x512 .bf16) (a : Vec F S1x80x256 .f32) :
    k0_pay256 (k0_pay251 (k0_pay248 (k0_pay213 q kb cb)) m) (k0_pay253 vb) (k0_pay254 a) (k0_pay255 (k0_pay248 (k0_pay213 q kb cb)) m) = dg1 q kb cb m vb a := by
  unfold dg1 k0_pay256 k0_pay164 k0_pay160 k0_pay161 k0_pay251 k0_pay255 k0_pay254 k0_pay253 k0_pay163
  rfl

/-- Stores into the four column strips. -/
theorem read_cols {κ' : Kind} {sp : Space} {e : EltTy} (v : View sig κ' sp ⟨2, ![64, 1024]⟩ e) (f : v.ty.Contents (Elt F)) (o : ℕ → Shape.Idx ⟨2, ![64, 256]⟩ → Elt F e)
    (i0 : ∀ a, (![0, 0] : Fin 2 → ℕ) a + (![64, 256] : Fin 2 → ℕ) a ≤ (⟨2, ![64, 1024]⟩ : Shape).size a)
    (i1 : ∀ a, (![0, 256] : Fin 2 → ℕ) a + (![64, 256] : Fin 2 → ℕ) a ≤ (⟨2, ![64, 1024]⟩ : Shape).size a)
    (i2 : ∀ a, (![0, 512] : Fin 2 → ℕ) a + (![64, 256] : Fin 2 → ℕ) a ≤ (⟨2, ![64, 1024]⟩ : Shape).size a)
    (i3 : ∀ a, (![0, 768] : Fin 2 → ℕ) a + (![64, 256] : Fin 2 → ℕ) a ≤ (⟨2, ![64, 1024]⟩ : Shape).size a)
    {w0 w1 w2 w3 : Shape.Idx ⟨2, ![64, 256]⟩ → Elt F e} (h0 : w0 = o 0) (h1 : w1 = o 1) (h2 : w2 = o 2) (h3 : w3 = o 3) :
    v.read (Elt F) (v.writes (Elt F) f [⟨Rect.unit ![0, 768] ![64, 256] i3, w3⟩, ⟨Rect.unit ![0, 512] ![64, 256] i2, w2⟩, ⟨Rect.unit ![0, 256] ![64, 256] i1, w1⟩, ⟨Rect.unit ![0, 0] ![64, 256] i0, w0⟩]) = asm2 o := by
  rw [View.read_writes_cons_put v f i3 w3 _ rfl, View.read_writes_cons_put v f i2 w2 _ rfl, View.read_writes_cons_put v f i1 w1 _ rfl, View.read_writes_cons_put v f i0 w0 _ rfl,
    ← asm2_strips2 (v.read (Elt F) (v.writes (Elt F) f []))]
  refine ((congrArg (fun x => VecWindow.put (s := ⟨2, ![64, 1024]⟩) x ![0, 768] ![64, 256] w3) ((congrArg (fun x => VecWindow.put (s := ⟨2, ![64, 1024]⟩) x ![0, 512] ![64, 256] w2)
    ((congrArg (fun x => VecWindow.put (s := ⟨2, ![64, 1024]⟩) x ![0, 256] ![64, 256] w1) (put_asm2 _ 0 w0)).trans (put_asm2 _ 1 w1))).trans (put_asm2 _ 2 w2))).trans (put_asm2 _ 3 w3)).trans (asm2_ext fun c hc => ?_)
  interval_cases c
  · exact h0
  · exact h1
  · exact h2
  · exact h3

/-- Stores into four strips, and again into the first. -/
theorem read_five {b : ℕ} {κ' : Kind} {sp : Space} {e : EltTy} (v : View sig κ' sp ⟨3, ![4, b, 256]⟩ e) (f : v.ty.Contents (Elt F)) (x' : ℕ → Shape.Idx ⟨3, ![1, b, 256]⟩ → Elt F e)
    (i0 : ∀ a, (![0, 0, 0] : Fin 3 → ℕ) a + (![1, b, 256] : Fin 3 → ℕ) a ≤ (⟨3, ![4, b, 256]⟩ : Shape).size a)
    (i1 : ∀ a, (![1, 0, 0] : Fin 3 → ℕ) a + (![1, b, 256] : Fin 3 → ℕ) a ≤ (⟨3, ![4, b, 256]⟩ : Shape).size a)
    (i2 : ∀ a, (![2, 0, 0] : Fin 3 → ℕ) a + (![1, b, 256] : Fin 3 → ℕ) a ≤ (⟨3, ![4, b, 256]⟩ : Shape).size a)
    (i3 : ∀ a, (![3, 0, 0] : Fin 3 → ℕ) a + (![1, b, 256] : Fin 3 → ℕ) a ≤ (⟨3, ![4, b, 256]⟩ : Shape).size a)
    (u0 : Shape.Idx ⟨3, ![1, b, 256]⟩ → Elt F e) {w1 w2 w3 w0 : Shape.Idx ⟨3, ![1, b, 256]⟩ → Elt F e}
    (h0 : w0 = x' 0) (h1 : w1 = x' 1) (h2 : w2 = x' 2) (h3 : w3 = x' 3) :
    v.read (Elt F) (v.writes (Elt F) f [⟨Rect.unit ![0, 0, 0] ![1, b, 256] i0, w0⟩, ⟨Rect.unit ![3, 0, 0] ![1, b, 256] i3, w3⟩,
      ⟨Rect.unit ![2, 0, 0] ![1, b, 256] i2, w2⟩, ⟨Rect.unit ![1, 0, 0] ![1, b, 256] i1, w1⟩, ⟨Rect.unit ![0, 0, 0] ![1, b, 256] i0, u0⟩]) = asm x' := by
  refine (read_put_asm v 0 i0 w0 (read_put_asm v 3 i3 w3 (read_put_asm v 2 i2 w2 (read_put_asm v 1 i1 w1 (read_put_asm v 0 i0 u0 (L := []) (x := strips (v.read (Elt F) f))
    (asm_strips (v.read (Elt F) f)).symm))))).trans (asm_ext fun c hc => ?_)
  interval_cases c
  · exact h0
  · exact h1
  · exact h2
  · exact h3

/-- Two blocks per trip, from the first block. -/
def trips (i : grid0.Coords) : ℕ := Scf.trips (k0_t1_loop i).lb (k0_t1_loop i).ub (k0_t1_loop i).st
theorem atA : ∀ i : grid0.Coords, k0_cond2 i = 1#1 → (i 2).val = 0 := by decide +kernel
theorem off7_eq : ∀ i : grid0.Coords, k0_cond2 i = 1#1 → k0_off7 i = ![0, 1024 * 0] := by decide +kernel
theorem off8_eq : ∀ i : grid0.Coords, k0_cond2 i = 1#1 → k0_off8 i = ![0, 0, 1024 * 0] := by decide +kernel
theorem off9_eq : ∀ i : grid0.Coords, k0_cond2 i = 1#1 → k0_off9 i = ![0, 1024 * 0] := by decide +kernel
theorem off10_eq : ∀ i : grid0.Coords, k0_cond2 i = 1#1 → k0_off10 i = ![0, 1024 * 0] := by decide +kernel
theorem off11_eq : ∀ i : grid0.Coords, k0_cond2 i = 1#1 → k0_off11 i = ![0, 1024 * 0] := by decide +kernel

/-- The first block of queries: the diagonal block alone. -/
theorem bodyA (c : Dev nD) (E : Set ℕ) (i : grid0.Coords) (arg3 : Memref sig .tc .vmem S64x1024 .bf16) (harg3 : arg3.IsWhole) (arg4 : Memref sig .tc .vmem S64x8192 .bf16) (harg4 : arg4.IsWhole) (arg5 : Memref sig .tc .vmem S1x16x8192 .bf16) (harg5 : arg5.IsWhole) (arg6 : Memref sig .tc .vmem S64x8192 .bf16) (harg6 : arg6.IsWhole) (arg7 : Memref sig .tc .vmem S64x1024 .bf16) (harg7 : arg7.IsWhole) (arg8 : Memref sig .tc .vmem S4x1x256 .f32) (harg8 : arg8.IsWhole) (arg9 : Memref sig .tc .vmem S4x80x256 .f32) (harg9 : arg9.IsWhole) (arg10 : Memref sig .tc .vmem S3x1024x256 .f32) (harg10 : arg10.IsWhole) (arg11 : Memref sig .tc .vmem S3x1024x256 .f32) (harg11 : arg11.IsWhole)
    (X3 : Vec F S64x1024 .bf16) (X4 : Vec F S64x8192 .bf16) (X5 : Vec F S1x16x8192 .bf16) (X6 : Vec F S64x8192 .bf16)
    (h1 : ¬ k0_cond1 i = 1#1) (h2 : k0_cond2 i = 1#1) (h3 : ¬ k0_cond3 i = 1#1) (h4 : ¬ k0_cond4 i = 1#1) (ht : (k0_t1_loop i).trips = 0) :
    (iprop((arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6)
      ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) : sProp 𝕄G)
      ⊢ wp frame (wpE (defs₀ (F := F)) Variants.none (c : Thread nD τ) none) E (cc0_fox_attention i arg3 harg3 arg4 harg4 arg5 harg5 arg6 harg6 arg7 harg7 arg8 harg8 arg9 harg9 arg10 harg10 arg11 harg11)
          (fun _ => iprop((arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6)
            ∗ (arg7.view.loc (c : Thread nD τ) ↦[arg7.view.set]{fullShare} arg7.view.rep (outTile X3 X4 X5 X6 (i 2).val)) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))) := by
  simp only [cc0_fox_attention_eq_skeleton]; unfold cc0_fox_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  iintro ⟨H3, H4, H5, H6, ⟨%f7, H7⟩, ⟨%f8, H8⟩, ⟨%f9, H9⟩, ⟨%f10, H10⟩, ⟨%f11, H11⟩⟩
  sl_exec
  sl_step
  have q0 : (bodyA.sl.r arg3 X3) = qa X3 0 := congrArg k0_pay333 (readAt_strips2 _ _ 0 _ rfl _)
  have q1 : (bodyA.sl.r_1 arg3 X3) = qa X3 1 := congrArg k0_pay333 (readAt_strips2 _ _ 1 _ rfl _)
  have q2 : (bodyA.sl.r_2 arg3 X3) = qa X3 2 := congrArg k0_pay333 (readAt_strips2 _ _ 2 _ rfl _)
  have q3 : (bodyA.sl.r_3 arg3 X3) = qa X3 3 := congrArg k0_pay333 (readAt_strips2 _ _ 3 _ rfl _)
  have e_v141 : (bodyA.sl.v141 arg8) = (stM (bodyA.sl.r arg3 X3) (KA X4 X5) 0) := ((readCov_other _ _ _ _ _ 0 (by decide)).trans ((readCov_other _ _ _ _ _ 0 (by decide)).trans ((readCov_other _ _ _ _ _ 0 (by decide)).trans (readCov_same _ _ _ _ _))))
  have e_v180 : (bodyA.sl.v180 arg9) = (stA (bodyA.sl.r arg3 X3) (KA X4 X5) (blk X6) 0) := ((readCov_other _ _ _ _ _ 0 (by decide)).trans ((readCov_other _ _ _ _ _ 0 (by decide)).trans ((readCov_other _ _ _ _ _ 0 (by decide)).trans (readCov_same _ _ _ _ _))))
  have e_v189 : (bodyA.sl.v189 i arg3 arg4 arg5 arg6 arg8 arg9 X3 X4 X5 X6 h2) = dg0 (bodyA.sl.r arg3 X3) (blk X4 0) (cblk X5 0) (stM (bodyA.sl.r arg3 X3) (KA X4 X5) 0) (vwin 256 X6 0) (stA (bodyA.sl.r arg3 X3) (KA X4 X5) (blk X6) 0) := (readCov_same _ _ _ _ _).trans ((dg0_congr (bodyA.sl.r arg3 X3) (readAt_blk _ _ _ _ (off7_eq i h2) _) (readAt_cblk _ _ _ _ (off8_eq i h2) _) e_v141 (readAt_vwin 256 _ _ _ _ (off9_eq i h2) _) e_v180))
  have e_v204 : (bodyA.sl.v204 i arg3 arg4 arg5 arg8 X3 X4 X5 h2) = (stM (bodyA.sl.r_1 arg3 X3) (KA X4 X5) 0) := ((readCov_other _ _ _ _ _ 0 (by decide)).trans ((readCov_other _ _ _ _ _ 0 (by decide)).trans ((readCov_other _ _ _ _ _ 0 (by decide)).trans (readCov_same _ _ _ _ _))))
  have e_v246 : (bodyA.sl.v246 i arg3 arg4 arg5 arg6 arg8 arg9 X3 X4 X5 X6 h2) = (stA (bodyA.sl.r_1 arg3 X3) (KA X4 X5) (blk X6) 0) := ((readCov_other _ _ _ _ _ 0 (by decide)).trans ((readCov_other _ _ _ _ _ 0 (by decide)).trans ((readCov_other _ _ _ _ _ 0 (by decide)).trans (readCov_same _ _ _ _ _))))
  have e_v255 : (bodyA.sl.v255 i arg3 arg4 arg5 arg6 arg8 arg9 X3 X4 X5 X6 h2) = dg1 (bodyA.sl.r_1 arg3 X3) (blk X4 0) (cblk X5 0) (stM (bodyA.sl.r_1 arg3 X3) (KA X4 X5) 0) (vwin 512 X6 0) (stA (bodyA.sl.r_1 arg3 X3) (KA X4 X5) (blk X6) 0) := (readCov_same _ _ _ _ _).trans ((dg1_congr (bodyA.sl.r_1 arg3 X3) (readAt_blk _ _ _ _ (off7_eq i h2) _) (readAt_cblk _ _ _ _ (off8_eq i h2) _) e_v204 (readAt_vwin 512 _ _ _ _ (off10_eq i h2) _) e_v246))
  have e_v270 : (bodyA.sl.v270 i arg3 arg4 arg5 arg8 X3 X4 X5 h2) = (stM (bodyA.sl.r_2 arg3 X3) (KA X4 X5) 0) := ((readCov_other _ _ _ _ _ 0 (by decide)).trans ((readCov_other _ _ _ _ _ 0 (by decide)).trans ((readCov_other _ _ _ _ _ 0 (by decide)).trans (readCov_same _ _ _ _ _))))
  have e_v309 : (bodyA.sl.v309 i arg3 arg4 arg5 arg6 arg8 arg9 X3 X4 X5 X6 h2) = (stA (bodyA.sl.r_2 arg3 X3) (KA X4 X5) (blk X6) 0) := ((readCov_other _ _ _ _ _ 0 (by decide)).trans ((readCov_other _ _ _ _ _ 0 (by decide)).trans ((readCov_other _ _ _ _ _ 0 (by decide)).trans (readCov_same _ _ _ _ _))))
  have e_v318 : (bodyA.sl.v318 i arg3 arg4 arg5 arg6 arg8 arg9 X3 X4 X5 X6 h2) = dg2 (bodyA.sl.r_2 arg3 X3) (blk X4 0) (cblk X5 0) (stM (bodyA.sl.r_2 arg3 X3) (KA X4 X5) 0) (vwin 768 X6 0) (stA (bodyA.sl.r_2 arg3 X3) (KA X4 X5) (blk X6) 0) := (readCov_same _ _ _ _ _).trans ((dg2_congr (bodyA.sl.r_2 arg3 X3) (readAt_blk _ _ _ _ (off7_eq i h2) _) (readAt_cblk _ _ _ _ (off8_eq i h2) _) e_v270 (readAt_vwin 768 _ _ _ _ (off11_eq i h2) _) e_v309))
  have e_v333 : (bodyA.sl.v333 i arg3 arg4 arg5 arg8 X3 X4 X5 h2) = (stM (bodyA.sl.r_3 arg3 X3) (KA X4 X5) 0) := ((readCov_other _ _ _ _ _ 0 (by decide)).trans ((readCov_other _ _ _ _ _ 0 (by decide)).trans ((readCov_other _ _ _ _ _ 0 (by decide)).trans (readCov_same _ _ _ _ _))))
  have e_v378 : (bodyA.sl.v378 i arg3 arg4 arg5 arg6 arg8 arg9 X3 X4 X5 X6 h2) = (stA (bodyA.sl.r_3 arg3 X3) (KA X4 X5) (blk X6) 0) := ((readCov_other _ _ _ _ _ 0 (by decide)).trans ((readCov_other _ _ _ _ _ 0 (by decide)).trans ((readCov_other _ _ _ _ _ 0 (by decide)).trans (readCov_same _ _ _ _ _))))
  have e_v387 : (bodyA.sl.v387 i arg3 arg4 arg5 arg6 arg8 arg9 X3 X4 X5 X6 h2) = dg3 (bodyA.sl.r_3 arg3 X3) (blk X4 0) (cblk X5 0) (stM (bodyA.sl.r_3 arg3 X3) (KA X4 X5) 0) (vwin 1024 X6 0) (stA (bodyA.sl.r_3 arg3 X3) (KA X4 X5) (blk X6) 0) := (readCov_same _ _ _ _ _).trans ((dg3_congr (bodyA.sl.r_3 arg3 X3) (readAt_blk _ _ _ _ (off7_eq i h2) _) (readAt_cblk _ _ _ _ (off8_eq i h2) _) e_v333 (readAt_vwin 1024 _ _ _ _ (off7_eq i h2) _) e_v378))
  have g7 := (read_cols (F := F) arg7.view f7 (outs (qs (bodyA.sl.r arg3 X3) (bodyA.sl.r_1 arg3 X3) (bodyA.sl.r_2 arg3 X3) (bodyA.sl.r_3 arg3 X3)) X4 X5 X6 0) inb_S64x1024_S64x256_0_0 inb_S64x1024_S64x256_0_256 inb_S64x1024_S64x256_0_512 inb_S64x1024_S64x256_0_768
    (congrArg k0_pay155 e_v189) (congrArg k0_pay155 e_v255) (congrArg k0_pay155 e_v318) (congrArg k0_pay155 e_v387))
  rw [q0, q1, q2, q3] at g7
  isplitl [H3]; · iexact H3
  isplitl [H4]; · iexact H4
  isplitl [H5]; · iexact H5
  isplitl [H6]; · iexact H6
  isplitl [H7]; · iapply (pointsTo_rep_of_read (c : Thread nD τ) arg7 _ fullShare _ (g7.trans (congrArg (outTile X3 X4 X5 X6) (atA i h2).symm))); iexact H7
  isplitl [H8]; · iexists _; iexact H8
  isplitl [H9]; · iexists _; iexact H9
  isplitl [H10]; · iexists _; iexact H10
  iexists _
  iexact H11

theorem atB : ∀ i : grid0.Coords, k0_cond4 i = 1#1 → (i 2).val = (2 * trips i + 1) := by decide +kernel
theorem off20_eq : ∀ i : grid0.Coords, k0_cond4 i = 1#1 → k0_off20 i = ![0, 1024 * (2 * trips i + 1)] := by decide +kernel
theorem off21_eq : ∀ i : grid0.Coords, k0_cond4 i = 1#1 → k0_off21 i = ![0, 0, 1024 * (2 * trips i + 1)] := by decide +kernel
theorem off22_eq : ∀ i : grid0.Coords, k0_cond4 i = 1#1 → k0_off22 i = ![0, 1024 * (2 * trips i)] := by decide +kernel
theorem off23_eq : ∀ i : grid0.Coords, k0_cond4 i = 1#1 → k0_off23 i = ![0, 1024 * (2 * trips i + 1)] := by decide +kernel
theorem off24_eq : ∀ i : grid0.Coords, k0_cond4 i = 1#1 → k0_off24 i = ![0, 1024 * (2 * trips i + 1)] := by decide +kernel
theorem off25_eq : ∀ i : grid0.Coords, k0_cond4 i = 1#1 → k0_off25 i = ![0, 1024 * (2 * trips i + 1)] := by decide +kernel

/-- An odd block: the loop, the held scores, the diagonal block. -/
theorem bodyB (c : Dev nD) (E : Set ℕ) (i : grid0.Coords) (arg3 : Memref sig .tc .vmem S64x1024 .bf16) (harg3 : arg3.IsWhole) (arg4 : Memref sig .tc .vmem S64x8192 .bf16) (harg4 : arg4.IsWhole) (arg5 : Memref sig .tc .vmem S1x16x8192 .bf16) (harg5 : arg5.IsWhole) (arg6 : Memref sig .tc .vmem S64x8192 .bf16) (harg6 : arg6.IsWhole) (arg7 : Memref sig .tc .vmem S64x1024 .bf16) (harg7 : arg7.IsWhole) (arg8 : Memref sig .tc .vmem S4x1x256 .f32) (harg8 : arg8.IsWhole) (arg9 : Memref sig .tc .vmem S4x80x256 .f32) (harg9 : arg9.IsWhole) (arg10 : Memref sig .tc .vmem S3x1024x256 .f32) (harg10 : arg10.IsWhole) (arg11 : Memref sig .tc .vmem S3x1024x256 .f32) (harg11 : arg11.IsWhole)
    (X3 : Vec F S64x1024 .bf16) (X4 : Vec F S64x8192 .bf16) (X5 : Vec F S1x16x8192 .bf16) (X6 : Vec F S64x8192 .bf16)
    (h1 : k0_cond1 i = 1#1) (h2 : ¬ k0_cond2 i = 1#1) (h3 : ¬ k0_cond3 i = 1#1) (h4 : k0_cond4 i = 1#1) :
    (iprop((arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6)
      ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) : sProp 𝕄G)
      ⊢ wp frame (wpE (defs₀ (F := F)) Variants.none (c : Thread nD τ) none) E (cc0_fox_attention i arg3 harg3 arg4 harg4 arg5 harg5 arg6 harg6 arg7 harg7 arg8 harg8 arg9 harg9 arg10 harg10 arg11 harg11)
          (fun _ => iprop((arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6)
            ∗ (arg7.view.loc (c : Thread nD τ) ↦[arg7.view.set]{fullShare} arg7.view.rep (outTile X3 X4 X5 X6 (i 2).val)) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))) := by
  simp only [cc0_fox_attention_eq_skeleton]; unfold cc0_fox_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  iintro ⟨H3, H4, H5, H6, ⟨%f7, H7⟩, ⟨%f8, H8⟩, ⟨%f9, H9⟩, ⟨%f10, H10⟩, ⟨%f11, H11⟩⟩
  sl_exec
  sl_for (fun k _ => Res c arg4 arg5 arg6 arg8 arg9 arg10 arg11 X4 X5 X6 (stripM (qs (bodyB.sl.r arg3 X3) (bodyB.sl.r_1 arg3 X3) (bodyB.sl.r_2 arg3 X3) (bodyB.sl.r_3 arg3 X3)) (KA X4 X5) k) (stripA (qs (bodyB.sl.r arg3 X3) (bodyB.sl.r_1 arg3 X3) (bodyB.sl.r_2 arg3 X3) (bodyB.sl.r_3 arg3 X3)) (KA X4 X5) (blk X6) k) (stripS (qs (bodyB.sl.r arg3 X3) (bodyB.sl.r_1 arg3 X3) (bodyB.sl.r_2 arg3 X3) (bodyB.sl.r_3 arg3 X3)) (KA X4 X5) k)) $$ [H4 H5 H6 H8 H9 H10 H11]
  case region =>
    intro k _
    have h := trip (F := F) Variants.none c none i arg3 harg3 arg4 harg4 arg5 harg5 arg6 harg6 arg7 harg7 arg8 harg8 arg9 harg9 arg10 harg10 arg11 harg11 (BitVec.ofNat 32 (i 2).val) (bodyB.sl.r arg3 X3) (bodyB.sl.r_1 arg3 X3) (bodyB.sl.r_2 arg3 X3) (bodyB.sl.r_3 arg3 X3) k0_pay343 k E X4 X5 X6 (stripM (qs (bodyB.sl.r arg3 X3) (bodyB.sl.r_1 arg3 X3) (bodyB.sl.r_2 arg3 X3) (bodyB.sl.r_3 arg3 X3)) (KA X4 X5) k) (stripA (qs (bodyB.sl.r arg3 X3) (bodyB.sl.r_1 arg3 X3) (bodyB.sl.r_2 arg3 X3) (bodyB.sl.r_3 arg3 X3)) (KA X4 X5) (blk X6) k) (stripS (qs (bodyB.sl.r arg3 X3) (bodyB.sl.r_1 arg3 X3) (bodyB.sl.r_2 arg3 X3) (bodyB.sl.r_3 arg3 X3)) (KA X4 X5) k)
    rw [tripM_strip (qs (bodyB.sl.r arg3 X3) (bodyB.sl.r_1 arg3 X3) (bodyB.sl.r_2 arg3 X3) (bodyB.sl.r_3 arg3 X3)) (KA X4 X5) k, tripA_strip (qs (bodyB.sl.r arg3 X3) (bodyB.sl.r_1 arg3 X3) (bodyB.sl.r_2 arg3 X3) (bodyB.sl.r_3 arg3 X3)) (KA X4 X5) (blk X6) k, tripS_strip (qs (bodyB.sl.r arg3 X3) (bodyB.sl.r_1 arg3 X3) (bodyB.sl.r_2 arg3 X3) (bodyB.sl.r_3 arg3 X3)) (KA X4 X5) k] at h
    exact h
  · have k0 : (bodyB.sl.v125 arg4 arg5 X4 X5) = KA X4 X5 0 := congrArg₂ kaug (readAt_blk _ _ 0 _ rfl _) (readAt_cblk _ _ 0 _ rfl _)
    have s0 : (bodyB.sl.v126 arg3 arg4 arg5 X3 X4 X5) = sc (bodyB.sl.r arg3 X3) (KA X4 X5 0) := congrArg (sc (bodyB.sl.r arg3 X3)) k0
    have m0 : (bodyB.sl.v139 arg8) = stM (bodyB.sl.r arg3 X3) (KA X4 X5) 0 := ((readCov_other _ _ _ _ _ 0 (by decide)).trans ((readCov_other _ _ _ _ _ 0 (by decide)).trans ((readCov_other _ _ _ _ _ 0 (by decide)).trans (readCov_same _ _ _ _ _))))
    have a0 : (bodyB.sl.v184 arg9) = stA (bodyB.sl.r arg3 X3) (KA X4 X5) (blk X6) 0 := ((readCov_other _ _ _ _ _ 0 (by decide)).trans ((readCov_other _ _ _ _ _ 0 (by decide)).trans ((readCov_other _ _ _ _ _ 0 (by decide)).trans (readCov_same _ _ _ _ _))))
    have g8 := read_five (F := F) arg8.view arg8.view.junk (stripM (qs (bodyB.sl.r arg3 X3) (bodyB.sl.r_1 arg3 X3) (bodyB.sl.r_2 arg3 X3) (bodyB.sl.r_3 arg3 X3)) (KA X4 X5) 0) inb_S4x1x256_S1x1x256_0_0_0 inb_S4x1x256_S1x1x256_1_0_0
      inb_S4x1x256_S1x1x256_2_0_0 inb_S4x1x256_S1x1x256_3_0_0 (stM (bodyB.sl.r arg3 X3) (KA X4 X5) 0) (w0 := k0_pay347 (bodyB.sl.v140 arg8) (bodyB.sl.v155 arg3 arg4 arg5 X3 X4 X5)) (congrArg₂ newM s0 m0) rfl rfl rfl
    have g9 := read_five (F := F) arg9.view arg9.view.junk (stripA (qs (bodyB.sl.r arg3 X3) (bodyB.sl.r_1 arg3 X3) (bodyB.sl.r_2 arg3 X3) (bodyB.sl.r_3 arg3 X3)) (KA X4 X5) (blk X6) 0) inb_S4x80x256_S1x80x256_0_0_0 inb_S4x80x256_S1x80x256_1_0_0
      inb_S4x80x256_S1x80x256_2_0_0 inb_S4x80x256_S1x80x256_3_0_0 (stA (bodyB.sl.r arg3 X3) (KA X4 X5) (blk X6) 0) (newA_congr s0 m0 (readAt_blk arg6.view X6 0 _ rfl inb_S64x8192_S64x1024_0_0) a0) rfl rfl rfl
    have g10 := read_three arg10.view arg10.view.junk (stripS (qs (bodyB.sl.r arg3 X3) (bodyB.sl.r_1 arg3 X3) (bodyB.sl.r_2 arg3 X3) (bodyB.sl.r_3 arg3 X3)) (KA X4 X5) 0) inb_S3x1024x256_S1x1024x256_0_0_0 inb_S3x1024x256_S1x1024x256_1_0_0
      inb_S3x1024x256_S1x1024x256_2_0_0 (congrArg (fun z => sc3 (sc (bodyB.sl.r_1 arg3 X3) z)) k0) (congrArg (fun z => sc3 (sc (bodyB.sl.r_2 arg3 X3) z)) k0) (congrArg (fun z => sc3 (sc (bodyB.sl.r_3 arg3 X3) z)) k0)
    unfold Res
    isplitl [H4]; · iexact H4
    isplitl [H5]; · iexact H5
    isplitl [H6]; · iexact H6
    isplitl [H8]; · iapply (pointsTo_rep_of_read (c : Thread nD τ) arg8 _ fullShare _ g8); iexact H8
    isplitl [H9]; · iapply (pointsTo_rep_of_read (c : Thread nD τ) arg9 _ fullShare _ g9); iexact H9
    isplitl [H10]; · iapply (pointsTo_rep_of_read (c : Thread nD τ) arg10 _ fullShare _ g10); iexact H10
    iexists _
    iexact H11
  iintro %_ HI
  unfold Res
  icases HI with ⟨H4, H5, H6, H8, H9, H10, ⟨%f11', H11⟩⟩
  sl_exec
  sl_step
  have q0 : (bodyB.sl.r arg3 X3) = qa X3 0 := congrArg k0_pay333 (readAt_strips2 _ _ 0 _ rfl _)
  have q1 : (bodyB.sl.r_1 arg3 X3) = qa X3 1 := congrArg k0_pay333 (readAt_strips2 _ _ 1 _ rfl _)
  have q2 : (bodyB.sl.r_2 arg3 X3) = qa X3 2 := congrArg k0_pay333 (readAt_strips2 _ _ 2 _ rfl _)
  have q3 : (bodyB.sl.r_3 arg3 X3) = qa X3 3 := congrArg k0_pay333 (readAt_strips2 _ _ 3 _ rfl _)
  have e_v311 : (bodyB.sl.v311 i arg3 arg8 X3 X4 X5) = (stM (bodyB.sl.r arg3 X3) (KA X4 X5) (2 * trips i + 1)) := (readAt_asm _ (stripM (qs (bodyB.sl.r arg3 X3) (bodyB.sl.r_1 arg3 X3) (bodyB.sl.r_2 arg3 X3) (bodyB.sl.r_3 arg3 X3)) (KA X4 X5) (trips i)) 0 _)
  have e_v350 : (bodyB.sl.v350 i arg3 arg9 X3 X4 X5 X6) = (stA (bodyB.sl.r arg3 X3) (KA X4 X5) (blk X6) (2 * trips i + 1)) := (readAt_asm _ (stripA (qs (bodyB.sl.r arg3 X3) (bodyB.sl.r_1 arg3 X3) (bodyB.sl.r_2 arg3 X3) (bodyB.sl.r_3 arg3 X3)) (KA X4 X5) (blk X6) (trips i)) 0 _)
  have e_v359 : (bodyB.sl.v359 i arg3 arg4 arg5 arg6 arg8 arg9 arg10 X3 X4 X5 X6 h4) = dg0 (bodyB.sl.r arg3 X3) (blk X4 (2 * trips i + 1)) (cblk X5 (2 * trips i + 1)) (stM (bodyB.sl.r arg3 X3) (KA X4 X5) (2 * trips i + 1)) (vwin 256 X6 (2 * trips i + 1)) (stA (bodyB.sl.r arg3 X3) (KA X4 X5) (blk X6) (2 * trips i + 1)) := (readCov_same _ _ _ _ _).trans ((dg0_congr (bodyB.sl.r arg3 X3) (readAt_blk _ _ _ _ (off20_eq i h4) _) (readAt_cblk _ _ _ _ (off21_eq i h4) _) e_v311 (readAt_vwin 256 _ _ _ _ (off23_eq i h4) _) e_v350))
  have e_v374 : (bodyB.sl.v374 i arg3 arg4 arg5 arg8 arg10 X3 X4 X5 h4) = (stM (bodyB.sl.r_1 arg3 X3) (KA X4 X5) (2 * trips i + 1)) := ((readCov_other _ _ _ _ _ 0 (by decide)).trans ((readCov_other _ _ _ _ _ 0 (by decide)).trans ((readCov_other _ _ _ _ _ 0 (by decide)).trans (readCov_same _ _ _ _ _)))).trans (congrArg₂ newM ((congrArg unS (readAt_asm _ (stripS (qs (bodyB.sl.r arg3 X3) (bodyB.sl.r_1 arg3 X3) (bodyB.sl.r_2 arg3 X3) (bodyB.sl.r_3 arg3 X3)) (KA X4 X5) (trips i)) 0 _)).trans (unS_sc3 _)) (readAt_asm _ (stripM (qs (bodyB.sl.r arg3 X3) (bodyB.sl.r_1 arg3 X3) (bodyB.sl.r_2 arg3 X3) (bodyB.sl.r_3 arg3 X3)) (KA X4 X5) (trips i)) 1 _))
  have e_v416 : (bodyB.sl.v416 i arg3 arg4 arg5 arg6 arg8 arg9 arg10 X3 X4 X5 X6 h4) = (stA (bodyB.sl.r_1 arg3 X3) (KA X4 X5) (blk X6) (2 * trips i + 1)) := ((readCov_other _ _ _ _ _ 0 (by decide)).trans ((readCov_other _ _ _ _ _ 0 (by decide)).trans ((readCov_other _ _ _ _ _ 0 (by decide)).trans (readCov_same _ _ _ _ _)))).trans (newA_congr ((congrArg unS (readAt_asm _ (stripS (qs (bodyB.sl.r arg3 X3) (bodyB.sl.r_1 arg3 X3) (bodyB.sl.r_2 arg3 X3) (bodyB.sl.r_3 arg3 X3)) (KA X4 X5) (trips i)) 0 _)).trans (unS_sc3 _)) (readAt_asm _ (stripM (qs (bodyB.sl.r arg3 X3) (bodyB.sl.r_1 arg3 X3) (bodyB.sl.r_2 arg3 X3) (bodyB.sl.r_3 arg3 X3)) (KA X4 X5) (trips i)) 1 _) (readAt_blk _ _ _ _ (off22_eq i h4) _) (readAt_asm _ (stripA (qs (bodyB.sl.r arg3 X3) (bodyB.sl.r_1 arg3 X3) (bodyB.sl.r_2 arg3 X3) (bodyB.sl.r_3 arg3 X3)) (KA X4 X5) (blk X6) (trips i)) 1 _))
  have e_v425 : (bodyB.sl.v425 i arg3 arg4 arg5 arg6 arg8 arg9 arg10 X3 X4 X5 X6 h4) = dg1 (bodyB.sl.r_1 arg3 X3) (blk X4 (2 * trips i + 1)) (cblk X5 (2 * trips i + 1)) (stM (bodyB.sl.r_1 arg3 X3) (KA X4 X5) (2 * trips i + 1)) (vwin 512 X6 (2 * trips i + 1)) (stA (bodyB.sl.r_1 arg3 X3) (KA X4 X5) (blk X6) (2 * trips i + 1)) := (readCov_same _ _ _ _ _).trans ((dg1_congr (bodyB.sl.r_1 arg3 X3) (readAt_blk _ _ _ _ (off20_eq i h4) _) (readAt_cblk _ _ _ _ (off21_eq i h4) _) e_v374 (readAt_vwin 512 _ _ _ _ (off24_eq i h4) _) e_v416))
  have e_v440 : (bodyB.sl.v440 i arg3 arg4 arg5 arg8 arg10 X3 X4 X5 h4) = (stM (bodyB.sl.r_2 arg3 X3) (KA X4 X5) (2 * trips i + 1)) := ((readCov_other _ _ _ _ _ 0 (by decide)).trans ((readCov_other _ _ _ _ _ 0 (by decide)).trans ((readCov_other _ _ _ _ _ 0 (by decide)).trans (readCov_same _ _ _ _ _)))).trans (congrArg₂ newM ((congrArg unS (readAt_asm _ (stripS (qs (bodyB.sl.r arg3 X3) (bodyB.sl.r_1 arg3 X3) (bodyB.sl.r_2 arg3 X3) (bodyB.sl.r_3 arg3 X3)) (KA X4 X5) (trips i)) 1 _)).trans (unS_sc3 _)) (readAt_asm _ (stripM (qs (bodyB.sl.r arg3 X3) (bodyB.sl.r_1 arg3 X3) (bodyB.sl.r_2 arg3 X3) (bodyB.sl.r_3 arg3 X3)) (KA X4 X5) (trips i)) 2 _))
  have e_v479 : (bodyB.sl.v479 i arg3 arg4 arg5 arg6 arg8 arg9 arg10 X3 X4 X5 X6 h4) = (stA (bodyB.sl.r_2 arg3 X3) (KA X4 X5) (blk X6) (2 * trips i + 1)) := ((readCov_other _ _ _ _ _ 0 (by decide)).trans ((readCov_other _ _ _ _ _ 0 (by decide)).trans ((readCov_other _ _ _ _ _ 0 (by decide)).trans (readCov_same _ _ _ _ _)))).trans (newA_congr ((congrArg unS (readAt_asm _ (stripS (qs (bodyB.sl.r arg3 X3) (bodyB.sl.r_1 arg3 X3) (bodyB.sl.r_2 arg3 X3) (bodyB.sl.r_3 arg3 X3)) (KA X4 X5) (trips i)) 1 _)).trans (unS_sc3 _)) (readAt_asm _ (stripM (qs (bodyB.sl.r arg3 X3) (bodyB.sl.r_1 arg3 X3) (bodyB.sl.r_2 arg3 X3) (bodyB.sl.r_3 arg3 X3)) (KA X4 X5) (trips i)) 2 _) (readAt_blk _ _ _ _ (off22_eq i h4) _) (readAt_asm _ (stripA (qs (bodyB.sl.r arg3 X3) (bodyB.sl.r_1 arg3 X3) (bodyB.sl.r_2 arg3 X3) (bodyB.sl.r_3 arg3 X3)) (KA X4 X5) (blk X6) (trips i)) 2 _))
  have e_v488 : (bodyB.sl.v488 i arg3 arg4 arg5 arg6 arg8 arg9 arg10 X3 X4 X5 X6 h4) = dg2 (bodyB.sl.r_2 arg3 X3) (blk X4 (2 * trips i + 1)) (cblk X5 (2 * trips i + 1)) (stM (bodyB.sl.r_2 arg3 X3) (KA X4 X5) (2 * trips i + 1)) (vwin 768 X6 (2 * trips i + 1)) (stA (bodyB.sl.r_2 arg3 X3) (KA X4 X5) (blk X6) (2 * trips i + 1)) := (readCov_same _ _ _ _ _).trans ((dg2_congr (bodyB.sl.r_2 arg3 X3) (readAt_blk _ _ _ _ (off20_eq i h4) _) (readAt_cblk _ _ _ _ (off21_eq i h4) _) e_v440 (readAt_vwin 768 _ _ _ _ (off25_eq i h4) _) e_v479))
  have e_v503 : (bodyB.sl.v503 i arg3 arg4 arg5 arg8 arg10 X3 X4 X5 h4) = (stM (bodyB.sl.r_3 arg3 X3) (KA X4 X5) (2 * trips i + 1)) := ((readCov_other _ _ _ _ _ 0 (by decide)).trans ((readCov_other _ _ _ _ _ 0 (by decide)).trans ((readCov_other _ _ _ _ _ 0 (by decide)).trans (readCov_same _ _ _ _ _)))).trans (congrArg₂ newM ((congrArg unS (readAt_asm _ (stripS (qs (bodyB.sl.r arg3 X3) (bodyB.sl.r_1 arg3 X3) (bodyB.sl.r_2 arg3 X3) (bodyB.sl.r_3 arg3 X3)) (KA X4 X5) (trips i)) 2 _)).trans (unS_sc3 _)) (readAt_asm _ (stripM (qs (bodyB.sl.r arg3 X3) (bodyB.sl.r_1 arg3 X3) (bodyB.sl.r_2 arg3 X3) (bodyB.sl.r_3 arg3 X3)) (KA X4 X5) (trips i)) 3 _))
  have e_v548 : (bodyB.sl.v548 i arg3 arg4 arg5 arg6 arg8 arg9 arg10 X3 X4 X5 X6 h4) = (stA (bodyB.sl.r_3 arg3 X3) (KA X4 X5) (blk X6) (2 * trips i + 1)) := ((readCov_other _ _ _ _ _ 0 (by decide)).trans ((readCov_other _ _ _ _ _ 0 (by decide)).trans ((readCov_other _ _ _ _ _ 0 (by decide)).trans (readCov_same _ _ _ _ _)))).trans (newA_congr ((congrArg unS (readAt_asm _ (stripS (qs (bodyB.sl.r arg3 X3) (bodyB.sl.r_1 arg3 X3) (bodyB.sl.r_2 arg3 X3) (bodyB.sl.r_3 arg3 X3)) (KA X4 X5) (trips i)) 2 _)).trans (unS_sc3 _)) (readAt_asm _ (stripM (qs (bodyB.sl.r arg3 X3) (bodyB.sl.r_1 arg3 X3) (bodyB.sl.r_2 arg3 X3) (bodyB.sl.r_3 arg3 X3)) (KA X4 X5) (trips i)) 3 _) (readAt_blk _ _ _ _ (off22_eq i h4) _) (readAt_asm _ (stripA (qs (bodyB.sl.r arg3 X3) (bodyB.sl.r_1 arg3 X3) (bodyB.sl.r_2 arg3 X3) (bodyB.sl.r_3 arg3 X3)) (KA X4 X5) (blk X6) (trips i)) 3 _))
  have e_v557 : (bodyB.sl.v557 i arg3 arg4 arg5 arg6 arg8 arg9 arg10 X3 X4 X5 X6 h4) = dg3 (bodyB.sl.r_3 arg3 X3) (blk X4 (2 * trips i + 1)) (cblk X5 (2 * trips i + 1)) (stM (bodyB.sl.r_3 arg3 X3) (KA X4 X5) (2 * trips i + 1)) (vwin 1024 X6 (2 * trips i + 1)) (stA (bodyB.sl.r_3 arg3 X3) (KA X4 X5) (blk X6) (2 * trips i + 1)) := (readCov_same _ _ _ _ _).trans ((dg3_congr (bodyB.sl.r_3 arg3 X3) (readAt_blk _ _ _ _ (off20_eq i h4) _) (readAt_cblk _ _ _ _ (off21_eq i h4) _) e_v503 (readAt_vwin 1024 _ _ _ _ (off20_eq i h4) _) e_v548))
  have g7 := (read_cols (F := F) arg7.view f7 (outs (qs (bodyB.sl.r arg3 X3) (bodyB.sl.r_1 arg3 X3) (bodyB.sl.r_2 arg3 X3) (bodyB.sl.r_3 arg3 X3)) X4 X5 X6 (2 * trips i + 1)) inb_S64x1024_S64x256_0_0 inb_S64x1024_S64x256_0_256 inb_S64x1024_S64x256_0_512 inb_S64x1024_S64x256_0_768
    (congrArg k0_pay155 e_v359) (congrArg k0_pay155 e_v425) (congrArg k0_pay155 e_v488) (congrArg k0_pay155 e_v557))
  rw [q0, q1, q2, q3] at g7
  isplitl [H3]; · iexact H3
  isplitl [H4]; · iexact H4
  isplitl [H5]; · iexact H5
  isplitl [H6]; · iexact H6
  isplitl [H7]; · iapply (pointsTo_rep_of_read (c : Thread nD τ) arg7 _ fullShare _ (g7.trans (congrArg (outTile X3 X4 X5 X6) (atB i h4).symm))); iexact H7
  isplitl [H8]; · iexists _; iexact H8
  isplitl [H9]; · iexists _; iexact H9
  isplitl [H10]; · iexists _; iexact H10
  iexists _
  iexact H11

theorem atC : ∀ i : grid0.Coords, k0_cond3 i = 1#1 → (i 2).val = (2 * trips i + 2) := by decide +kernel
theorem off12_eq : ∀ i : grid0.Coords, k0_cond3 i = 1#1 → k0_off12 i = ![0, 1024 * (2 * trips i + 1)] := by decide +kernel
theorem off13_eq : ∀ i : grid0.Coords, k0_cond3 i = 1#1 → k0_off13 i = ![0, 0, 1024 * (2 * trips i + 1)] := by decide +kernel
theorem off14_eq : ∀ i : grid0.Coords, k0_cond3 i = 1#1 → k0_off14 i = ![0, 1024 * (2 * trips i)] := by decide +kernel
theorem off15_eq : ∀ i : grid0.Coords, k0_cond3 i = 1#1 → k0_off15 i = ![0, 1024 * (2 * trips i + 2)] := by decide +kernel
theorem off16_eq : ∀ i : grid0.Coords, k0_cond3 i = 1#1 → k0_off16 i = ![0, 0, 1024 * (2 * trips i + 2)] := by decide +kernel
theorem off17_eq : ∀ i : grid0.Coords, k0_cond3 i = 1#1 → k0_off17 i = ![0, 1024 * (2 * trips i + 2)] := by decide +kernel
theorem off18_eq : ∀ i : grid0.Coords, k0_cond3 i = 1#1 → k0_off18 i = ![0, 1024 * (2 * trips i + 2)] := by decide +kernel
theorem off19_eq : ∀ i : grid0.Coords, k0_cond3 i = 1#1 → k0_off19 i = ![0, 1024 * (2 * trips i + 2)] := by decide +kernel

/-- A later even block: the loop, the held scores with one more block, the diagonal block. -/
theorem bodyC (c : Dev nD) (E : Set ℕ) (i : grid0.Coords) (arg3 : Memref sig .tc .vmem S64x1024 .bf16) (harg3 : arg3.IsWhole) (arg4 : Memref sig .tc .vmem S64x8192 .bf16) (harg4 : arg4.IsWhole) (arg5 : Memref sig .tc .vmem S1x16x8192 .bf16) (harg5 : arg5.IsWhole) (arg6 : Memref sig .tc .vmem S64x8192 .bf16) (harg6 : arg6.IsWhole) (arg7 : Memref sig .tc .vmem S64x1024 .bf16) (harg7 : arg7.IsWhole) (arg8 : Memref sig .tc .vmem S4x1x256 .f32) (harg8 : arg8.IsWhole) (arg9 : Memref sig .tc .vmem S4x80x256 .f32) (harg9 : arg9.IsWhole) (arg10 : Memref sig .tc .vmem S3x1024x256 .f32) (harg10 : arg10.IsWhole) (arg11 : Memref sig .tc .vmem S3x1024x256 .f32) (harg11 : arg11.IsWhole)
    (X3 : Vec F S64x1024 .bf16) (X4 : Vec F S64x8192 .bf16) (X5 : Vec F S1x16x8192 .bf16) (X6 : Vec F S64x8192 .bf16)
    (h1 : k0_cond1 i = 1#1) (h2 : ¬ k0_cond2 i = 1#1) (h3 : k0_cond3 i = 1#1) (h4 : ¬ k0_cond4 i = 1#1) :
    (iprop((arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6)
      ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) : sProp 𝕄G)
      ⊢ wp frame (wpE (defs₀ (F := F)) Variants.none (c : Thread nD τ) none) E (cc0_fox_attention i arg3 harg3 arg4 harg4 arg5 harg5 arg6 harg6 arg7 harg7 arg8 harg8 arg9 harg9 arg10 harg10 arg11 harg11)
          (fun _ => iprop((arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6)
            ∗ (arg7.view.loc (c : Thread nD τ) ↦[arg7.view.set]{fullShare} arg7.view.rep (outTile X3 X4 X5 X6 (i 2).val)) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))) := by
  simp only [cc0_fox_attention_eq_skeleton]; unfold cc0_fox_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  iintro ⟨H3, H4, H5, H6, ⟨%f7, H7⟩, ⟨%f8, H8⟩, ⟨%f9, H9⟩, ⟨%f10, H10⟩, ⟨%f11, H11⟩⟩
  sl_exec
  sl_for (fun k _ => Res c arg4 arg5 arg6 arg8 arg9 arg10 arg11 X4 X5 X6 (stripM (qs (bodyC.sl.r arg3 X3) (bodyC.sl.r_1 arg3 X3) (bodyC.sl.r_2 arg3 X3) (bodyC.sl.r_3 arg3 X3)) (KA X4 X5) k) (stripA (qs (bodyC.sl.r arg3 X3) (bodyC.sl.r_1 arg3 X3) (bodyC.sl.r_2 arg3 X3) (bodyC.sl.r_3 arg3 X3)) (KA X4 X5) (blk X6) k) (stripS (qs (bodyC.sl.r arg3 X3) (bodyC.sl.r_1 arg3 X3) (bodyC.sl.r_2 arg3 X3) (bodyC.sl.r_3 arg3 X3)) (KA X4 X5) k)) $$ [H4 H5 H6 H8 H9 H10 H11]
  case region =>
    intro k _
    have h := trip (F := F) Variants.none c none i arg3 harg3 arg4 harg4 arg5 harg5 arg6 harg6 arg7 harg7 arg8 harg8 arg9 harg9 arg10 harg10 arg11 harg11 (BitVec.ofNat 32 (i 2).val) (bodyC.sl.r arg3 X3) (bodyC.sl.r_1 arg3 X3) (bodyC.sl.r_2 arg3 X3) (bodyC.sl.r_3 arg3 X3) k0_pay343 k E X4 X5 X6 (stripM (qs (bodyC.sl.r arg3 X3) (bodyC.sl.r_1 arg3 X3) (bodyC.sl.r_2 arg3 X3) (bodyC.sl.r_3 arg3 X3)) (KA X4 X5) k) (stripA (qs (bodyC.sl.r arg3 X3) (bodyC.sl.r_1 arg3 X3) (bodyC.sl.r_2 arg3 X3) (bodyC.sl.r_3 arg3 X3)) (KA X4 X5) (blk X6) k) (stripS (qs (bodyC.sl.r arg3 X3) (bodyC.sl.r_1 arg3 X3) (bodyC.sl.r_2 arg3 X3) (bodyC.sl.r_3 arg3 X3)) (KA X4 X5) k)
    rw [tripM_strip (qs (bodyC.sl.r arg3 X3) (bodyC.sl.r_1 arg3 X3) (bodyC.sl.r_2 arg3 X3) (bodyC.sl.r_3 arg3 X3)) (KA X4 X5) k, tripA_strip (qs (bodyC.sl.r arg3 X3) (bodyC.sl.r_1 arg3 X3) (bodyC.sl.r_2 arg3 X3) (bodyC.sl.r_3 arg3 X3)) (KA X4 X5) (blk X6) k, tripS_strip (qs (bodyC.sl.r arg3 X3) (bodyC.sl.r_1 arg3 X3) (bodyC.sl.r_2 arg3 X3) (bodyC.sl.r_3 arg3 X3)) (KA X4 X5) k] at h
    exact h
  · have k0 : (bodyC.sl.v125 arg4 arg5 X4 X5) = KA X4 X5 0 := congrArg₂ kaug (readAt_blk _ _ 0 _ rfl _) (readAt_cblk _ _ 0 _ rfl _)
    have s0 : (bodyC.sl.v126 arg3 arg4 arg5 X3 X4 X5) = sc (bodyC.sl.r arg3 X3) (KA X4 X5 0) := congrArg (sc (bodyC.sl.r arg3 X3)) k0
    have m0 : (bodyC.sl.v139 arg8) = stM (bodyC.sl.r arg3 X3) (KA X4 X5) 0 := ((readCov_other _ _ _ _ _ 0 (by decide)).trans ((readCov_other _ _ _ _ _ 0 (by decide)).trans ((readCov_other _ _ _ _ _ 0 (by decide)).trans (readCov_same _ _ _ _ _))))
    have a0 : (bodyC.sl.v184 arg9) = stA (bodyC.sl.r arg3 X3) (KA X4 X5) (blk X6) 0 := ((readCov_other _ _ _ _ _ 0 (by decide)).trans ((readCov_other _ _ _ _ _ 0 (by decide)).trans ((readCov_other _ _ _ _ _ 0 (by decide)).trans (readCov_same _ _ _ _ _))))
    have g8 := read_five (F := F) arg8.view arg8.view.junk (stripM (qs (bodyC.sl.r arg3 X3) (bodyC.sl.r_1 arg3 X3) (bodyC.sl.r_2 arg3 X3) (bodyC.sl.r_3 arg3 X3)) (KA X4 X5) 0) inb_S4x1x256_S1x1x256_0_0_0 inb_S4x1x256_S1x1x256_1_0_0
      inb_S4x1x256_S1x1x256_2_0_0 inb_S4x1x256_S1x1x256_3_0_0 (stM (bodyC.sl.r arg3 X3) (KA X4 X5) 0) (w0 := k0_pay347 (bodyC.sl.v140 arg8) (bodyC.sl.v155 arg3 arg4 arg5 X3 X4 X5)) (congrArg₂ newM s0 m0) rfl rfl rfl
    have g9 := read_five (F := F) arg9.view arg9.view.junk (stripA (qs (bodyC.sl.r arg3 X3) (bodyC.sl.r_1 arg3 X3) (bodyC.sl.r_2 arg3 X3) (bodyC.sl.r_3 arg3 X3)) (KA X4 X5) (blk X6) 0) inb_S4x80x256_S1x80x256_0_0_0 inb_S4x80x256_S1x80x256_1_0_0
      inb_S4x80x256_S1x80x256_2_0_0 inb_S4x80x256_S1x80x256_3_0_0 (stA (bodyC.sl.r arg3 X3) (KA X4 X5) (blk X6) 0) (newA_congr s0 m0 (readAt_blk arg6.view X6 0 _ rfl inb_S64x8192_S64x1024_0_0) a0) rfl rfl rfl
    have g10 := read_three arg10.view arg10.view.junk (stripS (qs (bodyC.sl.r arg3 X3) (bodyC.sl.r_1 arg3 X3) (bodyC.sl.r_2 arg3 X3) (bodyC.sl.r_3 arg3 X3)) (KA X4 X5) 0) inb_S3x1024x256_S1x1024x256_0_0_0 inb_S3x1024x256_S1x1024x256_1_0_0
      inb_S3x1024x256_S1x1024x256_2_0_0 (congrArg (fun z => sc3 (sc (bodyC.sl.r_1 arg3 X3) z)) k0) (congrArg (fun z => sc3 (sc (bodyC.sl.r_2 arg3 X3) z)) k0) (congrArg (fun z => sc3 (sc (bodyC.sl.r_3 arg3 X3) z)) k0)
    unfold Res
    isplitl [H4]; · iexact H4
    isplitl [H5]; · iexact H5
    isplitl [H6]; · iexact H6
    isplitl [H8]; · iapply (pointsTo_rep_of_read (c : Thread nD τ) arg8 _ fullShare _ g8); iexact H8
    isplitl [H9]; · iapply (pointsTo_rep_of_read (c : Thread nD τ) arg9 _ fullShare _ g9); iexact H9
    isplitl [H10]; · iapply (pointsTo_rep_of_read (c : Thread nD τ) arg10 _ fullShare _ g10); iexact H10
    iexists _
    iexact H11
  iintro %_ HI
  unfold Res
  icases HI with ⟨H4, H5, H6, H8, H9, H10, ⟨%f11', H11⟩⟩
  sl_exec
  sl_step
  have q0 : (bodyC.sl.r arg3 X3) = qa X3 0 := congrArg k0_pay333 (readAt_strips2 _ _ 0 _ rfl _)
  have q1 : (bodyC.sl.r_1 arg3 X3) = qa X3 1 := congrArg k0_pay333 (readAt_strips2 _ _ 1 _ rfl _)
  have q2 : (bodyC.sl.r_2 arg3 X3) = qa X3 2 := congrArg k0_pay333 (readAt_strips2 _ _ 2 _ rfl _)
  have q3 : (bodyC.sl.r_3 arg3 X3) = qa X3 3 := congrArg k0_pay333 (readAt_strips2 _ _ 3 _ rfl _)
  have e_r_4 : (bodyC.sl.r_4 i arg4 arg5 X4 X5 h3) = KA X4 X5 (2 * trips i + 1) := (congrArg₂ kaug (readAt_blk _ _ _ _ (off12_eq i h3) _) (readAt_cblk _ _ _ _ (off13_eq i h3) _))
  have e_r_5 : (bodyC.sl.r_5 i arg3 arg4 arg5 X3 X4 X5 h3) = sc (bodyC.sl.r arg3 X3) (KA X4 X5 (2 * trips i + 1)) := congrArg (sc (bodyC.sl.r arg3 X3)) (congrArg₂ kaug (readAt_blk _ _ _ _ (off12_eq i h3) _) (readAt_cblk _ _ _ _ (off13_eq i h3) _))
  have e_v382 : (bodyC.sl.v382 i arg3 arg4 arg5 arg11 X3 X4 X5 h3) = sc3 (sc (bodyC.sl.r_1 arg3 X3) (KA X4 X5 (2 * trips i + 1))) := ((readCov_other _ _ _ _ _ 0 (by decide)).trans ((readCov_other _ _ _ _ _ 0 (by decide)).trans (readCov_same _ _ _ _ _))).trans (congrArg (fun z => sc3 (sc (bodyC.sl.r_1 arg3 X3) z)) e_r_4)
  have e_v384 : (bodyC.sl.v384 i arg3 arg4 arg5 arg8 arg10 X3 X4 X5 h3) = (stM (bodyC.sl.r_1 arg3 X3) (KA X4 X5) (2 * trips i + 1)) := ((readCov_other _ _ _ _ _ 0 (by decide)).trans ((readCov_other _ _ _ _ _ 0 (by decide)).trans ((readCov_other _ _ _ _ _ 0 (by decide)).trans (readCov_same _ _ _ _ _)))).trans (congrArg₂ newM ((congrArg unS (readAt_asm _ (stripS (qs (bodyC.sl.r arg3 X3) (bodyC.sl.r_1 arg3 X3) (bodyC.sl.r_2 arg3 X3) (bodyC.sl.r_3 arg3 X3)) (KA X4 X5) (trips i)) 0 _)).trans (unS_sc3 _)) (readAt_asm _ (stripM (qs (bodyC.sl.r arg3 X3) (bodyC.sl.r_1 arg3 X3) (bodyC.sl.r_2 arg3 X3) (bodyC.sl.r_3 arg3 X3)) (KA X4 X5) (trips i)) 1 _))
  have e_v429 : (bodyC.sl.v429 i arg3 arg4 arg5 arg6 arg8 arg9 arg10 X3 X4 X5 X6 h3) = (stA (bodyC.sl.r_1 arg3 X3) (KA X4 X5) (blk X6) (2 * trips i + 1)) := ((readCov_other _ _ _ _ _ 0 (by decide)).trans ((readCov_other _ _ _ _ _ 0 (by decide)).trans ((readCov_other _ _ _ _ _ 0 (by decide)).trans (readCov_same _ _ _ _ _)))).trans (newA_congr ((congrArg unS (readAt_asm _ (stripS (qs (bodyC.sl.r arg3 X3) (bodyC.sl.r_1 arg3 X3) (bodyC.sl.r_2 arg3 X3) (bodyC.sl.r_3 arg3 X3)) (KA X4 X5) (trips i)) 0 _)).trans (unS_sc3 _)) (readAt_asm _ (stripM (qs (bodyC.sl.r arg3 X3) (bodyC.sl.r_1 arg3 X3) (bodyC.sl.r_2 arg3 X3) (bodyC.sl.r_3 arg3 X3)) (KA X4 X5) (trips i)) 1 _) (readAt_blk _ _ _ _ (off14_eq i h3) _) (readAt_asm _ (stripA (qs (bodyC.sl.r arg3 X3) (bodyC.sl.r_1 arg3 X3) (bodyC.sl.r_2 arg3 X3) (bodyC.sl.r_3 arg3 X3)) (KA X4 X5) (blk X6) (trips i)) 1 _))
  have e_v438 : (bodyC.sl.v438 i arg3 arg4 arg5 arg11 X3 X4 X5 h3) = sc3 (sc (bodyC.sl.r_2 arg3 X3) (KA X4 X5 (2 * trips i + 1))) := ((readCov_other _ _ _ _ _ 0 (by decide)).trans (readCov_same _ _ _ _ _)).trans (congrArg (fun z => sc3 (sc (bodyC.sl.r_2 arg3 X3) z)) e_r_4)
  have e_v440 : (bodyC.sl.v440 i arg3 arg4 arg5 arg8 arg10 arg11 X3 X4 X5 h3) = (stM (bodyC.sl.r_2 arg3 X3) (KA X4 X5) (2 * trips i + 1)) := ((readCov_other _ _ _ _ _ 0 (by decide)).trans ((readCov_other _ _ _ _ _ 0 (by decide)).trans ((readCov_other _ _ _ _ _ 0 (by decide)).trans (readCov_same _ _ _ _ _)))).trans (congrArg₂ newM ((congrArg unS (readAt_asm _ (stripS (qs (bodyC.sl.r arg3 X3) (bodyC.sl.r_1 arg3 X3) (bodyC.sl.r_2 arg3 X3) (bodyC.sl.r_3 arg3 X3)) (KA X4 X5) (trips i)) 1 _)).trans (unS_sc3 _)) (readAt_asm _ (stripM (qs (bodyC.sl.r arg3 X3) (bodyC.sl.r_1 arg3 X3) (bodyC.sl.r_2 arg3 X3) (bodyC.sl.r_3 arg3 X3)) (KA X4 X5) (trips i)) 2 _))
  have e_v485 : (bodyC.sl.v485 i arg3 arg4 arg5 arg6 arg8 arg9 arg10 arg11 X3 X4 X5 X6 h3) = (stA (bodyC.sl.r_2 arg3 X3) (KA X4 X5) (blk X6) (2 * trips i + 1)) := ((readCov_other _ _ _ _ _ 0 (by decide)).trans ((readCov_other _ _ _ _ _ 0 (by decide)).trans ((readCov_other _ _ _ _ _ 0 (by decide)).trans (readCov_same _ _ _ _ _)))).trans (newA_congr ((congrArg unS (readAt_asm _ (stripS (qs (bodyC.sl.r arg3 X3) (bodyC.sl.r_1 arg3 X3) (bodyC.sl.r_2 arg3 X3) (bodyC.sl.r_3 arg3 X3)) (KA X4 X5) (trips i)) 1 _)).trans (unS_sc3 _)) (readAt_asm _ (stripM (qs (bodyC.sl.r arg3 X3) (bodyC.sl.r_1 arg3 X3) (bodyC.sl.r_2 arg3 X3) (bodyC.sl.r_3 arg3 X3)) (KA X4 X5) (trips i)) 2 _) (readAt_blk _ _ _ _ (off14_eq i h3) _) (readAt_asm _ (stripA (qs (bodyC.sl.r arg3 X3) (bodyC.sl.r_1 arg3 X3) (bodyC.sl.r_2 arg3 X3) (bodyC.sl.r_3 arg3 X3)) (KA X4 X5) (blk X6) (trips i)) 2 _))
  have e_v494 : (bodyC.sl.v494 i arg3 arg4 arg5 arg11 X3 X4 X5 h3) = sc3 (sc (bodyC.sl.r_3 arg3 X3) (KA X4 X5 (2 * trips i + 1))) := (readCov_same _ _ _ _ _).trans (congrArg (fun z => sc3 (sc (bodyC.sl.r_3 arg3 X3) z)) e_r_4)
  have e_v496 : (bodyC.sl.v496 i arg3 arg4 arg5 arg8 arg10 arg11 X3 X4 X5 h3) = (stM (bodyC.sl.r_3 arg3 X3) (KA X4 X5) (2 * trips i + 1)) := ((readCov_other _ _ _ _ _ 0 (by decide)).trans ((readCov_other _ _ _ _ _ 0 (by decide)).trans ((readCov_other _ _ _ _ _ 0 (by decide)).trans (readCov_same _ _ _ _ _)))).trans (congrArg₂ newM ((congrArg unS (readAt_asm _ (stripS (qs (bodyC.sl.r arg3 X3) (bodyC.sl.r_1 arg3 X3) (bodyC.sl.r_2 arg3 X3) (bodyC.sl.r_3 arg3 X3)) (KA X4 X5) (trips i)) 2 _)).trans (unS_sc3 _)) (readAt_asm _ (stripM (qs (bodyC.sl.r arg3 X3) (bodyC.sl.r_1 arg3 X3) (bodyC.sl.r_2 arg3 X3) (bodyC.sl.r_3 arg3 X3)) (KA X4 X5) (trips i)) 3 _))
  have e_v541 : (bodyC.sl.v541 i arg3 arg4 arg5 arg6 arg8 arg9 arg10 arg11 X3 X4 X5 X6 h3) = (stA (bodyC.sl.r_3 arg3 X3) (KA X4 X5) (blk X6) (2 * trips i + 1)) := ((readCov_other _ _ _ _ _ 0 (by decide)).trans ((readCov_other _ _ _ _ _ 0 (by decide)).trans ((readCov_other _ _ _ _ _ 0 (by decide)).trans (readCov_same _ _ _ _ _)))).trans (newA_congr ((congrArg unS (readAt_asm _ (stripS (qs (bodyC.sl.r arg3 X3) (bodyC.sl.r_1 arg3 X3) (bodyC.sl.r_2 arg3 X3) (bodyC.sl.r_3 arg3 X3)) (KA X4 X5) (trips i)) 2 _)).trans (unS_sc3 _)) (readAt_asm _ (stripM (qs (bodyC.sl.r arg3 X3) (bodyC.sl.r_1 arg3 X3) (bodyC.sl.r_2 arg3 X3) (bodyC.sl.r_3 arg3 X3)) (KA X4 X5) (trips i)) 3 _) (readAt_blk _ _ _ _ (off14_eq i h3) _) (readAt_asm _ (stripA (qs (bodyC.sl.r arg3 X3) (bodyC.sl.r_1 arg3 X3) (bodyC.sl.r_2 arg3 X3) (bodyC.sl.r_3 arg3 X3)) (KA X4 X5) (blk X6) (trips i)) 3 _))
  have e_v557 : (bodyC.sl.v557 i arg3 arg4 arg5 arg8 arg10 arg11 X3 X4 X5 h3) = (stM (bodyC.sl.r arg3 X3) (KA X4 X5) (2 * trips i + 2)) := ((readCov_other _ _ _ _ _ 0 (by decide)).trans ((readCov_other _ _ _ _ _ 0 (by decide)).trans ((readCov_other _ _ _ _ _ 0 (by decide)).trans (readCov_same _ _ _ _ _)))).trans (congrArg₂ newM e_r_5 (readAt_asm _ (stripM (qs (bodyC.sl.r arg3 X3) (bodyC.sl.r_1 arg3 X3) (bodyC.sl.r_2 arg3 X3) (bodyC.sl.r_3 arg3 X3)) (KA X4 X5) (trips i)) 0 _))
  have e_v596 : (bodyC.sl.v596 i arg3 arg4 arg5 arg6 arg8 arg9 arg10 arg11 X3 X4 X5 X6 h3) = (stA (bodyC.sl.r arg3 X3) (KA X4 X5) (blk X6) (2 * trips i + 2)) := ((readCov_other _ _ _ _ _ 0 (by decide)).trans ((readCov_other _ _ _ _ _ 0 (by decide)).trans ((readCov_other _ _ _ _ _ 0 (by decide)).trans (readCov_same _ _ _ _ _)))).trans (newA_congr e_r_5 (readAt_asm _ (stripM (qs (bodyC.sl.r arg3 X3) (bodyC.sl.r_1 arg3 X3) (bodyC.sl.r_2 arg3 X3) (bodyC.sl.r_3 arg3 X3)) (KA X4 X5) (trips i)) 0 _) (readAt_blk _ _ _ _ (off12_eq i h3) _) (readAt_asm _ (stripA (qs (bodyC.sl.r arg3 X3) (bodyC.sl.r_1 arg3 X3) (bodyC.sl.r_2 arg3 X3) (bodyC.sl.r_3 arg3 X3)) (KA X4 X5) (blk X6) (trips i)) 0 _))
  have e_v605 : (bodyC.sl.v605 i arg3 arg4 arg5 arg6 arg8 arg9 arg10 arg11 X3 X4 X5 X6 h3) = dg0 (bodyC.sl.r arg3 X3) (blk X4 (2 * trips i + 2)) (cblk X5 (2 * trips i + 2)) (stM (bodyC.sl.r arg3 X3) (KA X4 X5) (2 * trips i + 2)) (vwin 256 X6 (2 * trips i + 2)) (stA (bodyC.sl.r arg3 X3) (KA X4 X5) (blk X6) (2 * trips i + 2)) := (readCov_same _ _ _ _ _).trans ((dg0_congr (bodyC.sl.r arg3 X3) (readAt_blk _ _ _ _ (off15_eq i h3) _) (readAt_cblk _ _ _ _ (off16_eq i h3) _) e_v557 (readAt_vwin 256 _ _ _ _ (off17_eq i h3) _) e_v596))
  have e_v620 : (bodyC.sl.v620 i arg3 arg4 arg5 arg8 arg10 arg11 X3 X4 X5 h3) = (stM (bodyC.sl.r_1 arg3 X3) (KA X4 X5) (2 * trips i + 2)) := ((readCov_other _ _ _ _ _ 0 (by decide)).trans ((readCov_other _ _ _ _ _ 0 (by decide)).trans ((readCov_other _ _ _ _ _ 0 (by decide)).trans (readCov_same _ _ _ _ _)))).trans (congrArg₂ newM ((congrArg unS e_v382).trans (unS_sc3 _)) e_v384)
  have e_v662 : (bodyC.sl.v662 i arg3 arg4 arg5 arg6 arg8 arg9 arg10 arg11 X3 X4 X5 X6 h3) = (stA (bodyC.sl.r_1 arg3 X3) (KA X4 X5) (blk X6) (2 * trips i + 2)) := ((readCov_other _ _ _ _ _ 0 (by decide)).trans ((readCov_other _ _ _ _ _ 0 (by decide)).trans ((readCov_other _ _ _ _ _ 0 (by decide)).trans (readCov_same _ _ _ _ _)))).trans (newA_congr ((congrArg unS e_v382).trans (unS_sc3 _)) e_v384 (readAt_blk _ _ _ _ (off12_eq i h3) _) e_v429)
  have e_v671 : (bodyC.sl.v671 i arg3 arg4 arg5 arg6 arg8 arg9 arg10 arg11 X3 X4 X5 X6 h3) = dg1 (bodyC.sl.r_1 arg3 X3) (blk X4 (2 * trips i + 2)) (cblk X5 (2 * trips i + 2)) (stM (bodyC.sl.r_1 arg3 X3) (KA X4 X5) (2 * trips i + 2)) (vwin 512 X6 (2 * trips i + 2)) (stA (bodyC.sl.r_1 arg3 X3) (KA X4 X5) (blk X6) (2 * trips i + 2)) := (readCov_same _ _ _ _ _).trans ((dg1_apart _ _ _ _ _ _).trans (dg1_congr (bodyC.sl.r_1 arg3 X3) (readAt_blk _ _ _ _ (off15_eq i h3) _) (readAt_cblk _ _ _ _ (off16_eq i h3) _) e_v620 (readAt_vwin 512 _ _ _ _ (off18_eq i h3) _) e_v662))
  have e_v686 : (bodyC.sl.v686 i arg3 arg4 arg5 arg8 arg10 arg11 X3 X4 X5 h3) = (stM (bodyC.sl.r_2 arg3 X3) (KA X4 X5) (2 * trips i + 2)) := ((readCov_other _ _ _ _ _ 0 (by decide)).trans ((readCov_other _ _ _ _ _ 0 (by decide)).trans ((readCov_other _ _ _ _ _ 0 (by decide)).trans (readCov_same _ _ _ _ _)))).trans (congrArg₂ newM ((congrArg unS e_v438).trans (unS_sc3 _)) e_v440)
  have e_v725 : (bodyC.sl.v725 i arg3 arg4 arg5 arg6 arg8 arg9 arg10 arg11 X3 X4 X5 X6 h3) = (stA (bodyC.sl.r_2 arg3 X3) (KA X4 X5) (blk X6) (2 * trips i + 2)) := ((readCov_other _ _ _ _ _ 0 (by decide)).trans ((readCov_other _ _ _ _ _ 0 (by decide)).trans ((readCov_other _ _ _ _ _ 0 (by decide)).trans (readCov_same _ _ _ _ _)))).trans (newA_congr ((congrArg unS e_v438).trans (unS_sc3 _)) e_v440 (readAt_blk _ _ _ _ (off12_eq i h3) _) e_v485)
  have e_v734 : (bodyC.sl.v734 i arg3 arg4 arg5 arg6 arg8 arg9 arg10 arg11 X3 X4 X5 X6 h3) = dg2 (bodyC.sl.r_2 arg3 X3) (blk X4 (2 * trips i + 2)) (cblk X5 (2 * trips i + 2)) (stM (bodyC.sl.r_2 arg3 X3) (KA X4 X5) (2 * trips i + 2)) (vwin 768 X6 (2 * trips i + 2)) (stA (bodyC.sl.r_2 arg3 X3) (KA X4 X5) (blk X6) (2 * trips i + 2)) := (readCov_same _ _ _ _ _).trans ((dg2_congr (bodyC.sl.r_2 arg3 X3) (readAt_blk _ _ _ _ (off15_eq i h3) _) (readAt_cblk _ _ _ _ (off16_eq i h3) _) e_v686 (readAt_vwin 768 _ _ _ _ (off19_eq i h3) _) e_v725))
  have e_v749 : (bodyC.sl.v749 i arg3 arg4 arg5 arg8 arg10 arg11 X3 X4 X5 h3) = (stM (bodyC.sl.r_3 arg3 X3) (KA X4 X5) (2 * trips i + 2)) := ((readCov_other _ _ _ _ _ 0 (by decide)).trans ((readCov_other _ _ _ _ _ 0 (by decide)).trans ((readCov_other _ _ _ _ _ 0 (by decide)).trans (readCov_same _ _ _ _ _)))).trans (congrArg₂ newM ((congrArg unS e_v494).trans (unS_sc3 _)) e_v496)
  have e_v794 : (bodyC.sl.v794 i arg3 arg4 arg5 arg6 arg8 arg9 arg10 arg11 X3 X4 X5 X6 h3) = (stA (bodyC.sl.r_3 arg3 X3) (KA X4 X5) (blk X6) (2 * trips i + 2)) := ((readCov_other _ _ _ _ _ 0 (by decide)).trans ((readCov_other _ _ _ _ _ 0 (by decide)).trans ((readCov_other _ _ _ _ _ 0 (by decide)).trans (readCov_same _ _ _ _ _)))).trans (newA_congr ((congrArg unS e_v494).trans (unS_sc3 _)) e_v496 (readAt_blk _ _ _ _ (off12_eq i h3) _) e_v541)
  have e_v803 : (bodyC.sl.v803 i arg3 arg4 arg5 arg6 arg8 arg9 arg10 arg11 X3 X4 X5 X6 h3) = dg3 (bodyC.sl.r_3 arg3 X3) (blk X4 (2 * trips i + 2)) (cblk X5 (2 * trips i + 2)) (stM (bodyC.sl.r_3 arg3 X3) (KA X4 X5) (2 * trips i + 2)) (vwin 1024 X6 (2 * trips i + 2)) (stA (bodyC.sl.r_3 arg3 X3) (KA X4 X5) (blk X6) (2 * trips i + 2)) := (readCov_same _ _ _ _ _).trans ((dg3_congr (bodyC.sl.r_3 arg3 X3) (readAt_blk _ _ _ _ (off15_eq i h3) _) (readAt_cblk _ _ _ _ (off16_eq i h3) _) e_v749 (readAt_vwin 1024 _ _ _ _ (off15_eq i h3) _) e_v794))
  have g7 := (read_cols (F := F) arg7.view f7 (outs (qs (bodyC.sl.r arg3 X3) (bodyC.sl.r_1 arg3 X3) (bodyC.sl.r_2 arg3 X3) (bodyC.sl.r_3 arg3 X3)) X4 X5 X6 (2 * trips i + 2)) inb_S64x1024_S64x256_0_0 inb_S64x1024_S64x256_0_256 inb_S64x1024_S64x256_0_512 inb_S64x1024_S64x256_0_768
    (congrArg k0_pay155 e_v605) (congrArg k0_pay155 e_v671) (congrArg k0_pay155 e_v734) (congrArg k0_pay155 e_v803))
  rw [q0, q1, q2, q3] at g7
  isplitl [H3]; · iexact H3
  isplitl [H4]; · iexact H4
  isplitl [H5]; · iexact H5
  isplitl [H6]; · iexact H6
  isplitl [H7]; · iapply (pointsTo_rep_of_read (c : Thread nD τ) arg7 _ fullShare _ (g7.trans (congrArg (outTile X3 X4 X5 X6) (atC i h3).symm))); iexact H7
  isplitl [H8]; · iexists _; iexact H8
  isplitl [H9]; · iexists _; iexact H9
  isplitl [H10]; · iexists _; iexact H10
  iexists _
  iexact H11

end Cert.KernelIdeal.Fox

end
-- ==== Proof.Fox.Frame.lean ====
/-
  The attention kernel's run on every grid step and its frame: every step stores `outTile` of its blocks.
-/
module

public import proofs.«01_k».proof.Proof.Fox.Body
public import proofs.«01_k».proof.Proof.Gen.KernelIdeal.Frame
public import Idealize.ShloMosaic.Lib.Claim

@[expose] public section

set_option maxRecDepth 16384

noncomputable section

namespace Cert.KernelIdeal.Fox

open Cert.KernelIdeal Cert.KernelIdeal.Gen Cert.Fox
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] [∀ e, Nonempty (Elt F e)]

local notation "𝕄G" => MT nD τ sig Unit (Elt F) ℕ (UR sig nD τ) ℕ

theorem notIdle : ∀ i : grid0.Coords, idle0 4 i = false := by decide +kernel

theorem steps : ∀ i : grid0.Coords, (¬ k0_cond1 i = 1#1 ∧ k0_cond2 i = 1#1 ∧ ¬ k0_cond3 i = 1#1 ∧ ¬ k0_cond4 i = 1#1 ∧ (k0_t1_loop i).trips = 0)
    ∨ (k0_cond1 i = 1#1 ∧ ¬ k0_cond2 i = 1#1 ∧ ¬ k0_cond3 i = 1#1 ∧ k0_cond4 i = 1#1)
    ∨ (k0_cond1 i = 1#1 ∧ ¬ k0_cond2 i = 1#1 ∧ k0_cond3 i = 1#1 ∧ ¬ k0_cond4 i = 1#1) := by decide +kernel

/-- The kernel on one grid step: it stores `outTile` of its blocks. -/
theorem body (c : Dev nD) (E : Set ℕ) (i : grid0.Coords) (arg3 : Memref sig .tc .vmem S64x1024 .bf16) (harg3 : arg3.IsWhole) (arg4 : Memref sig .tc .vmem S64x8192 .bf16) (harg4 : arg4.IsWhole) (arg5 : Memref sig .tc .vmem S1x16x8192 .bf16) (harg5 : arg5.IsWhole) (arg6 : Memref sig .tc .vmem S64x8192 .bf16) (harg6 : arg6.IsWhole) (arg7 : Memref sig .tc .vmem S64x1024 .bf16) (harg7 : arg7.IsWhole) (arg8 : Memref sig .tc .vmem S4x1x256 .f32) (harg8 : arg8.IsWhole) (arg9 : Memref sig .tc .vmem S4x80x256 .f32) (harg9 : arg9.IsWhole) (arg10 : Memref sig .tc .vmem S3x1024x256 .f32) (harg10 : arg10.IsWhole) (arg11 : Memref sig .tc .vmem S3x1024x256 .f32) (harg11 : arg11.IsWhole)
    (X3 : Vec F S64x1024 .bf16) (X4 : Vec F S64x8192 .bf16) (X5 : Vec F S1x16x8192 .bf16) (X6 : Vec F S64x8192 .bf16) :
    (iprop((arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6)
      ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) : sProp 𝕄G)
      ⊢ wp frame (wpE (defs₀ (F := F)) Variants.none (c : Thread nD τ) none) E (cc0_fox_attention i arg3 harg3 arg4 harg4 arg5 harg5 arg6 harg6 arg7 harg7 arg8 harg8 arg9 harg9 arg10 harg10 arg11 harg11)
          (fun _ => iprop((arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6)
            ∗ (arg7.view.loc (c : Thread nD τ) ↦[arg7.view.set]{fullShare} arg7.view.rep (outTile X3 X4 X5 X6 (i 2).val)) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))) := by
  rcases steps i with ⟨h1, h2, h3, h4, ht⟩ | ⟨h1, h2, h3, h4⟩ | ⟨h1, h2, h3, h4⟩
  · exact bodyA c E i arg3 harg3 arg4 harg4 arg5 harg5 arg6 harg6 arg7 harg7 arg8 harg8 arg9 harg9 arg10 harg10 arg11 harg11 X3 X4 X5 X6 h1 h2 h3 h4 ht
  · exact bodyB c E i arg3 harg3 arg4 harg4 arg5 harg5 arg6 harg6 arg7 harg7 arg8 harg8 arg9 harg9 arg10 harg10 arg11 harg11 X3 X4 X5 X6 h1 h2 h3 h4
  · exact bodyC c E i arg3 harg3 arg4 harg4 arg5 harg5 arg6 harg6 arg7 harg7 arg8 harg8 arg9 harg9 arg10 harg10 arg11 harg11 X3 X4 X5 X6 h1 h2 h3 h4

theorem owns_rep {sp : Space} {s : Shape} {e : EltTy} (c : Dev nD) (a : Memref sig .tc sp s e) (X : Vec F s e) :
    (owns (c : Thread nD τ) a fullShare X : sProp 𝕄G) ⊢ a.view.loc (c : Thread nD τ) ↦[a.view.set]{fullShare} a.view.rep X := by
  unfold owns
  iintro ⟨%f, %hf, H⟩
  iapply (pointsTo_rep_of_read (c : Thread nD τ) a _ fullShare _ hf)
  iexact H

theorem rep_owns {sp : Space} {s : Shape} {e : EltTy} (c : Dev nD) (a : Memref sig .tc sp s e) (X : Vec F s e) :
    (a.view.loc (c : Thread nD τ) ↦[a.view.set]{fullShare} a.view.rep X : sProp 𝕄G) ⊢ owns (c : Thread nD τ) a fullShare X := by
  unfold owns
  iintro H
  iexists _
  isplitr
  swap; · iexact H
  ipureintro
  exact View.read_rep a.view X

theorem any_set {sp : Space} {s : Shape} {e : EltTy} (c : Dev nD) (a : Memref sig .tc sp s e) (X : Vec F s e) :
    (owns (c : Thread nD τ) a fullShare X : sProp 𝕄G) ⊢ ∃ f, a.view.loc (c : Thread nD τ) ↦[a.view.set]{fullShare} f := by
  iintro H
  iexists _
  iapply (owns_rep c a X)
  iexact H

/-- The same on staging buffers held at their contents, to a continuation. -/
theorem sound_kernel (c : Dev nD) (E : Set ℕ) (i : grid0.Coords) (arg3 : Memref sig .tc .vmem S64x1024 .bf16) (harg3 : arg3.IsWhole) (arg4 : Memref sig .tc .vmem S64x8192 .bf16) (harg4 : arg4.IsWhole) (arg5 : Memref sig .tc .vmem S1x16x8192 .bf16) (harg5 : arg5.IsWhole) (arg6 : Memref sig .tc .vmem S64x8192 .bf16) (harg6 : arg6.IsWhole) (arg7 : Memref sig .tc .vmem S64x1024 .bf16) (harg7 : arg7.IsWhole) (arg8 : Memref sig .tc .vmem S4x1x256 .f32) (harg8 : arg8.IsWhole) (arg9 : Memref sig .tc .vmem S4x80x256 .f32) (harg9 : arg9.IsWhole) (arg10 : Memref sig .tc .vmem S3x1024x256 .f32) (harg10 : arg10.IsWhole) (arg11 : Memref sig .tc .vmem S3x1024x256 .f32) (harg11 : arg11.IsWhole)
    (X3 : Vec F S64x1024 .bf16) (X4 : Vec F S64x8192 .bf16) (X5 : Vec F S1x16x8192 .bf16) (X6 : Vec F S64x8192 .bf16) (K : PUnit → sProp 𝕄G) :
    iprop(owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ ((∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))
        ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (outTile X3 X4 X5 X6 (i 2).val) ∗ ((∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))) -∗ K PUnit.unit))
      ⊢ wp frame (wpE (defs₀ (F := F)) Variants.none (c : Thread nD τ) none) E (cc0_fox_attention i arg3 harg3 arg4 harg4 arg5 harg5 arg6 harg6 arg7 harg7 arg8 harg8 arg9 harg9 arg10 harg10 arg11 harg11) K := by
  iintro ⟨H3, H4, H5, H6, ⟨%d7, H7⟩, ⟨H8, H9, H10, H11⟩, Hk⟩
  iapply (wp_wand_r Idealize.ShloMosaic.frame (wpE (defs₀ (F := F)) Variants.none (c : Thread nD τ) none) E)
  isplitl [H3 H4 H5 H6 H7 H8 H9 H10 H11]
  · iapply (body c E i arg3 harg3 arg4 harg4 arg5 harg5 arg6 harg6 arg7 harg7 arg8 harg8 arg9 harg9 arg10 harg10 arg11 harg11 X3 X4 X5 X6)
    isplitl [H3]; · iapply (owns_rep c arg3 X3); iexact H3
    isplitl [H4]; · iapply (owns_rep c arg4 X4); iexact H4
    isplitl [H5]; · iapply (owns_rep c arg5 X5); iexact H5
    isplitl [H6]; · iapply (owns_rep c arg6 X6); iexact H6
    isplitl [H7]; · iapply (any_set c arg7 d7); iexact H7
    isplitl [H8]; · iexact H8
    isplitl [H9]; · iexact H9
    isplitl [H10]; · iexact H10
    iexact H11
  · iintro %u ⟨H3, H4, H5, H6, H7, H8, H9, H10, H11⟩
    iapply Hk
    isplitl [H3]; · iapply (rep_owns c arg3 X3); iexact H3
    isplitl [H4]; · iapply (rep_owns c arg4 X4); iexact H4
    isplitl [H5]; · iapply (rep_owns c arg5 X5); iexact H5
    isplitl [H6]; · iapply (rep_owns c arg6 X6); iexact H6
    isplitl [H7]; · iapply (rep_owns c arg7 (outTile X3 X4 X5 X6 (i 2).val)); iexact H7
    isplitl [H8]; · iexact H8
    isplitl [H9]; · iexact H9
    isplitl [H10]; · iexact H10
    iexact H11

/-- The scratch buffers of the invariant, as the kernel addresses them. -/
theorem inv_scratch (c : Dev nD) : (Pipeline.ΦA (Val := Elt F) (U := UR sig nD τ) spec0 c : sProp 𝕄G)
    = iprop(((∃ f, (Memref.whole cc0_scratch0).view.loc (c : Thread nD τ) ↦[(Memref.whole cc0_scratch0).view.set]{fullShare} f) ∗ (∃ f, (Memref.whole cc0_scratch1).view.loc (c : Thread nD τ) ↦[(Memref.whole cc0_scratch1).view.set]{fullShare} f) ∗ (∃ f, (Memref.whole cc0_scratch2).view.loc (c : Thread nD τ) ↦[(Memref.whole cc0_scratch2).view.set]{fullShare} f) ∗ (∃ f, (Memref.whole cc0_scratch3).view.loc (c : Thread nD τ) ↦[(Memref.whole cc0_scratch3).view.set]{fullShare} f)) ∗ ∃ r, prngReg c r) := by
  unfold Pipeline.ΦA
  rw [scopedRest0_eq]
  simp only [Memref.whole, View.set_whole]

variable (m : (ℓ : Loc nD τ sig) → Buf (Elt F) ℓ) (ρ : Dev nD → PrngReg)

/-- The proof data: each input's buffer at its block, the output's at the tile the kernel stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t) ((grid0.coords t) 2).val
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outTile (iblk m c 0 t) (iblk m c 1 t) (iblk m c 2 t) (iblk m c 3 t) ((grid0.coords t) 2).val := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl, inv_scratch,
    show (dats m 0 c).owesAt () t.succ = (dats m 0 c).owesAt () t.castSucc from rfl,
    after0_0, after0_1, after0_2, after0_3, after0_4]
  iintro ⟨⟨HS, Hr⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by
    dsimp only
    rw [notIdle]
    exact .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The kernel ends, its arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Fox

end
-- ==== Proof.Fox.Pair.lean ====
/- The attention kernel's array after the run, as one function of its arguments.

   Grid point `t` is batch `t / 64`, head `t / 8 % 8` and query tile `t % 8`; it reads that head's rows of the tile's queries and
   of the batch's keys, pieces and values. What it writes back is its block of `G` (`flushed_eq`), and the points' blocks tile
   the result (`covered`), so the array after the run is `G` of the arguments (`run`). -/
module

public import proofs.«01_k».proof.Proof.Fox.Tile
public import proofs.«01_k».proof.Proof.Fox.Frame

@[expose] public section

set_option maxRecDepth 16384

noncomputable section

namespace Cert.KernelIdeal.Fox

open Cert.KernelIdeal Cert.KernelIdeal.Gen Cert.Fox Cert.Fox.Softmax Idealize.ShloMosaic Idealize.ShloMosaic.TcCoe Idealize.SL.Sem
open scoped BigOperators

/-- Channel `d` of head `h` as a row of the transposed arrays. -/
def row (h : Fin 8) (d : Fin 64) : Fin 512 := ⟨h.val * 64 + d.val, by have := h.isLt; have := d.isLt; omega⟩

/-- Position `x` of batch `b` as a column of the transposed arrays. -/
def col (b : Fin 2) (x : Fin 8192) : Fin 16384 := ⟨b.val * 8192 + x.val, by have := b.isLt; have := x.isLt; omega⟩

/-- The score of a head's query at position `x` against its key at position `p`, less the query's own forget sum. -/
def gscore (x0 x1 : Vec Ideal S512x16384 .bf16) (x2 : Vec Ideal S8x16x16384 .bf16) (h : Fin 8) (b : Fin 2) (x : Fin 8192) (p : ℕ) : EReal :=
  (∑ d : Fin 64, x1 (ix2 (row h d) (col b (pos p))) * x0 (ix2 (row h d) (col b x)))
    + (x2 (ix3 h 0 (col b (pos p))) + x2 (ix3 h 1 (col b (pos p))) + x2 (ix3 h 2 (col b (pos p))))

/-- The attention's output for a head's channel at a position. -/
def gat (x0 x1 : Vec Ideal S512x16384 .bf16) (x2 : Vec Ideal S8x16x16384 .bf16) (x3 : Vec Ideal S512x16384 .bf16)
    (h : Fin 8) (d : Fin 64) (b : Fin 2) (x : Fin 8192) : EReal :=
  att (masked (gscore x0 x1 x2 h b x) x.val) (fun p => x3 (ix2 (row h d) (col b (pos p)))) 8192

/-- The result array as one function of the argument arrays. -/
def G (x0 x1 : Vec Ideal S512x16384 .bf16) (x2 : Vec Ideal S8x16x16384 .bf16) (x3 : Vec Ideal S512x16384 .bf16) : Vec Ideal S512x16384 .bf16 := fun i =>
  gat x0 x1 x2 x3 ⟨(i 0).val / 64, by have : (i 0).val < 512 := (i 0).isLt; omega⟩ ⟨(i 0).val % 64, Nat.mod_lt _ (by decide)⟩
    ⟨(i 1).val / 8192, by have : (i 1).val < 16384 := (i 1).isLt; omega⟩ ⟨(i 1).val % 8192, Nat.mod_lt _ (by decide)⟩

theorem G_apply (x0 x1 : Vec Ideal S512x16384 .bf16) (x2 : Vec Ideal S8x16x16384 .bf16) (x3 : Vec Ideal S512x16384 .bf16)
    (h : Fin 8) (d : Fin 64) (b : Fin 2) (x : Fin 8192) : G x0 x1 x2 x3 (ix2 (row h d) (col b x)) = gat x0 x1 x2 x3 h d b x := by
  have hh := h.isLt; have hd := d.isLt; have hb := b.isLt; have hx := x.isLt
  refine congr (congr (congr (congrArg (gat x0 x1 x2 x3) (Fin.ext ?_)) (Fin.ext ?_)) (Fin.ext ?_)) (Fin.ext ?_)
  · show (h.val * 64 + d.val) / 64 = h.val; omega
  · show (h.val * 64 + d.val) % 64 = d.val; omega
  · show (b.val * 8192 + x.val) / 8192 = b.val; omega
  · show (b.val * 8192 + x.val) % 8192 = x.val; omega

/-! ## The grid's coordinates and where a block's element lies in its array -/

def bOf (t : Fin cfg0.N) : Fin 2 := ⟨t.val / 64, by have : t.val < 128 := t.isLt; omega⟩
def hOf (t : Fin cfg0.N) : Fin 8 := ⟨t.val / 8 % 8, Nat.mod_lt _ (by decide)⟩
def xOf (t : Fin cfg0.N) (x : Fin 1024) : Fin 8192 := ⟨1024 * (t.val % 8) + x.val, by have := x.isLt; omega⟩

/-- The windows' block indices at a grid point. -/
theorem idx_tile : ∀ t : Fin cfg0.N, (win0_0.index t (0 : Fin 2) = t.val / 8 % 8 ∧ win0_0.index t (1 : Fin 2) = t.val / 64 * 8 + t.val % 8)
    ∧ (win0_4.index t (0 : Fin 2) = t.val / 8 % 8 ∧ win0_4.index t (1 : Fin 2) = t.val / 64 * 8 + t.val % 8) ∧ ((grid0.coords t) 2).val = t.val % 8 :=
  (by decide +kernel : ∀ t : Fin grid0.N, _)
theorem idx_seq : ∀ t : Fin cfg0.N, (win0_1.index t (0 : Fin 2) = t.val / 8 % 8 ∧ win0_1.index t (1 : Fin 2) = t.val / 64)
    ∧ (win0_2.index t (0 : Fin 3) = t.val / 8 % 8 ∧ win0_2.index t (1 : Fin 3) = 0 ∧ win0_2.index t (2 : Fin 3) = t.val / 64)
    ∧ (win0_3.index t (0 : Fin 2) = t.val / 8 % 8 ∧ win0_3.index t (1 : Fin 2) = t.val / 64) :=
  (by decide +kernel : ∀ t : Fin grid0.N, _)

theorem emb0 (t : Fin cfg0.N) (d : Fin 64) (x : Fin 1024) : ((cfg0.win 0).blk t).view.emb (ix2 d x) = ix2 (row (hOf t) d) (col (bOf t) (xOf t x)) := by
  obtain ⟨⟨e0, e1⟩, -⟩ := idx_tile t
  funext a; apply Fin.ext
  match a with
  | ⟨0, _⟩ => show win0_0.index t (0 : Fin 2) * 64 + 1 * d.val = t.val / 8 % 8 * 64 + d.val; omega
  | ⟨1, _⟩ => show win0_0.index t (1 : Fin 2) * 1024 + 1 * x.val = t.val / 64 * 8192 + (1024 * (t.val % 8) + x.val); omega

theorem emb4 (t : Fin cfg0.N) (d : Fin 64) (x : Fin 1024) : ((cfg0.win 4).blk t).view.emb (ix2 d x) = ix2 (row (hOf t) d) (col (bOf t) (xOf t x)) := by
  obtain ⟨-, ⟨e0, e1⟩, -⟩ := idx_tile t
  funext a; apply Fin.ext
  match a with
  | ⟨0, _⟩ => show win0_4.index t (0 : Fin 2) * 64 + 1 * d.val = t.val / 8 % 8 * 64 + d.val; omega
  | ⟨1, _⟩ => show win0_4.index t (1 : Fin 2) * 1024 + 1 * x.val = t.val / 64 * 8192 + (1024 * (t.val % 8) + x.val); omega

theorem emb1 (t : Fin cfg0.N) (d : Fin 64) (x : Fin 8192) : ((cfg0.win 1).blk t).view.emb (ix2 d x) = ix2 (row (hOf t) d) (col (bOf t) x) := by
  obtain ⟨⟨e0, e1⟩, -⟩ := idx_seq t
  funext a; apply Fin.ext
  match a with
  | ⟨0, _⟩ => show win0_1.index t (0 : Fin 2) * 64 + 1 * d.val = t.val / 8 % 8 * 64 + d.val; omega
  | ⟨1, _⟩ => show win0_1.index t (1 : Fin 2) * 8192 + 1 * x.val = t.val / 64 * 8192 + x.val; omega

theorem emb3 (t : Fin cfg0.N) (d : Fin 64) (x : Fin 8192) : ((cfg0.win 3).blk t).view.emb (ix2 d x) = ix2 (row (hOf t) d) (col (bOf t) x) := by
  obtain ⟨-, -, e0, e1⟩ := idx_seq t
  funext a; apply Fin.ext
  match a with
  | ⟨0, _⟩ => show win0_3.index t (0 : Fin 2) * 64 + 1 * d.val = t.val / 8 % 8 * 64 + d.val; omega
  | ⟨1, _⟩ => show win0_3.index t (1 : Fin 2) * 8192 + 1 * x.val = t.val / 64 * 8192 + x.val; omega

theorem emb2 (t : Fin cfg0.N) (k : Fin 16) (x : Fin 8192) : ((cfg0.win 2).blk t).view.emb (ix3 0 k x) = ix3 (hOf t) k (col (bOf t) x) := by
  obtain ⟨-, ⟨e0, e1, e2⟩, -⟩ := idx_seq t
  funext a; apply Fin.ext
  match a with
  | ⟨0, _⟩ => show win0_2.index t (0 : Fin 3) * 1 + 1 * 0 = t.val / 8 % 8; omega
  | ⟨1, _⟩ => show win0_2.index t (1 : Fin 3) * 16 + 1 * k.val = k.val; omega
  | ⟨2, _⟩ => show win0_2.index t (2 : Fin 3) * 8192 + 1 * x.val = t.val / 64 * 8192 + x.val; omega

/-! ## The run -/

variable (m : (ℓ : Loc nD τ sig) → Buf (Elt Ideal) ℓ) (ρ : Dev nD → PrngReg)

theorem score_eq (c : Dev nD) (t : Fin cfg0.N) (x : Fin 1024) : score (iblk m c 0 t) (iblk m c 1 t) (iblk m c 2 t) x
    = gscore (V m c main_arg0) (V m c main_arg1) (V m c main_arg2) (hOf t) (bOf t) (xOf t x) := by
  have h0 (d : Fin 64) (x : Fin 1024) : iblk m c 0 t (ix2 d x) = V m c main_arg0 (ix2 (row (hOf t) d) (col (bOf t) (xOf t x))) :=
    (show _ = V m c main_arg0 (((cfg0.win 0).blk t).view.emb (ix2 d x)) from rfl).trans (congrArg _ (emb0 t d x))
  have h1 (d : Fin 64) (x : Fin 8192) : iblk m c 1 t (ix2 d x) = V m c main_arg1 (ix2 (row (hOf t) d) (col (bOf t) x)) :=
    (show _ = V m c main_arg1 (((cfg0.win 1).blk t).view.emb (ix2 d x)) from rfl).trans (congrArg _ (emb1 t d x))
  have h2 (k : Fin 16) (x : Fin 8192) : iblk m c 2 t (ix3 0 k x) = V m c main_arg2 (ix3 (hOf t) k (col (bOf t) x)) :=
    (show _ = V m c main_arg2 (((cfg0.win 2).blk t).view.emb (ix3 0 k x)) from rfl).trans (congrArg _ (emb2 t k x))
  funext p
  refine congrArg₂ (· + ·) (Finset.sum_congr rfl fun d _ => congrArg₂ (· * ·) (h1 d _) (h0 d x)) ?_
  exact congrArg₂ (· + ·) (congrArg₂ (· + ·) (h2 0 _) (h2 1 _)) (h2 2 _)

/-- What point `t` writes back is its block of `G` of the argument arrays. -/
theorem flushed_eq (c : Dev nD) (hs : ∀ h b x p, gscore (V m c main_arg0) (V m c main_arg1) (V m c main_arg2) h b x p ≠ ⊤) (t : Fin cfg0.N) :
    (dats m 0 c).flushed 4 t = ((cfg0.win 4).blk t).view.read (Elt Ideal) (G (V m c main_arg0) (V m c main_arg1) (V m c main_arg2) (V m c main_arg3)) := by
  show (cfg0.win 4).cut (grid0.coords t) ((dats m 0 c).after 4 t) = _
  rw [after0_4, (idx_tile t).2.2]
  funext j
  obtain ⟨d, x, rfl⟩ : ∃ (d : Fin 64) (x : Fin 1024), j = ix2 d x := ⟨j 0, j 1, eq_ix2 (n0 := 64) (n1 := 1024) j⟩
  have h3 (p : ℕ) : iblk m c 3 t (ix2 d (pos p)) = V m c main_arg3 (ix2 (row (hOf t) d) (col (bOf t) (pos p))) :=
    (show _ = V m c main_arg3 (((cfg0.win 3).blk t).view.emb (ix2 d (pos p))) from rfl).trans (congrArg _ (emb3 t d _))
  have e : G (V m c main_arg0) (V m c main_arg1) (V m c main_arg2) (V m c main_arg3) (((cfg0.win 4).blk t).view.emb (ix2 d x))
      = gat (V m c main_arg0) (V m c main_arg1) (V m c main_arg2) (V m c main_arg3) (hOf t) d (bOf t) (xOf t x) :=
    (congrArg _ (emb4 t d x)).trans (G_apply _ _ _ _ _ _ _ _)
  refine (outTile_apply _ _ _ _ (fun x p => ?_) _ (Nat.mod_lt _ (by decide)) d x).trans (Eq.trans ?_ e.symm)
  · rw [score_eq]; exact hs _ _ _ _
  · rw [score_eq, funext h3]; rfl

/-- Every index of the result lies in some point's block. -/
theorem covered (i : S512x16384.Idx) : ∃ t : Fin cfg0.N, (cfg0.win 4).flush t = true ∧ i ∈ ((cfg0.win 4).blk t).view.set := by
  have h0 : (i 0).val < 512 := (i 0).isLt
  have h1 : (i 1).val < 16384 := (i 1).isLt
  have ht : (i 1).val / 8192 * 64 + (i 0).val / 64 * 8 + (i 1).val % 8192 / 1024 < cfg0.N := by show _ < 128; omega
  refine ⟨⟨_, ht⟩, flush0_4 _, ?_⟩
  have h := ((cfg0.win 4).blk ⟨_, ht⟩).view.emb_mem_set (ix2 (⟨(i 0).val % 64, by omega⟩ : Fin 64) (⟨(i 1).val % 1024, by omega⟩ : Fin 1024))
  have e : ((cfg0.win 4).blk ⟨_, ht⟩).view.emb (ix2 (⟨(i 0).val % 64, by omega⟩ : Fin 64) (⟨(i 1).val % 1024, by omega⟩ : Fin 1024)) = i := by
    refine (emb4 _ _ _).trans (funext fun a => Fin.ext ?_)
    match a with
    | ⟨0, _⟩ => show ((i 1).val / 8192 * 64 + (i 0).val / 64 * 8 + (i 1).val % 8192 / 1024) / 8 % 8 * 64 + (i 0).val % 64 = (i 0).val; omega
    | ⟨1, _⟩ =>
      show ((i 1).val / 8192 * 64 + (i 0).val / 64 * 8 + (i 1).val % 8192 / 1024) / 64 * 8192
        + (1024 * (((i 1).val / 8192 * 64 + (i 0).val / 64 * 8 + (i 1).val % 8192 / 1024) % 8) + (i 1).val % 1024) = (i 1).val
      omega
  rwa [e] at h

/-- The result array after the run. -/
theorem final (c : Dev nD) (hs : ∀ h b x p, gscore (V m c main_arg0) (V m c main_arg1) (V m c main_arg2) h b x p ≠ ⊤) : (dats m 0 c).arrAt 4 cfg0.N
    = G (m ((c : Thread nD τ).loc main_arg0)) (m ((c : Thread nD τ).loc main_arg1)) (m ((c : Thread nD τ).loc main_arg2)) (m ((c : Thread nD τ).loc main_arg3)) :=
  ((dats m 0 c).arrAt_eq_of_cover 4 _ (fun t _ => flushed_eq m c hs t) covered).trans
    (by rw [V_main_arg0, V_main_arg1, V_main_arg2, V_main_arg3])

/-- The kernel's run with the result array at its function of the arguments. -/
theorem run (hs : ∀ (c : Dev nD) h b x p, gscore (m ((c : Thread nD τ).loc main_arg0)) (m ((c : Thread nD τ).loc main_arg1)) (m ((c : Thread nD τ).loc main_arg2)) h b x p ≠ ⊤) :
    θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
      have hs' := hs c
      rw [← V_main_arg0 m c, ← V_main_arg1 m c, ← V_main_arg2 m c] at hs'
      exact ⟨((h.1 c).1 4).trans (final m c hs'), h.2 c⟩)
    (θ_run_and (run_main m ρ) (frame_of m ρ (dats m) (A_eq m) (run_main m ρ)))

end Cert.KernelIdeal.Fox

end
-- ==== Proof.Fox.Finite.lean ====
/- What the attention's precondition gives: the queries, the keys and the three pieces are real numbers, so the scores are. -/
module

public import proofs.«01_k».proof.Defs
public import proofs.«01_k».proof.Proof.Gen.Pre_finite_scores
public import proofs.«01_k».proof.Proof.Fox.Pair

@[expose] public section

noncomputable section

namespace Cert.KernelIdeal.Fox

open Cert.KernelIdeal Cert.KernelIdeal.Gen Idealize.ShloMosaic Idealize.ShloMosaic.TcCoe
open scoped BigOperators

/-- A number that is neither infinity. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sum {n : ℕ} {f : Fin n → EReal} (h : ∀ i, IsReal (f i)) : IsReal (∑ i, f i) :=
  Finset.sum_induction f IsReal (fun _ _ => IsReal.add) ⟨0, EReal.coe_zero.symm⟩ fun i _ => h i

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- A number whose magnitude compares below infinity is real. -/
theorem real_of_cmp {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x with
  | coe r => exact ⟨r, rfl⟩
  | bot => simp [Ideal.cmp] at h
  | top => simp [Ideal.cmp] at h

/-- The queries, the keys and the first three rows of the pieces are real. -/
structure Real (x0 x1 : Vec Ideal S512x16384 .bf16) (x2 : Vec Ideal S8x16x16384 .bf16) : Prop where
  q : ∀ i, IsReal (x0 i)
  k : ∀ i, IsReal (x1 i)
  c : ∀ (h : Fin 8) (j : Fin 3) (y : Fin 16384), IsReal (x2 (ix3 h (⟨j.val, by have := j.isLt; omega⟩ : Fin 16) y))

theorem first_pieces (x2 : Vec Ideal S8x16x16384 .bf16) (hs : S8x16x16384.Slices ![0, 0, 0] Cert.Pre_finite_scores.S8x3x16384) (h : Fin 8) (j : Fin 3) (y : Fin 16384) :
    extractStridedSlice Cert.Pre_finite_scores.S8x3x16384 ![0, 0, 0] x2 hs (ix3 h j y) = x2 (ix3 h (⟨j.val, by have := j.isLt; omega⟩ : Fin 16) y) :=
  extractStridedSlice_apply ![0, 0, 0] x2 hs (ix3 h j y) _ fun a => match a with
    | ⟨0, _⟩ => (Nat.zero_add _).symm
    | ⟨1, _⟩ => (Nat.zero_add _).symm
    | ⟨2, _⟩ => (Nat.zero_add _).symm

theorem real_of_pre (m : (ℓ : Loc nD τ sig) → Buf (Elt Ideal) ℓ) (h : Cert.Pre_KernelIdeal_finite_scores m) (c : Dev nD) :
    Real (m ((c : Thread nD τ).loc main_arg0)) (m ((c : Thread nD τ).loc main_arg1)) (m ((c : Thread nD τ).loc main_arg2)) := by
  obtain ⟨h0, h1, h2⟩ := h c
  refine ⟨fun i => real_of_cmp (congrFun h0 i), fun i => real_of_cmp (congrFun h1 i), fun h j y => ?_⟩
  refine real_of_cmp (Eq.trans ?_ (congrFun h2 (ix3 h j y)))
  exact congrArg (fun z : EReal => Ideal.cmp .olt (max z (-z)) (Ideal.ofBits .f32 0x7F800000#32)) (first_pieces _ Cert.Pre_finite_scores.Facts.slices_S8x16x16384_S8x3x16384_0_0_0 h j y).symm

section Scores

variable {x0 x1 : Vec Ideal S512x16384 .bf16} {x2 : Vec Ideal S8x16x16384 .bf16}

theorem pieces_real (hr : Real x0 x1 x2) (h : Fin 8) (y : Fin 16384) : IsReal (x2 (ix3 h 0 y) + x2 (ix3 h 1 y) + x2 (ix3 h 2 y)) :=
  ((hr.c h 0 y).add (hr.c h 1 y)).add (hr.c h 2 y)

theorem gscore_real (hr : Real x0 x1 x2) (h : Fin 8) (b : Fin 2) (x : Fin 8192) (p : ℕ) : IsReal (gscore x0 x1 x2 h b x p) :=
  (IsReal.sum fun d => (hr.k _).mul (hr.q _)).add (pieces_real hr h _)

end Scores

end Cert.KernelIdeal.Fox

end
-- ==== Proof.Fox.Ref.lean ====
/- The attention reference read at an index: its element is the softmax average `gat`.

   The reference adds the query's own forget sum to every score, masks after that and subtracts the greatest before it
   normalises; with real scores that is the average of the unshifted scores (`att_shift`, `att_eq_sum`). -/
module

public import proofs.«01_k».proof.Proof.Fox.Finite
public import proofs.«01_k».proof.Proof.Gen.ReferenceIdeal.Read

@[expose] public section

noncomputable section

namespace Cert.ReferenceIdeal.Fox

open Cert.ReferenceIdeal Cert.ReferenceIdeal.Gen Cert.ReferenceIdeal.Read Cert.Fox.Softmax Idealize.ShloMosaic
open Cert.KernelIdeal.Fox (row col pos masked gscore gat IsReal Real pieces_real gscore_real masked_ne_top ofBits_negInf)
open scoped BigOperators

variable (x0 x1 : (⟨S512x16384, .bf16⟩ : BufTy).Contents (Elt Ideal)) (x2 : (⟨S8x16x16384, .bf16⟩ : BufTy).Contents (Elt Ideal))
  (x3 : (⟨S512x16384, .bf16⟩ : BufTy).Contents (Elt Ideal))

/-! ## The heads -/

theorem heads_idx (i : S2x8x8192x64.Idx) : idx_main_v1 (idx_main_v2 i) = ix2 (row (i 1) (i 3)) (col (i 0) (i 2)) := by
  have h0 : (i 0).val < 2 := (i 0).isLt
  have h1 : (i 1).val < 8 := (i 1).isLt
  have h2 : (i 2).val < 8192 := (i 2).isLt
  have h3 : (i 3).val < 64 := (i 3).isLt
  funext a; apply Fin.ext
  match a with
  | ⟨0, _⟩ => show ((((i 1).val * 64 + (i 3).val) * 2 + (i 0).val) * 8192 + (i 2).val) / 16384 = (i 1).val * 64 + (i 3).val; omega
  | ⟨1, _⟩ => show ((((i 1).val * 64 + (i 3).val) * 2 + (i 0).val) * 8192 + (i 2).val) % 16384 = (i 0).val * 8192 + (i 2).val; omega

theorem q_apply (i : S2x8x8192x64.Idx) : val_main_v2 (F := Ideal) x0 i = x0 (ix2 (row (i 1) (i 3)) (col (i 0) (i 2))) := by
  rw [val_main_v2_apply, val_main_v1_apply]
  exact congrArg x0 (heads_idx i)

theorem k_apply (i : S2x8x8192x64.Idx) : val_main_v5 (F := Ideal) x1 i = x1 (ix2 (row (i 1) (i 3)) (col (i 0) (i 2))) := by
  rw [val_main_v5_apply, val_main_v4_apply]
  exact congrArg x1 (heads_idx i)

theorem v_apply (i : S2x8x8192x64.Idx) : val_main_v8 (F := Ideal) x3 i = x3 (ix2 (row (i 1) (i 3)) (col (i 0) (i 2))) := by
  rw [val_main_v8_apply, val_main_v7_apply]
  exact congrArg x3 (heads_idx i)

/-- The three pieces of a head at a position, added up. -/
def pieces (h : Fin 8) (y : Fin 16384) : EReal := x2 (ix3 h 0 y) + x2 (ix3 h 1 y) + x2 (ix3 h 2 y)

theorem pieces_idx (i : S2x8x8192.Idx) : idx_main_v11 (idx_main_v19 (idx_main_v20 i)) = ix3 (i 1) 0 (col (i 0) (i 2)) := by
  have h0 : (i 0).val < 2 := (i 0).isLt
  have h1 : (i 1).val < 8 := (i 1).isLt
  have h2 : (i 2).val < 8192 := (i 2).isLt
  funext a; apply Fin.ext
  match a with
  | ⟨0, _⟩ =>
    show ((((i 1).val * 2 + (i 0).val) * 8192 + (i 2).val) / 16384 * 16384 + (((i 1).val * 2 + (i 0).val) * 8192 + (i 2).val) % 16384) / 16384 = (i 1).val
    omega
  | ⟨1, _⟩ => rfl
  | ⟨2, _⟩ =>
    show ((((i 1).val * 2 + (i 0).val) * 8192 + (i 2).val) / 16384 * 16384 + (((i 1).val * 2 + (i 0).val) * 8192 + (i 2).val) % 16384) % 16384
      = (i 0).val * 8192 + (i 2).val
    omega

theorem c_apply (i : S2x8x8192.Idx) : val_main_v20 (F := Ideal) x2 i = -pieces x2 (i 1) (col (i 0) (i 2)) := by
  have e0 : idx_main_v10 (ix3 (i 1) 0 (col (i 0) (i 2))) = ix3 (i 1) 0 (col (i 0) (i 2)) := funext fun a => match a with | ⟨0, _⟩ => rfl | ⟨1, _⟩ => rfl | ⟨2, _⟩ => rfl
  have e1 : idx_main_v12 (ix3 (i 1) 0 (col (i 0) (i 2))) = ix3 (i 1) 1 (col (i 0) (i 2)) := funext fun a => match a with | ⟨0, _⟩ => rfl | ⟨1, _⟩ => rfl | ⟨2, _⟩ => rfl
  have e2 : idx_main_v15 (ix3 (i 1) 0 (col (i 0) (i 2))) = ix3 (i 1) 2 (col (i 0) (i 2)) := funext fun a => match a with | ⟨0, _⟩ => rfl | ⟨1, _⟩ => rfl | ⟨2, _⟩ => rfl
  rw [val_main_v20_apply, val_main_v19_apply, val_main_v18_apply, val_main_v17_apply, val_main_v14_apply, val_main_v11_apply, val_main_v13_apply,
    val_main_v16_apply, val_main_v10_apply, val_main_v12_apply, val_main_v15_apply]
  refine congrArg (fun y : EReal => -y) (congrArg₂ (· + ·) (congrArg₂ (· + ·) (congrArg x2 ?_) (congrArg x2 ?_)) (congrArg x2 ?_))
  · exact (congrArg idx_main_v10 (pieces_idx i)).trans e0
  · exact (congrArg idx_main_v12 (pieces_idx i)).trans e1
  · exact (congrArg idx_main_v15 (pieces_idx i)).trans e2

/-! ## The scores -/

theorem pos_val (p : Fin 8192) : pos p.val = p := Fin.ext (Nat.mod_eq_of_lt p.isLt)

/-- The reference's score: the kernel's, masked, plus the query's own forget sum. -/
def rscore (h : Fin 8) (b : Fin 2) (x : Fin 8192) (p : ℕ) : EReal := masked (gscore x0 x1 x2 h b x) x.val p + -pieces x2 h (col b x)

theorem select_le (k n : ℕ) (hk : k < 8192) (hn : n < 8192) (a b : EReal) :
    Scalar.select (IntOp.cmpi CmpIPredicate.sle (BitVec.ofNat 32 k) (BitVec.ofNat 32 n)) a b = if k ≤ n then a else b := by
  rw [WordCmp.cmpi_sle_ofNat (by norm_num; omega) (by norm_num; omega)]
  by_cases h : k ≤ n <;> simp [h, Scalar.select]

theorem s_apply (i : S2x8x8192x8192.Idx) : val_main_v34 (F := Ideal) x0 x1 x2 i = rscore x0 x1 x2 (i 1) (i 0) (i 2) (i 3).val := by
  rw [val_main_v34_apply, val_main_call0_v1_apply, val_main_v33_apply, val_main_v31_apply, val_main_v29_apply, val_main_v28_apply, val_main_v32_apply,
    val_main_v30_apply, val_main_v28_apply, val_main_v27_apply, val_main_v24_apply, val_main_v21_apply, val_main_v23_apply, val_main_v22_apply, c_apply,
    val_main_v26_apply, val_main_v25_apply, c_apply, val_main_call0_v2_apply, val_main_call0_v0_apply, val_main_cst_apply]
  refine (select_le (i 3).val (i 2).val (i 3).isLt (i 2).isLt _ _).trans ?_
  unfold rscore masked
  by_cases h : (i 3).val ≤ (i 2).val
  · rw [if_pos h, if_pos h]
    have e : pos (i 3).val = i 3 := pos_val (i 3)
    unfold gscore
    rw [e]
    refine Eq.trans (b := ((∑ d : Fin 64, x1 (ix2 (row (i 1) d) (col (i 0) (i 3))) * x0 (ix2 (row (i 1) d) (col (i 0) (i 2)))) + -pieces x2 (i 1) (col (i 0) (i 2))) - -pieces x2 (i 1) (col (i 0) (i 3)))
      (congrArg (fun z : EReal => (z + -pieces x2 (i 1) (col (i 0) (i 2))) - -pieces x2 (i 1) (col (i 0) (i 3))) ?_) ?_
    · exact Finset.sum_congr rfl fun k _ => (congrArg₂ (· * ·) (q_apply x0 _) (k_apply x1 _)).trans (mul_comm _ _)
    · rw [sub_eq_add_neg, neg_neg, add_right_comm]
      rfl
  · rw [if_neg h, if_neg h]
    exact ofBits_negInf.trans (EReal.bot_add _).symm

/-! ## The softmax -/

theorem reduces_keys : S2x8x8192x8192.Reduces [3] S2x8x8192 := by decide

theorem max_apply (i : S2x8x8192.Idx) : val_main_v37 (F := Ideal) x0 x1 x2 i = mx (rscore x0 x1 x2 (i 1) (i 0) (i 2)) 8192 := by
  rw [val_main_v37_apply, val_main_v36_apply, val_main_cst_1_apply]
  refine (congrArg₂ max ofBits_negInf ((Host.reduce_eq_fold_single FloatOps.maximumf _ _ _ reduces_keys _ i).trans ?_)).trans (max_eq_right bot_le)
  have e : mx (rscore x0 x1 x2 (i 1) (i 0) (i 2)) (0 + 8192) = Finset.univ.sup fun j : Fin 8192 => rscore x0 x1 x2 (i 1) (i 0) (i 2) (0 + j.val) :=
    (mx_add _ 0 8192).trans (max_eq_right bot_le)
  rw [zero_add] at e
  refine Eq.trans ?_ e.symm
  refine (congrArg (fun b => Finset.fold max b (val_main_v34 (F := Ideal) x0 x1 x2 ∘ reduces_keys.lift i) (Finset.univ : Finset (Fin 8192))) ofBits_negInf).trans ?_
  refine Finset.sup_congr rfl fun k _ => (s_apply x0 x1 x2 _).trans ?_
  rw [zero_add]
  rfl

theorem exp_apply (i : S2x8x8192x8192.Idx) : val_main_v41 (F := Ideal) x0 x1 x2 i
    = Ideal.exp (rscore x0 x1 x2 (i 1) (i 0) (i 2) (i 3).val - mx (rscore x0 x1 x2 (i 1) (i 0) (i 2)) 8192) := by
  rw [val_main_v41_apply, val_main_v40_apply, val_main_v39_apply, val_main_v38_apply, max_apply, s_apply]
  rfl

theorem p_apply (i : S2x8x8192x8192.Idx) : val_main_v45 (F := Ideal) x0 x1 x2 i
    = Ideal.div (Ideal.exp (rscore x0 x1 x2 (i 1) (i 0) (i 2) (i 3).val - mx (rscore x0 x1 x2 (i 1) (i 0) (i 2)) 8192))
        (∑ q ∈ Finset.range 8192, Ideal.exp (rscore x0 x1 x2 (i 1) (i 0) (i 2) q - mx (rscore x0 x1 x2 (i 1) (i 0) (i 2)) 8192)) := by
  rw [val_main_v45_apply, val_main_v44_apply, val_main_v43_apply, val_main_v42_apply, exp_apply, val_main_cst_2_apply, Finset.sum_range]
  refine congrArg (Ideal.div _) ((congrArg₂ (· + ·) Ideal.ofBits_zero_f32 (Finset.sum_congr rfl fun k _ => exp_apply x0 x1 x2 _)).trans (zero_add _))

theorem o_apply (hr : Real x0 x1 x2) (i : S2x8x8192x64.Idx) : val_main_v46 (F := Ideal) x0 x1 x2 x3 i = gat x0 x1 x2 x3 (i 1) (i 3) (i 0) (i 2) := by
  obtain ⟨c, hc⟩ := (pieces_real hr (i 1) (col (i 0) (i 2))).neg
  have hs : rscore x0 x1 x2 (i 1) (i 0) (i 2) = fun p => masked (gscore x0 x1 x2 (i 1) (i 0) (i 2)) (i 2).val p + (c : EReal) :=
    funext fun p => congrArg (masked (gscore x0 x1 x2 (i 1) (i 0) (i 2)) (i 2).val p + ·) hc
  have hm : ∀ p, masked (gscore x0 x1 x2 (i 1) (i 0) (i 2)) (i 2).val p ≠ ⊤ := masked_ne_top (fun p => (gscore_real hr _ _ _ p).ne_top) _
  rw [val_main_v46_apply]
  refine (Finset.sum_congr rfl fun k _ => congrArg₂ (· * ·) (p_apply x0 x1 x2 _) (v_apply x3 _)).trans ?_
  unfold gat
  rw [← att_shift _ _ c, ← hs, ← att_eq_sum (s := rscore x0 x1 x2 (i 1) (i 0) (i 2)) (n := 8192) (p0 := (i 2).val) _ _ (i 2).isLt, Finset.sum_range]
  · refine Finset.sum_congr rfl fun k _ => ?_
    rw [pos_val]
    rfl
  · rw [hs]
    refine ((?_ : IsReal _).add ⟨c, rfl⟩).ne_bot
    rw [show masked (gscore x0 x1 x2 (i 1) (i 0) (i 2)) (i 2).val (i 2).val = gscore x0 x1 x2 (i 1) (i 0) (i 2) (i 2).val from if_pos le_rfl]
    exact gscore_real hr _ _ _ _
  · intro p
    rw [hs]
    exact EReal.add_ne_top (hm p) (EReal.coe_ne_top c)

/-! ## The result -/

theorem out_idx (i : S512x16384.Idx) : idx_main_v47 (idx_main_v48 i)
    = ix4 ⟨(i 1).val / 8192, by have : (i 1).val < 16384 := (i 1).isLt; omega⟩ ⟨(i 0).val / 64, by have : (i 0).val < 512 := (i 0).isLt; omega⟩
        ⟨(i 1).val % 8192, Nat.mod_lt _ (by decide)⟩ ⟨(i 0).val % 64, Nat.mod_lt _ (by decide)⟩ := by
  have h0 : (i 0).val < 512 := (i 0).isLt
  have h1 : (i 1).val < 16384 := (i 1).isLt
  funext a; apply Fin.ext
  match a with
  | ⟨0, _⟩ => show ((i 0).val * 16384 + (i 1).val) / 8192 % 2 = (i 1).val / 8192; omega
  | ⟨1, _⟩ => show ((i 0).val * 16384 + (i 1).val) / 1048576 = (i 0).val / 64; omega
  | ⟨2, _⟩ => show ((i 0).val * 16384 + (i 1).val) % 8192 = (i 1).val % 8192; omega
  | ⟨3, _⟩ => show ((i 0).val * 16384 + (i 1).val) / 16384 % 64 = (i 0).val % 64; omega

theorem ref_apply (hr : Real x0 x1 x2) : val_main_v49 (F := Ideal) x0 x1 x2 x3 = Cert.KernelIdeal.Fox.G x0 x1 x2 x3 := by
  funext i
  rw [val_main_v49_apply, val_main_v48_apply, val_main_v47_apply, out_idx]
  exact o_apply x0 x1 x2 x3 hr _

end Cert.ReferenceIdeal.Fox

end
-- ==== Proof.FoxBits.Frame.lean ====
/-
  The attention kernel's run at the machine's numbers on every grid step and its frame: what a step stores is left open.
-/
module

public import proofs.«01_k».proof.Proof.Gen.Kernel.Loops
public import proofs.«01_k».proof.Proof.Gen.Kernel.Frame
public import Idealize.ShloMosaic.Lib.Claim
public import Idealize.ShloMosaic.Lib.VecWindow

@[expose] public section

set_option maxRecDepth 16384

noncomputable section

namespace Cert.Kernel.Fox

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄G" => MT nD τ sig Unit (Elt F) ℕ (UR sig nD τ) ℕ

theorem steps : ∀ i : grid0.Coords, (¬ k0_cond1 i = 1#1 ∧ k0_cond2 i = 1#1 ∧ ¬ k0_cond3 i = 1#1 ∧ ¬ k0_cond4 i = 1#1 ∧ (k0_t1_loop i).trips = 0)
    ∨ (k0_cond1 i = 1#1 ∧ ¬ k0_cond2 i = 1#1 ∧ ¬ k0_cond3 i = 1#1 ∧ k0_cond4 i = 1#1)
    ∨ (k0_cond1 i = 1#1 ∧ ¬ k0_cond2 i = 1#1 ∧ k0_cond3 i = 1#1 ∧ ¬ k0_cond4 i = 1#1) := by decide +kernel

/-- The kernel on one grid step: it leaves its blocks as they were. -/
theorem body (c : Dev nD) (E : Set ℕ) (i : grid0.Coords) (arg3 : Memref sig .tc .vmem S64x1024 .bf16) (harg3 : arg3.IsWhole) (arg4 : Memref sig .tc .vmem S64x8192 .bf16) (harg4 : arg4.IsWhole) (arg5 : Memref sig .tc .vmem S1x16x8192 .bf16) (harg5 : arg5.IsWhole) (arg6 : Memref sig .tc .vmem S64x8192 .bf16) (harg6 : arg6.IsWhole) (arg7 : Memref sig .tc .vmem S64x1024 .bf16) (harg7 : arg7.IsWhole) (arg8 : Memref sig .tc .vmem S4x1x256 .f32) (harg8 : arg8.IsWhole) (arg9 : Memref sig .tc .vmem S4x80x256 .f32) (harg9 : arg9.IsWhole) (arg10 : Memref sig .tc .vmem S3x1024x256 .f32) (harg10 : arg10.IsWhole) (arg11 : Memref sig .tc .vmem S3x1024x256 .f32) (harg11 : arg11.IsWhole)
    (X3 : Vec F S64x1024 .bf16) (X4 : Vec F S64x8192 .bf16) (X5 : Vec F S1x16x8192 .bf16) (X6 : Vec F S64x8192 .bf16) :
    (iprop((arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6)
      ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) : sProp 𝕄G)
      ⊢ wp frame (wpE (defs₀ (F := F)) Variants.none (c : Thread nD τ) none) E (cc0_fox_attention i arg3 harg3 arg4 harg4 arg5 harg5 arg6 harg6 arg7 harg7 arg8 harg8 arg9 harg9 arg10 harg10 arg11 harg11)
          (fun _ => iprop((arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6)
            ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))) := by
  simp only [cc0_fox_attention_eq_skeleton]; unfold cc0_fox_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  iintro ⟨H3, H4, H5, H6, ⟨%f7, H7⟩, ⟨%f8, H8⟩, ⟨%f9, H9⟩, ⟨%f10, H10⟩, ⟨%f11, H11⟩⟩
  rcases steps i with ⟨h1, h2, h3, h4, ht⟩ | ⟨h1, h2, h3, h4⟩ | ⟨h1, h2, h3, h4⟩ <;>
  · sl_exec
    sl_step
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iexists _; iexact H11

theorem owns_rep {sp : Space} {s : Shape} {e : EltTy} (c : Dev nD) (a : Memref sig .tc sp s e) (X : Vec F s e) :
    (owns (c : Thread nD τ) a fullShare X : sProp 𝕄G) ⊢ a.view.loc (c : Thread nD τ) ↦[a.view.set]{fullShare} a.view.rep X := by
  unfold owns
  iintro ⟨%f, %hf, H⟩
  iapply (pointsTo_rep_of_read (c : Thread nD τ) a _ fullShare _ hf)
  iexact H

theorem rep_owns {sp : Space} {s : Shape} {e : EltTy} (c : Dev nD) (a : Memref sig .tc sp s e) (X : Vec F s e) :
    (a.view.loc (c : Thread nD τ) ↦[a.view.set]{fullShare} a.view.rep X : sProp 𝕄G) ⊢ owns (c : Thread nD τ) a fullShare X := by
  unfold owns
  iintro H
  iexists _
  isplitr
  swap; · iexact H
  ipureintro
  exact View.read_rep a.view X

theorem any_set {sp : Space} {s : Shape} {e : EltTy} (c : Dev nD) (a : Memref sig .tc sp s e) (X : Vec F s e) :
    (owns (c : Thread nD τ) a fullShare X : sProp 𝕄G) ⊢ ∃ f, a.view.loc (c : Thread nD τ) ↦[a.view.set]{fullShare} f := by
  iintro H
  iexists _
  iapply (owns_rep c a X)
  iexact H

theorem set_any {sp : Space} {s : Shape} {e : EltTy} (c : Dev nD) (a : Memref sig .tc sp s e) :
    (∃ f, a.view.loc (c : Thread nD τ) ↦[a.view.set]{fullShare} f : sProp 𝕄G) ⊢ ∃ X, owns (c : Thread nD τ) a fullShare X := by
  iintro ⟨%f, H⟩
  iexists (a.view.read (Elt F) f)
  unfold owns
  iexists f
  isplitr
  swap; · iexact H
  ipureintro
  rfl

/-- The same on staging buffers held at their contents, to a continuation. -/
theorem sound_kernel (c : Dev nD) (E : Set ℕ) (i : grid0.Coords) (arg3 : Memref sig .tc .vmem S64x1024 .bf16) (harg3 : arg3.IsWhole) (arg4 : Memref sig .tc .vmem S64x8192 .bf16) (harg4 : arg4.IsWhole) (arg5 : Memref sig .tc .vmem S1x16x8192 .bf16) (harg5 : arg5.IsWhole) (arg6 : Memref sig .tc .vmem S64x8192 .bf16) (harg6 : arg6.IsWhole) (arg7 : Memref sig .tc .vmem S64x1024 .bf16) (harg7 : arg7.IsWhole) (arg8 : Memref sig .tc .vmem S4x1x256 .f32) (harg8 : arg8.IsWhole) (arg9 : Memref sig .tc .vmem S4x80x256 .f32) (harg9 : arg9.IsWhole) (arg10 : Memref sig .tc .vmem S3x1024x256 .f32) (harg10 : arg10.IsWhole) (arg11 : Memref sig .tc .vmem S3x1024x256 .f32) (harg11 : arg11.IsWhole)
    (X3 : Vec F S64x1024 .bf16) (X4 : Vec F S64x8192 .bf16) (X5 : Vec F S1x16x8192 .bf16) (X6 : Vec F S64x8192 .bf16) (K : PUnit → sProp 𝕄G) :
    iprop(owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ ((∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))
        ∗ (iprop(owns (c : Thread nD τ) arg3 fullShare X3 ∗ owns (c : Thread nD τ) arg4 fullShare X4 ∗ owns (c : Thread nD τ) arg5 fullShare X5 ∗ owns (c : Thread nD τ) arg6 fullShare X6 ∗ (∃ X, owns (c : Thread nD τ) arg7 fullShare X) ∗ ((∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))) -∗ K PUnit.unit))
      ⊢ wp frame (wpE (defs₀ (F := F)) Variants.none (c : Thread nD τ) none) E (cc0_fox_attention i arg3 harg3 arg4 harg4 arg5 harg5 arg6 harg6 arg7 harg7 arg8 harg8 arg9 harg9 arg10 harg10 arg11 harg11) K := by
  iintro ⟨H3, H4, H5, H6, ⟨%d7, H7⟩, ⟨H8, H9, H10, H11⟩, Hk⟩
  iapply (wp_wand_r Idealize.ShloMosaic.frame (wpE (defs₀ (F := F)) Variants.none (c : Thread nD τ) none) E)
  isplitl [H3 H4 H5 H6 H7 H8 H9 H10 H11]
  · iapply (body c E i arg3 harg3 arg4 harg4 arg5 harg5 arg6 harg6 arg7 harg7 arg8 harg8 arg9 harg9 arg10 harg10 arg11 harg11 X3 X4 X5 X6)
    isplitl [H3]; · iapply (owns_rep c arg3 X3); iexact H3
    isplitl [H4]; · iapply (owns_rep c arg4 X4); iexact H4
    isplitl [H5]; · iapply (owns_rep c arg5 X5); iexact H5
    isplitl [H6]; · iapply (owns_rep c arg6 X6); iexact H6
    isplitl [H7]; · iapply (any_set c arg7 d7); iexact H7
    isplitl [H8]; · iexact H8
    isplitl [H9]; · iexact H9
    isplitl [H10]; · iexact H10
    iexact H11
  · iintro %u ⟨H3, H4, H5, H6, H7, H8, H9, H10, H11⟩
    iapply Hk
    isplitl [H3]; · iapply (rep_owns c arg3 X3); iexact H3
    isplitl [H4]; · iapply (rep_owns c arg4 X4); iexact H4
    isplitl [H5]; · iapply (rep_owns c arg5 X5); iexact H5
    isplitl [H6]; · iapply (rep_owns c arg6 X6); iexact H6
    isplitl [H7]; · iapply (set_any c arg7); iexact H7
    isplitl [H8]; · iexact H8
    isplitl [H9]; · iexact H9
    isplitl [H10]; · iexact H10
    iexact H11

/-- The scratch buffers of the invariant, as the kernel addresses them. -/
theorem inv_scratch (c : Dev nD) : (Pipeline.ΦA (Val := Elt F) (U := UR sig nD τ) spec0 c : sProp 𝕄G)
    = iprop(((∃ f, (Memref.whole cc0_scratch0).view.loc (c : Thread nD τ) ↦[(Memref.whole cc0_scratch0).view.set]{fullShare} f) ∗ (∃ f, (Memref.whole cc0_scratch1).view.loc (c : Thread nD τ) ↦[(Memref.whole cc0_scratch1).view.set]{fullShare} f) ∗ (∃ f, (Memref.whole cc0_scratch2).view.loc (c : Thread nD τ) ↦[(Memref.whole cc0_scratch2).view.set]{fullShare} f) ∗ (∃ f, (Memref.whole cc0_scratch3).view.loc (c : Thread nD τ) ↦[(Memref.whole cc0_scratch3).view.set]{fullShare} f)) ∗ ∃ r, prngReg c r) := by
  unfold Pipeline.ΦA
  rw [scopedRest0_eq]
  simp only [Memref.whole, View.set_whole]

variable (m : (ℓ : Loc nD τ sig) → Buf (Elt F) ℓ) (ρ : Dev nD → PrngReg)

/-- The proof data: each input's buffer at its block, the output's at anything (it is forgotten). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ X, owns (c : Thread nD τ) (st0_4 t) fullShare X))

def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ (∃ X, owns (c : Thread nD τ) (st0_4 t) fullShare X))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl, inv_scratch,
    show (dats m 0 c).owesAt () t.succ = (dats m 0 c).owesAt () t.castSucc from rfl,
    after0_0, after0_1, after0_2, after0_3]
  iintro ⟨⟨HS, Hr⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

/-- The windows nothing is said of: the output's. -/
def fgt : Fin cfg0.W → Bool := fun w => w == 4

theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The kernel ends, its arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1.arr_in c 0 rfl).trans (A_eq m c 0), (h.1.arr_in c 1 rfl).trans (A_eq m c 1),
    (h.1.arr_in c 2 rfl).trans (A_eq m c 2), (h.1.arr_in c 3 rfl).trans (A_eq m c 3)⟩, h.2⟩) (run_main_quiescent m ρ)

end Cert.Kernel.Fox

end
-- ==== Proof.Ffn.Rows.lean ====
/- The feed-forward call as a function of rows, and the kernel's block read as that function.

   One row of the result depends on one row of the input and on all the weights: the row is normalised (`normRow`), sent
   through the gated hidden layer (`hid`), projected back and added at half weight (`mid`), and normalised again (`outRow`).
   The kernel takes the hidden layer in eleven chunks of 256 columns; `out0_6` is read as `outRow` here, the chunks' sums
   joined into the one sum over 2816 columns. -/
module

public import proofs.«01_k».proof.Proof.Gen.FfnIdeal.Value
public import Idealize.ShloMosaic.Lib.ValueIdx
public import Idealize.ShloMosaic.Lib.MatmulPlain

@[expose] public section

noncomputable section

namespace Cert.FfnIdeal.Rows

open Cert.FfnIdeal Cert.FfnIdeal.Gen Idealize.ShloMosaic Idealize.ShloMosaic.ValueIdx
open scoped BigOperators

/-! ## The row functions -/

/-- A row over the root of its mean square (a small constant added), times the gain. -/
def normRow (x g : Fin 1024 → EReal) (k : Fin 1024) : EReal :=
  x k * Ideal.rsqrt (Ideal.div (∑ l : Fin 1024, x l * x l) (Ideal.ofBits .f32 0x44800000#32) + Ideal.ofBits .f32 0x358637BD#32) * g k

/-- One hidden column: `a · logistic a · b` of the two projections of the normalised row. -/
def hid (h : Fin 1024 → EReal) (wa wb : Fin 1024 → EReal) : EReal :=
  (∑ l : Fin 1024, h l * wa l) * Ideal.logistic (∑ l : Fin 1024, h l * wa l) * (∑ l : Fin 1024, h l * wb l)

/-- The row plus half the hidden layer's projection. -/
def mid (x h : Fin 1024 → EReal) (wa wb : Fin 1024 → Fin 2816 → EReal) (wo : Fin 2816 → Fin 1024 → EReal) (d : Fin 1024) : EReal :=
  x d + Ideal.ofBits .f32 0x3F000000#32 * ∑ k : Fin 2816, hid h (fun l => wa l k) (fun l => wb l k) * wo k d

/-- A row of the result. -/
def outRow (x g : Fin 1024 → EReal) (wa wb : Fin 1024 → Fin 2816 → EReal) (wo : Fin 2816 → Fin 1024 → EReal)
    (gf : Fin 1024 → EReal) (d : Fin 1024) : EReal :=
  normRow (mid x (normRow x g) wa wb wo) gf d

/-! ## Layout operations at an index -/

theorem bc_col (v : FVec Ideal S1024x1 .f32) (r k : Fin 1024) :
    broadcastTo S1024x1024 v broadcasts_S1024x1_S1024x1024 (ix2 r k) = v (ix2 r 0) :=
  broadcastTo_apply v _ (ix2 r k) (ix2 r 0) (fun a => match a with | ⟨0, _⟩ => rfl | ⟨1, _⟩ => rfl)

theorem bc_row (v : FVec Ideal S1x1024 .f32) (r k : Fin 1024) :
    broadcastTo S1024x1024 v broadcasts_S1x1024_S1024x1024 (ix2 r k) = v (ix2 0 k) :=
  broadcastTo_apply v _ (ix2 r k) (ix2 0 k) (fun a => match a with | ⟨0, _⟩ => rfl | ⟨1, _⟩ => rfl)

theorem sc_col (v : FVec Ideal S1024 .f32) (r : Fin 1024) :
    shapeCast S1024x1 v shapeCasts_S1024_S1024x1 (ix2 r 0) = v (ix1 r) :=
  shapeCast_apply v _ (ix2 r 0) (ix1 r) (by
    rw [Shape.rowMajor_val_one, Shape.rowMajor_val_two]; show r.val = r.val * 1 + 0; omega)

theorem drop_unit {a b : ℕ} {φ : FTy} (v : FVec Ideal ⟨3, ![1, a, b]⟩ φ) (h : (⟨3, ![1, a, b]⟩ : Shape).ShapeCasts ⟨2, ![a, b]⟩)
    (i : Fin a) (j : Fin b) : shapeCast ⟨2, ![a, b]⟩ v h (ix2 i j) = v (ix3 0 i j) := by
  refine (shapeCast_dropUnit_apply ![a, b] v h (ix2 i j)).trans (congrArg v (funext fun x => ?_))
  match x with
  | ⟨0, _⟩ => rfl
  | ⟨1, _⟩ => rfl
  | ⟨2, _⟩ => rfl

theorem sum_row (v : FVec Ideal S1024x1024 .f32) (r : Fin 1024) :
    multiReduction .add [1] S1024 v 0x00000000#32 reduces_S1024x1024_S1024 (.inl rfl) rfl (ix1 r) = ∑ l : Fin 1024, v (ix2 r l) := by
  refine (Ideal.multiReduction_add_single v _ _ _ _ (ix1 r)).trans (Finset.sum_congr rfl fun l _ => congrArg v ?_)
  funext x; apply Fin.ext
  match x with
  | ⟨0, _⟩ => rfl
  | ⟨1, _⟩ => rfl

/-! ## The kernel's values -/

variable {F : FTy → Type} [FloatOps F]

/-- The kernel's normalisation of a block's rows. -/
def normBlk (v : FVec F S1024x1024 .f32) (g : Vec F S1x1x1024 .f32) : FVec F S1024x1024 .f32 :=
  mulf (mulf v (broadcastTo S1024x1024
    (rsqrt (addf (divf (shapeCast S1024x1
        (multiReduction .add [1] S1024 (mulf v v) 0x00000000#32 reduces_S1024x1024_S1024 (.inl rfl) rfl) shapeCasts_S1024_S1024x1)
      (broadcast S1024x1 (Scalar.ofBits .f32 0x44800000#32))) (broadcast S1024x1 (Scalar.ofBits .f32 0x358637BD#32))))
    broadcasts_S1024x1_S1024x1024))
    (broadcastTo S1024x1024 (shapeCast S1x1024 g shapeCasts_S1x1x1024_S1x1024) broadcasts_S1x1024_S1024x1024)

/-- A chunk's projection of the normalised rows. -/
def proj (h : FVec F S1024x1024 .bf16) (w : Vec F S1x1024x256 .bf16) : FVec F S1024x256 .f32 :=
  matmul dot_S1024x1024_S1024x256_S1024x256_1_0_0_1_n_n none h (shapeCast S1024x256 w shapeCasts_S1x1024x256_S1024x256)
    (constant S1024x256 .f32 0x00000000#32)

/-- A chunk's part of the hidden layer's projection. -/
def part (h : FVec F S1024x1024 .bf16) (wa wb : Vec F S1x1024x256 .bf16) (wo : Vec F S1x256x1024 .bf16) : FVec F S1024x1024 .f32 :=
  matmul dot_S1024x256_S256x1024_S1024x1024_1_0_0_1_n_n none
    (truncf .bf16 (mulf (mulf (proj h wa) (logistic (proj h wa))) (proj h wb)) bitsLt_bf16_f32)
    (shapeCast S256x1024 wo shapeCasts_S1x256x1024_S256x1024) (constant S1024x1024 .f32 0x00000000#32)

/-- The eleven parts, added in order. -/
def parts (h : FVec F S1024x1024 .bf16) (x2 x3 : Vec F S1x1024x2816 .bf16) (x4 : Vec F S1x2816x1024 .bf16) : FVec F S1024x1024 .f32 :=
  addf (addf (addf (addf (addf (addf (addf (addf (addf (addf
    (part h (View.ld x2 r0_2) (View.ld x3 r0_2) (View.ld x4 r0_3))
    (part h (View.ld x2 r0_4) (View.ld x3 r0_4) (View.ld x4 r0_5)))
    (part h (View.ld x2 r0_6) (View.ld x3 r0_6) (View.ld x4 r0_7)))
    (part h (View.ld x2 r0_8) (View.ld x3 r0_8) (View.ld x4 r0_9)))
    (part h (View.ld x2 r0_10) (View.ld x3 r0_10) (View.ld x4 r0_11)))
    (part h (View.ld x2 r0_12) (View.ld x3 r0_12) (View.ld x4 r0_13)))
    (part h (View.ld x2 r0_14) (View.ld x3 r0_14) (View.ld x4 r0_15)))
    (part h (View.ld x2 r0_16) (View.ld x3 r0_16) (View.ld x4 r0_17)))
    (part h (View.ld x2 r0_18) (View.ld x3 r0_18) (View.ld x4 r0_19)))
    (part h (View.ld x2 r0_20) (View.ld x3 r0_20) (View.ld x4 r0_21)))
    (part h (View.ld x2 r0_22) (View.ld x3 r0_22) (View.ld x4 r0_23))

/-- The block before the closing norm. -/
def midBlk (x0 : Vec F S1024x1024 .f32) (x1 : Vec F S1x1x1024 .f32) (x2 x3 : Vec F S1x1024x2816 .bf16)
    (x4 : Vec F S1x2816x1024 .bf16) : FVec F S1024x1024 .f32 :=
  addf x0 (mulf (broadcast S1024x1024 (Scalar.ofBits .f32 0x3F000000#32))
    (parts (truncf .bf16 (normBlk x0 x1) bitsLt_bf16_f32) x2 x3 x4))

/-- The block the kernel stores. -/
def outBlk (x0 : Vec F S1024x1024 .f32) (x1 : Vec F S1x1x1024 .f32) (x2 x3 : Vec F S1x1024x2816 .bf16)
    (x4 : Vec F S1x2816x1024 .bf16) (x5 : Vec F S1x1x1024 .f32) : FVec F S1024x1024 .f32 :=
  normBlk (midBlk x0 x1 x2 x3 x4) x5

theorem zeros2 : (![0, 0] : Fin 2 → Nat) = fun _ => 0 := funext fun a => by fin_cases a <;> rfl
theorem zeros3 : (![0, 0, 0] : Fin 3 → Nat) = fun _ => 0 := funext fun a => by fin_cases a <;> rfl

/-- The staging buffer after the body is that block. -/
theorem out_eq (x0 : Vec F S1024x1024 .f32) (x1 : Vec F S1x1x1024 .f32) (x2 x3 : Vec F S1x1024x2816 .bf16)
    (x4 : Vec F S1x2816x1024 .bf16) (x5 : Vec F S1x1x1024 .f32) : out0_6 x0 x1 x2 x3 x4 x5 = outBlk x0 x1 x2 x3 x4 x5 := by
  unfold out0_6 k0_pay13
  rw [View.canon_unit_zero (S := S1024x1024) zeros2, View.ld_unit_zero (S := S1024x1024) zeros2,
    View.ld_unit_zero (S := S1x1x1024) zeros3, View.ld_unit_zero (S := S1x1x1024) zeros3]
  rfl

/-! ## The kernel's values at an index -/

theorem normBlk_apply (v : FVec Ideal S1024x1024 .f32) (g : Vec Ideal S1x1x1024 .f32) (r k : Fin 1024) :
    normBlk v g (ix2 r k) = normRow (fun l => v (ix2 r l)) (fun l => g (ix3 0 0 l)) k := by
  unfold normBlk normRow
  rw [mulf_apply, mulf_apply, bc_col, bc_row, drop_unit]
  refine congrArg (fun z => v (ix2 r k) * z * g (ix3 0 0 k)) ?_
  show Ideal.rsqrt (Ideal.div (shapeCast S1024x1 _ shapeCasts_S1024_S1024x1 (ix2 r 0)) _ + _) = _
  rw [sc_col, sum_row]
  rfl

theorem plain1 : dot_S1024x1024_S1024x256_S1024x256_1_0_0_1_n_n = DotDims.plain 1024 1024 256 := rfl
theorem plain2 : dot_S1024x256_S256x1024_S1024x1024_1_0_0_1_n_n = DotDims.plain 1024 256 1024 := rfl

theorem ofBits_zero : Ideal.ofBits .f32 0x00000000#32 = 0 := by simp

theorem proj_apply (h : FVec Ideal S1024x1024 .bf16) (w : Vec Ideal S1x1024x256 .bf16) (r : Fin 1024) (k : Fin 256) :
    proj h w (ix2 r k) = ∑ l : Fin 1024, h (ix2 r l) * w (ix3 0 l k) := by
  unfold proj
  rw [plain1]
  refine (Ideal.matmul_plain_apply none h _ _ r k).trans ?_
  rw [constant_apply, ofBits_zero, zero_add]
  exact Finset.sum_congr rfl fun l _ => congrArg (h (ix2 r l) * ·) (drop_unit w _ l k)

theorem part_apply (h : FVec Ideal S1024x1024 .bf16) (wa wb : Vec Ideal S1x1024x256 .bf16) (wo : Vec Ideal S1x256x1024 .bf16)
    (r d : Fin 1024) : part h wa wb wo (ix2 r d)
      = ∑ k : Fin 256, hid (fun l => h (ix2 r l)) (fun l => wa (ix3 0 l k)) (fun l => wb (ix3 0 l k)) * wo (ix3 0 k d) := by
  unfold part
  rw [plain2]
  refine (Ideal.matmul_plain_apply none _ _ _ r d).trans ?_
  rw [constant_apply, ofBits_zero, zero_add]
  refine Finset.sum_congr rfl fun k _ => ?_
  rw [drop_unit wo _ k d, truncf_apply, mulf_apply, mulf_apply]
  show proj h wa (ix2 r k) * Ideal.logistic (proj h wa (ix2 r k)) * proj h wb (ix2 r k) * _ = _
  rw [proj_apply, proj_apply]
  rfl

/-- A sum over 2816 columns as eleven sums over 256. -/
theorem sum_chunks (f : Fin 2816 → EReal) : ∑ k : Fin 2816, f k
    = ∑ j : Fin 11, ∑ k : Fin 256, f ⟨256 * j.val + k.val, by have := j.isLt; have := k.isLt; omega⟩ := by
  rw [← Fintype.sum_prod_type' (f := fun (j : Fin 11) (k : Fin 256) =>
    f ⟨256 * j.val + k.val, by have := j.isLt; have := k.isLt; omega⟩)]
  refine (Equiv.sum_comp (finProdFinEquiv (m := 11) (n := 256)) f).symm.trans (Finset.sum_congr rfl fun p _ => ?_)
  refine congrArg f (Fin.ext ?_)
  show p.2.val + 256 * p.1.val = 256 * p.1.val + p.2.val
  omega

theorem parts_apply (h : FVec Ideal S1024x1024 .bf16) (x2 x3 : Vec Ideal S1x1024x2816 .bf16) (x4 : Vec Ideal S1x2816x1024 .bf16)
    (r d : Fin 1024) : parts h x2 x3 x4 (ix2 r d)
      = ∑ k : Fin 2816, hid (fun l => h (ix2 r l)) (fun l => x2 (ix3 0 l k)) (fun l => x3 (ix3 0 l k)) * x4 (ix3 0 k d) := by
  have wcol (x : Vec Ideal S1x1024x2816 .bf16) (o : ℕ) (inb) (l : Fin 1024) (k : Fin 256) (hk : o + k.val < 2816) :
      View.ld x (Rect.unit (s := S1x1024x2816) ![0, 0, o] S1x1024x256.size inb) (ix3 0 l k) = x (ix3 0 l ⟨o + k.val, hk⟩) := by
    rw [View.ld_unit]
    refine extractStridedSlice_apply _ _ _ _ _ fun a => ?_
    match a with
    | ⟨0, _⟩ => rfl
    | ⟨1, _⟩ => show l.val = 0 + l.val; omega
    | ⟨2, _⟩ => rfl
  have wrow (x : Vec Ideal S1x2816x1024 .bf16) (o : ℕ) (inb) (k : Fin 256) (d : Fin 1024) (hk : o + k.val < 2816) :
      View.ld x (Rect.unit (s := S1x2816x1024) ![0, o, 0] S1x256x1024.size inb) (ix3 0 k d) = x (ix3 0 ⟨o + k.val, hk⟩ d) := by
    rw [View.ld_unit]
    refine extractStridedSlice_apply _ _ _ _ _ fun a => ?_
    match a with
    | ⟨0, _⟩ => rfl
    | ⟨1, _⟩ => rfl
    | ⟨2, _⟩ => show d.val = 0 + d.val; omega
  have chunk (o : ℕ) (ho : o + 256 ≤ 2816) (inb inb') :
      part h (View.ld x2 (Rect.unit (s := S1x1024x2816) ![0, 0, o] S1x1024x256.size inb))
        (View.ld x3 (Rect.unit (s := S1x1024x2816) ![0, 0, o] S1x1024x256.size inb))
        (View.ld x4 (Rect.unit (s := S1x2816x1024) ![0, o, 0] S1x256x1024.size inb')) (ix2 r d)
      = ∑ k : Fin 256, hid (fun l => h (ix2 r l)) (fun l => x2 (ix3 0 l ⟨o + k.val, by have := k.isLt; omega⟩))
          (fun l => x3 (ix3 0 l ⟨o + k.val, by have := k.isLt; omega⟩)) * x4 (ix3 0 ⟨o + k.val, by have := k.isLt; omega⟩ d) := by
    rw [part_apply]
    refine Finset.sum_congr rfl fun k _ => ?_
    have hk : o + k.val < 2816 := by have := k.isLt; omega
    rw [wrow x4 o inb' k d hk]
    exact congrArg₂ (fun a b => hid _ a b * _) (funext fun l => wcol x2 o inb l k hk) (funext fun l => wcol x3 o inb l k hk)
  rw [sum_chunks]
  simp only [Fin.sum_univ_castSucc (n := 10), Fin.sum_univ_castSucc (n := 9), Fin.sum_univ_castSucc (n := 8),
    Fin.sum_univ_castSucc (n := 7), Fin.sum_univ_castSucc (n := 6), Fin.sum_univ_castSucc (n := 5), Fin.sum_univ_castSucc (n := 4),
    Fin.sum_univ_castSucc (n := 3), Fin.sum_univ_castSucc (n := 2), Fin.sum_univ_castSucc (n := 1), Fin.sum_univ_castSucc (n := 0),
    Fin.sum_univ_zero, zero_add]
  unfold parts
  simp only [addf_apply]
  iterate 10 refine congrArg₂ (· + ·) ?_ (chunk _ (by decide) _ _)
  exact chunk 0 (by decide) _ _

theorem midBlk_apply (x0 : Vec Ideal S1024x1024 .f32) (x1 : Vec Ideal S1x1x1024 .f32) (x2 x3 : Vec Ideal S1x1024x2816 .bf16)
    (x4 : Vec Ideal S1x2816x1024 .bf16) (r d : Fin 1024) :
    midBlk x0 x1 x2 x3 x4 (ix2 r d)
      = mid (fun k => x0 (ix2 r k)) (normRow (fun k => x0 (ix2 r k)) (fun k => x1 (ix3 0 0 k))) (fun l k => x2 (ix3 0 l k))
          (fun l k => x3 (ix3 0 l k)) (fun k e => x4 (ix3 0 k e)) d := by
  unfold midBlk
  rw [addf_apply, mulf_apply, parts_apply]
  unfold mid
  refine congrArg (fun z => x0 (ix2 r d) + Ideal.ofBits .f32 0x3F000000#32 * z) (Finset.sum_congr rfl fun j _ => ?_)
  refine congrArg (fun z => hid z _ _ * _) (funext fun l => ?_)
  rw [truncf_apply, normBlk_apply]

theorem outBlk_apply (x0 : Vec Ideal S1024x1024 .f32) (x1 : Vec Ideal S1x1x1024 .f32) (x2 x3 : Vec Ideal S1x1024x2816 .bf16)
    (x4 : Vec Ideal S1x2816x1024 .bf16) (x5 : Vec Ideal S1x1x1024 .f32) (r d : Fin 1024) :
    outBlk x0 x1 x2 x3 x4 x5 (ix2 r d)
      = outRow (fun k => x0 (ix2 r k)) (fun k => x1 (ix3 0 0 k)) (fun l k => x2 (ix3 0 l k)) (fun l k => x3 (ix3 0 l k))
          (fun k e => x4 (ix3 0 k e)) (fun k => x5 (ix3 0 0 k)) d := by
  unfold outBlk outRow
  rw [normBlk_apply]
  exact congrArg (fun z => normRow z _ d) (funext fun k => midBlk_apply x0 x1 x2 x3 x4 r k)

end Cert.FfnIdeal.Rows

end
-- ==== Proof.Ffn.Ref.lean ====
/- The feed-forward reference read at an index: a row of its result is the row function `outRow` of one row of the input and
   the second layer's weights. -/
module

public import proofs.«01_k».proof.Proof.Ffn.Rows
public import proofs.«01_k».proof.Proof.Gen.FfnRefIdeal.Read
public import proofs.«01_k».proof.Proof.Gen.FfnRefIdeal.Run
public import Idealize.ShloMosaic.Lib.IdealHost

@[expose] public section

noncomputable section

namespace Cert.FfnRefIdeal.Rows

open Cert.FfnRefIdeal Cert.FfnRefIdeal.Gen Cert.FfnRefIdeal.Read Idealize.ShloMosaic Idealize.ShloMosaic.ValueIdx
open Cert.FfnIdeal.Rows (normRow hid mid outRow ofBits_zero)
open scoped BigOperators

variable (x0 : (⟨S16384x1024, .f32⟩ : BufTy).Contents (Elt Ideal)) (x1 : (⟨S2x1x1024, .f32⟩ : BufTy).Contents (Elt Ideal))
  (x2 : (⟨S2x1024x5632, .bf16⟩ : BufTy).Contents (Elt Ideal)) (x3 : (⟨S2x2816x1024, .bf16⟩ : BufTy).Contents (Elt Ideal))
  (x4 : (⟨S1x1x1024, .f32⟩ : BufTy).Contents (Elt Ideal))

/-- The first gain as the rows meet it. -/
theorem gain1 (R : Fin 16384) (k : Fin 1024) : val_main_v12 (F := Ideal) x1 (ix2 R k) = x1 (ix3 1 0 k) := by
  rw [val_main_v12_apply, val_main_v1_apply, val_main_v0_apply]
  refine congrArg x1 (funext fun a => Fin.ext ?_)
  have hk := k.isLt
  match a with
  | ⟨0, _⟩ => rfl
  | ⟨1, _⟩ => rfl
  | ⟨2, _⟩ => show (0 * 1024 + k.val) % 1024 = k.val; omega

/-- The last gain as the rows meet it. -/
theorem gain2 (R : Fin 16384) (k : Fin 1024) : val_main_v40 (F := Ideal) x4 (ix2 R k) = x4 (ix3 0 0 k) := by
  rw [val_main_v40_apply, val_main_v29_apply]
  refine congrArg x4 (funext fun a => Fin.ext ?_)
  have hk := k.isLt
  match a with
  | ⟨0, _⟩ => rfl
  | ⟨1, _⟩ => rfl
  | ⟨2, _⟩ => show (0 * 1024 + k.val) % 1024 = k.val; omega

/-- The normalised rows. -/
theorem normed (R : Fin 16384) (k : Fin 1024) :
    val_main_v13 (F := Ideal) x0 x1 (ix2 R k) = normRow (fun l => x0 (ix2 R l)) (fun l => x1 (ix3 1 0 l)) k := by
  rw [val_main_v13_apply, gain1, val_main_v11_apply, val_main_v10_apply, val_main_v9_apply, val_main_v8_apply,
    val_main_v6_apply, val_main_v5_apply, val_main_v7_apply, val_main_v4_apply, val_main_v3_apply, val_main_cst_apply,
    val_main_cst_0_apply, val_main_cst_1_apply]
  unfold normRow
  simp only [Ideal.mulf_def, Ideal.addf_def, Ideal.hostDivf_def, Ideal.hostUnary_rsqrt_def, Ideal.ofBits_def, ofBits_zero, zero_add]
  refine congrArg (fun z => x0 (ix2 R k) * Ideal.rsqrt (Ideal.div z _ + _) * _) (Finset.sum_congr rfl fun l _ => ?_)
  rw [val_main_v2_apply]
  have e : idx_main_v3 (idx_main_v4 (idx_main_v10 (ix2 R k))) l = ix2 R l := funext fun a => match a with | ⟨0, _⟩ => rfl | ⟨1, _⟩ => rfl
  rw [e]; rfl

/-- The first weights. -/
theorem win (l : Fin 1024) (k : Fin 5632) : val_main_v16 (F := Ideal) x2 (ix2 l k) = x2 (ix3 1 l k) := by
  rw [val_main_v16_apply, val_main_v15_apply, val_main_v14_apply]
  refine congrArg x2 (funext fun a => Fin.ext ?_)
  have hl := l.isLt
  have hk := k.isLt
  match a with
  | ⟨0, _⟩ => rfl
  | ⟨1, _⟩ => show (l.val * 5632 + k.val) / 5632 % 1024 = l.val; omega
  | ⟨2, _⟩ => show (l.val * 5632 + k.val) % 5632 = k.val; omega

/-- The second weights. -/
theorem wout (k : Fin 2816) (d : Fin 1024) : val_main_v24 (F := Ideal) x3 (ix2 k d) = x3 (ix3 1 k d) := by
  rw [val_main_v24_apply, val_main_v23_apply, val_main_v22_apply]
  refine congrArg x3 (funext fun a => Fin.ext ?_)
  have hk := k.isLt
  have hd := d.isLt
  match a with
  | ⟨0, _⟩ => rfl
  | ⟨1, _⟩ => show (k.val * 1024 + d.val) / 1024 % 2816 = k.val; omega
  | ⟨2, _⟩ => show (k.val * 1024 + d.val) % 1024 = d.val; omega

/-- Both projections. -/
theorem proj (R : Fin 16384) (k : Fin 5632) : val_main_v17 (F := Ideal) x0 x1 x2 (ix2 R k)
    = ∑ l : Fin 1024, normRow (fun l => x0 (ix2 R l)) (fun l => x1 (ix3 1 0 l)) l * x2 (ix3 1 l k) := by
  rw [val_main_v17_apply]
  refine Finset.sum_congr rfl fun l _ => ?_
  have e1 : lidx_main_v17 (ix2 R k) l = ix2 R l := funext fun a => match a with | ⟨0, _⟩ => rfl | ⟨1, _⟩ => rfl
  have e2 : ridx_main_v17 (ix2 R k) l = ix2 l k := funext fun a => match a with | ⟨0, _⟩ => rfl | ⟨1, _⟩ => rfl
  rw [e1, e2, normed, win]

/-- The hidden layer. -/
theorem hidden (R : Fin 16384) (k : Fin 2816) : val_main_v21 (F := Ideal) x0 x1 x2 (ix2 R k)
    = hid (normRow (fun l => x0 (ix2 R l)) (fun l => x1 (ix3 1 0 l))) (fun l => x2 (ix3 1 l ⟨k.val, by have := k.isLt; omega⟩))
        (fun l => x2 (ix3 1 l ⟨2816 + k.val, by have := k.isLt; omega⟩)) := by
  have ea : val_main_v18 (F := Ideal) x0 x1 x2 (ix2 R k) = _ :=
    (val_main_v18_apply x0 x1 x2 (ix2 R k)).trans ((congrArg _ (show idx_main_v18 (ix2 R k)
      = ix2 R ⟨k.val, by have := k.isLt; omega⟩ from funext fun a => match a with | ⟨0, _⟩ => rfl | ⟨1, _⟩ => rfl)).trans (proj x0 x1 x2 R _))
  have eb : val_main_v19 (F := Ideal) x0 x1 x2 (ix2 R k) = _ :=
    (val_main_v19_apply x0 x1 x2 (ix2 R k)).trans ((congrArg _ (show idx_main_v19 (ix2 R k)
      = ix2 R ⟨2816 + k.val, by have := k.isLt; omega⟩ from funext fun a => match a with | ⟨0, _⟩ => rfl | ⟨1, _⟩ => rfl)).trans (proj x0 x1 x2 R _))
  rw [val_main_v21_apply, val_main_v20_apply, val_main_call0_v5_apply, val_main_call0_v4_apply, val_main_call0_v3_apply,
    val_main_call0_v2_apply, val_main_call0_v1_apply, val_main_call0_v0_apply, val_main_call0_cst_apply,
    val_main_call0_cst_0_apply, ea, eb]
  simp only [Ideal.mulf_def, Ideal.addf_def, Ideal.hostDivf_def, Ideal.hostUnary_exp_def, Ideal.hostNegf_def, Ideal.ofBits_def,
    Ideal.ofBits_one_f32]
  rfl

/-- A row before the closing norm. -/
theorem ref_mid (R : Fin 16384) (k : Fin 1024) : val_main_v28 (F := Ideal) x0 x1 x2 x3 (ix2 R k)
    = mid (fun k => x0 (ix2 R k)) (normRow (fun l => x0 (ix2 R l)) (fun l => x1 (ix3 1 0 l)))
        (fun l k => x2 (ix3 1 l ⟨k.val, by have := k.isLt; omega⟩))
        (fun l k => x2 (ix3 1 l ⟨2816 + k.val, by have := k.isLt; omega⟩)) (fun k e => x3 (ix3 1 k e)) k := by
  rw [val_main_v28_apply, val_main_v27_apply, val_main_v26_apply, val_main_cst_2_apply, val_main_v25_apply]
  unfold mid
  simp only [Ideal.mulf_def, Ideal.addf_def, Ideal.ofBits_def]
  refine congrArg (fun z => x0 (ix2 R k) + _ * z) (Finset.sum_congr rfl fun j _ => ?_)
  have e1 : lidx_main_v25 (ix2 R k) j = ix2 R j := funext fun a => match a with | ⟨0, _⟩ => rfl | ⟨1, _⟩ => rfl
  have e2 : ridx_main_v25 (ix2 R k) j = ix2 j k := funext fun a => match a with | ⟨0, _⟩ => rfl | ⟨1, _⟩ => rfl
  rw [e1, e2, hidden, wout]

/-- A row of the reference's result. -/
theorem ref_row (R : Fin 16384) (d : Fin 1024) : val_main_v41 (F := Ideal) x0 x1 x2 x3 x4 (ix2 R d)
    = outRow (fun k => x0 (ix2 R k)) (fun k => x1 (ix3 1 0 k)) (fun l k => x2 (ix3 1 l ⟨k.val, by have := k.isLt; omega⟩))
        (fun l k => x2 (ix3 1 l ⟨2816 + k.val, by have := k.isLt; omega⟩)) (fun k e => x3 (ix3 1 k e)) (fun k => x4 (ix3 0 0 k)) d := by
  rw [val_main_v41_apply, gain2, val_main_v39_apply, val_main_v38_apply, val_main_v37_apply, val_main_v36_apply,
    val_main_v34_apply, val_main_v33_apply, val_main_v35_apply, val_main_v32_apply, val_main_v31_apply, val_main_cst_3_apply,
    val_main_cst_4_apply, val_main_cst_5_apply, ref_mid]
  unfold outRow
  conv_rhs => unfold normRow
  simp only [Ideal.mulf_def, Ideal.addf_def, Ideal.hostDivf_def, Ideal.hostUnary_rsqrt_def, Ideal.ofBits_def, ofBits_zero, zero_add]
  refine congrArg (fun z => _ * Ideal.rsqrt (Ideal.div z _ + _) * _) (Finset.sum_congr rfl fun l _ => ?_)
  have e : idx_main_v31 (idx_main_v32 (idx_main_v38 (ix2 R d))) l = ix2 R l := funext fun a => match a with | ⟨0, _⟩ => rfl | ⟨1, _⟩ => rfl
  rw [val_main_v30_apply, e, ref_mid]
  rfl

end Cert.FfnRefIdeal.Rows

end
-- ==== Proof.Ffn.Pair.lean ====
/- The feed-forward call's two programs give the same array.

   The kernel's grid point `t` reads rows 1024·t and up of the input and the second layer's weights, whose two halves it takes
   as two blocks; what it writes back is those rows of `G` (`flushed_eq`), and the sixteen points' blocks tile the result
   (`covered`), so the array after the run is `G` of the arguments (`run`). The reference's term is `G` too (`ref_eq`). -/
module

public import proofs.«01_k».proof.Proof.Ffn.Ref
public import Idealize.ShloMosaic.Lib.Claim

@[expose] public section

noncomputable section

namespace Cert.FfnIdeal.Pair

open Cert.FfnIdeal Cert.FfnIdeal.Gen Cert.FfnIdeal.Value Idealize.ShloMosaic Idealize.ShloMosaic.TcCoe Idealize.SL.Sem
open Idealize.ShloMosaic.ValueIdx Cert.FfnIdeal.Rows

/-- The result array as one function of the argument arrays. -/
def G (x0 : Vec Ideal S16384x1024 .f32) (x1 : Vec Ideal S2x1x1024 .f32) (x2 : Vec Ideal S2x1024x5632 .bf16)
    (x3 : Vec Ideal S2x2816x1024 .bf16) (x4 : Vec Ideal S1x1x1024 .f32) : Vec Ideal S16384x1024 .f32 := fun i =>
  outRow (fun k => x0 (ix2 (i 0) k)) (fun k => x1 (ix3 1 0 k)) (fun l k => x2 (ix3 1 l ⟨k.val, by have := k.isLt; omega⟩))
    (fun l k => x2 (ix3 1 l ⟨2816 + k.val, by have := k.isLt; omega⟩)) (fun k e => x3 (ix3 1 k e)) (fun k => x4 (ix3 0 0 k)) (i 1)

/-- The windows' block indices at a grid point. -/
theorem idx_rows : ∀ t : Fin cfg0.N, (win0_0.index t (0 : Fin 2) = t.val ∧ win0_0.index t (1 : Fin 2) = 0)
    ∧ (win0_6.index t (0 : Fin 2) = t.val ∧ win0_6.index t (1 : Fin 2) = 0) :=
  (by decide +kernel : ∀ t : Fin grid0.N, _)
theorem idx_weights : ∀ t : Fin cfg0.N,
    (win0_1.index t (0 : Fin 3) = 1 ∧ win0_1.index t (1 : Fin 3) = 0 ∧ win0_1.index t (2 : Fin 3) = 0)
    ∧ (win0_2.index t (0 : Fin 3) = 1 ∧ win0_2.index t (1 : Fin 3) = 0 ∧ win0_2.index t (2 : Fin 3) = 0)
    ∧ (win0_3.index t (0 : Fin 3) = 1 ∧ win0_3.index t (1 : Fin 3) = 0 ∧ win0_3.index t (2 : Fin 3) = 1)
    ∧ (win0_4.index t (0 : Fin 3) = 1 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0) :=
  (by decide +kernel : ∀ t : Fin grid0.N, _)

/-- Row `r` of grid point `t`'s block in the array. -/
def rowOf (t : Fin cfg0.N) (r : Fin 1024) : Fin 16384 :=
  ⟨t.val * 1024 + r.val, by have : t.val < 16 := t.isLt; have := r.isLt; omega⟩

/-! ## Where a block's element lies in its array -/

theorem emb0 (t : Fin cfg0.N) (r k : Fin 1024) : ((cfg0.win 0).blk t).view.emb (ix2 r k) = ix2 (rowOf t r) k := by
  obtain ⟨⟨e0, e1⟩, -⟩ := idx_rows t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

theorem emb6 (t : Fin cfg0.N) (r k : Fin 1024) : ((cfg0.win 6).blk t).view.emb (ix2 r k) = ix2 (rowOf t r) k := by
  obtain ⟨-, e0, e1⟩ := idx_rows t
  funext a; apply Fin.ext
  match a with
  | ⟨0, _⟩ => show win0_6.index t (0 : Fin 2) * 1024 + 1 * r.val = t.val * 1024 + r.val; omega
  | ⟨1, _⟩ => show win0_6.index t (1 : Fin 2) * 1024 + 1 * k.val = k.val; omega

theorem emb1 (t : Fin cfg0.N) (k : Fin 1024) : ((cfg0.win 1).blk t).view.emb (ix3 0 0 k) = ix3 1 0 k := by
  obtain ⟨⟨e0, e1, e2⟩, -⟩ := idx_weights t
  funext a; apply Fin.ext
  match a with
  | ⟨0, _⟩ => show win0_1.index t (0 : Fin 3) * 1 + 1 * 0 = 1; omega
  | ⟨1, _⟩ => show win0_1.index t (1 : Fin 3) * 1 + 1 * 0 = 0; omega
  | ⟨2, _⟩ => show win0_1.index t (2 : Fin 3) * 1024 + 1 * k.val = k.val; omega

theorem emb2 (t : Fin cfg0.N) (l : Fin 1024) (k : Fin 2816) :
    ((cfg0.win 2).blk t).view.emb (ix3 0 l k) = ix3 1 l ⟨k.val, by have := k.isLt; omega⟩ := by
  obtain ⟨-, ⟨e0, e1, e2⟩, -⟩ := idx_weights t
  funext a; apply Fin.ext
  match a with
  | ⟨0, _⟩ => show win0_2.index t (0 : Fin 3) * 1 + 1 * 0 = 1; omega
  | ⟨1, _⟩ => show win0_2.index t (1 : Fin 3) * 1024 + 1 * l.val = l.val; omega
  | ⟨2, _⟩ => show win0_2.index t (2 : Fin 3) * 2816 + 1 * k.val = k.val; omega

theorem emb3 (t : Fin cfg0.N) (l : Fin 1024) (k : Fin 2816) :
    ((cfg0.win 3).blk t).view.emb (ix3 0 l k) = ix3 1 l ⟨2816 + k.val, by have := k.isLt; omega⟩ := by
  obtain ⟨-, -, ⟨e0, e1, e2⟩, -⟩ := idx_weights t
  funext a; apply Fin.ext
  match a with
  | ⟨0, _⟩ => show win0_3.index t (0 : Fin 3) * 1 + 1 * 0 = 1; omega
  | ⟨1, _⟩ => show win0_3.index t (1 : Fin 3) * 1024 + 1 * l.val = l.val; omega
  | ⟨2, _⟩ => show win0_3.index t (2 : Fin 3) * 2816 + 1 * k.val = 2816 + k.val; omega

theorem emb4 (t : Fin cfg0.N) (k : Fin 2816) (d : Fin 1024) : ((cfg0.win 4).blk t).view.emb (ix3 0 k d) = ix3 1 k d := by
  obtain ⟨-, -, -, ⟨e0, e1, e2⟩, -⟩ := idx_weights t
  funext a; apply Fin.ext
  match a with
  | ⟨0, _⟩ => show win0_4.index t (0 : Fin 3) * 1 + 1 * 0 = 1; omega
  | ⟨1, _⟩ => show win0_4.index t (1 : Fin 3) * 2816 + 1 * k.val = k.val; omega
  | ⟨2, _⟩ => show win0_4.index t (2 : Fin 3) * 1024 + 1 * d.val = d.val; omega

theorem emb5 (t : Fin cfg0.N) (k : Fin 1024) : ((cfg0.win 5).blk t).view.emb (ix3 0 0 k) = ix3 0 0 k := by
  obtain ⟨-, -, -, -, e0, e1, e2⟩ := idx_weights t
  funext a; apply Fin.ext
  match a with
  | ⟨0, _⟩ => show win0_5.index t (0 : Fin 3) * 1 + 1 * 0 = 0; omega
  | ⟨1, _⟩ => show win0_5.index t (1 : Fin 3) * 1 + 1 * 0 = 0; omega
  | ⟨2, _⟩ => show win0_5.index t (2 : Fin 3) * 1024 + 1 * k.val = k.val; omega

/-! ## The run -/

variable (m : (ℓ : Loc nD τ sig) → Buf (Elt Ideal) ℓ) (ρ : Dev nD → PrngReg)

/-- What point `t` writes back is its block of `G` of the argument arrays. -/
theorem flushed_eq (c : Dev nD) (t : Fin cfg0.N) :
    (dats m 0 c).flushed 6 t = ((cfg0.win 6).blk t).view.read (Elt Ideal)
      (G (V m c main_arg0) (V m c main_arg1) (V m c main_arg2) (V m c main_arg3) (V m c main_arg4)) := by
  rw [flushed6, out_eq]
  funext j
  obtain ⟨r, d, rfl⟩ : ∃ r d : Fin 1024, j = ix2 r d := ⟨j 0, j 1, eq_ix2 (n0 := 1024) (n1 := 1024) j⟩
  have h0 (k : Fin 1024) : iblk m c 0 t (ix2 r k) = V m c main_arg0 (ix2 (rowOf t r) k) :=
    (show _ = V m c main_arg0 (((cfg0.win 0).blk t).view.emb (ix2 r k)) from rfl).trans (congrArg _ (emb0 t r k))
  have h1 (k : Fin 1024) : iblk m c 1 t (ix3 0 0 k) = V m c main_arg1 (ix3 1 0 k) :=
    (show _ = V m c main_arg1 (((cfg0.win 1).blk t).view.emb (ix3 0 0 k)) from rfl).trans (congrArg _ (emb1 t k))
  have h2 (l : Fin 1024) (k : Fin 2816) : iblk m c 2 t (ix3 0 l k) = V m c main_arg2 (ix3 1 l ⟨k.val, by have := k.isLt; omega⟩) :=
    (show _ = V m c main_arg2 (((cfg0.win 2).blk t).view.emb (ix3 0 l k)) from rfl).trans (congrArg _ (emb2 t l k))
  have h3 (l : Fin 1024) (k : Fin 2816) : iblk m c 3 t (ix3 0 l k) = V m c main_arg2 (ix3 1 l ⟨2816 + k.val, by have := k.isLt; omega⟩) :=
    (show _ = V m c main_arg2 (((cfg0.win 3).blk t).view.emb (ix3 0 l k)) from rfl).trans (congrArg _ (emb3 t l k))
  have h4 (k : Fin 2816) (d : Fin 1024) : iblk m c 4 t (ix3 0 k d) = V m c main_arg3 (ix3 1 k d) :=
    (show _ = V m c main_arg3 (((cfg0.win 4).blk t).view.emb (ix3 0 k d)) from rfl).trans (congrArg _ (emb4 t k d))
  have h5 (k : Fin 1024) : iblk m c 5 t (ix3 0 0 k) = V m c main_arg4 (ix3 0 0 k) :=
    (show _ = V m c main_arg4 (((cfg0.win 5).blk t).view.emb (ix3 0 0 k)) from rfl).trans (congrArg _ (emb5 t k))
  have e : G (V m c main_arg0) (V m c main_arg1) (V m c main_arg2) (V m c main_arg3) (V m c main_arg4)
        (((cfg0.win 6).blk t).view.emb (ix2 r d))
      = G (V m c main_arg0) (V m c main_arg1) (V m c main_arg2) (V m c main_arg3) (V m c main_arg4) (ix2 (rowOf t r) d) :=
    congrArg _ (emb6 t r d)
  refine (outBlk_apply _ _ _ _ _ _ r d).trans (Eq.trans ?_ e.symm)
  exact congrFun (congr (congr (congr (congr (congr (congrArg outRow (funext h0)) (funext h1)) (funext fun l => funext (h2 l)))
    (funext fun l => funext (h3 l))) (funext fun k => funext (h4 k))) (funext h5)) d

/-- Every index of the result lies in some point's block. -/
theorem covered (i : S16384x1024.Idx) :
    ∃ t : Fin cfg0.N, (cfg0.win 6).flush t = true ∧ i ∈ ((cfg0.win 6).blk t).view.set := by
  have h0 : (i 0).val < 16384 := (i 0).isLt
  have ht : (i 0).val / 1024 < cfg0.N := by show _ < 16; omega
  refine ⟨⟨(i 0).val / 1024, ht⟩, flush0_6 _, ?_⟩
  have h := ((cfg0.win 6).blk ⟨(i 0).val / 1024, ht⟩).view.emb_mem_set (ix2 ⟨(i 0).val % 1024, by omega⟩ (i 1))
  have e : ((cfg0.win 6).blk ⟨(i 0).val / 1024, ht⟩).view.emb (ix2 ⟨(i 0).val % 1024, by omega⟩ (i 1)) = i := by
    refine (emb6 _ _ _).trans (funext fun a => Fin.ext ?_)
    match a with
    | ⟨0, _⟩ => show (i 0).val / 1024 * 1024 + (i 0).val % 1024 = (i 0).val; omega
    | ⟨1, _⟩ => rfl
  rwa [e] at h

/-- The result array after the run. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 6 _ (fun t _ => flushed_eq m c t) covered).trans
    (by rw [V_main_arg0, V_main_arg1, V_main_arg2, V_main_arg3, V_main_arg4])

/-- The kernel's run with the result array at its function of the arguments. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

/-- The reference's term of the arguments is the same function. -/
theorem ref_eq (m' : (ℓ : Loc Cert.FfnRefIdeal.nD Cert.FfnRefIdeal.τ Cert.FfnRefIdeal.sig) → Buf (Elt Ideal) ℓ)
    (c : Dev Cert.FfnRefIdeal.nD) : Cert.FfnRefIdeal.Value.res_main_v41 m' c
      = G (m' ((c.tc : Thread Cert.FfnRefIdeal.nD Cert.FfnRefIdeal.τ).loc Cert.FfnRefIdeal.main_arg0))
          (m' ((c.tc : Thread Cert.FfnRefIdeal.nD Cert.FfnRefIdeal.τ).loc Cert.FfnRefIdeal.main_arg1))
          (m' ((c.tc : Thread Cert.FfnRefIdeal.nD Cert.FfnRefIdeal.τ).loc Cert.FfnRefIdeal.main_arg2))
          (m' ((c.tc : Thread Cert.FfnRefIdeal.nD Cert.FfnRefIdeal.τ).loc Cert.FfnRefIdeal.main_arg3))
          (m' ((c.tc : Thread Cert.FfnRefIdeal.nD Cert.FfnRefIdeal.τ).loc Cert.FfnRefIdeal.main_arg4)) := by
  refine (Cert.FfnRefIdeal.Read.val_main_v41_eq m' c).trans ?_
  funext i
  rw [eq_ix2 (n0 := 16384) (n1 := 1024) i]
  exact Cert.FfnRefIdeal.Rows.ref_row _ _ _ _ _ _ _

end Cert.FfnIdeal.Pair

end
-- ==== Proof.Ffn.Half.lean ====
/- The feed-forward call without the closing norm: its two programs give the same array.

   The call reads the same blocks of its arguments as the one with the norm (`Pair`), and stores the block before the norm
   (`out_eq`), so the array after the run is `G` of the arguments (`run`), and so is the reference's term (`ref_eq`). -/
module

public import proofs.«01_k».proof.Proof.Ffn.Pair
public import proofs.«01_k».proof.Proof.Gen.HalfIdeal.Value
public import proofs.«01_k».proof.Proof.Gen.HalfRefIdeal.Read
public import proofs.«01_k».proof.Proof.Gen.HalfRefIdeal.Run

@[expose] public section

noncomputable section

namespace Cert.HalfIdeal.Pair

open Cert.HalfIdeal Cert.HalfIdeal.Gen Cert.HalfIdeal.Value Idealize.ShloMosaic Idealize.ShloMosaic.TcCoe Idealize.SL.Sem
open Idealize.ShloMosaic.ValueIdx
open Cert.FfnIdeal.Rows (normRow mid midBlk midBlk_apply zeros2 zeros3)
open Cert.FfnIdeal.Pair (rowOf emb0 emb1 emb2 emb3 emb4 emb6)

/-- The result array as one function of the argument arrays; the final gain is not read. -/
def G (x0 : Vec Ideal S16384x1024 .f32) (x1 : Vec Ideal S2x1x1024 .f32) (x2 : Vec Ideal S2x1024x5632 .bf16)
    (x3 : Vec Ideal S2x2816x1024 .bf16) : Vec Ideal S16384x1024 .f32 := fun i =>
  mid (fun k => x0 (ix2 (i 0) k)) (normRow (fun k => x0 (ix2 (i 0) k)) (fun k => x1 (ix3 1 0 k)))
    (fun l k => x2 (ix3 1 l ⟨k.val, by have := k.isLt; omega⟩)) (fun l k => x2 (ix3 1 l ⟨2816 + k.val, by have := k.isLt; omega⟩))
    (fun k e => x3 (ix3 1 k e)) (i 1)

/-- The staging buffer after the body is the block before the closing norm. -/
theorem out_eq {F : FTy → Type} [FloatOps F] (x0 : Vec F S1024x1024 .f32) (x1 : Vec F S1x1x1024 .f32) (x2 x3 : Vec F S1x1024x2816 .bf16)
    (x4 : Vec F S1x2816x1024 .bf16) (x5 : Vec F S1x1x1024 .f32) : out0_6 x0 x1 x2 x3 x4 x5 = midBlk x0 x1 x2 x3 x4 := by
  unfold out0_6 k0_pay13
  rw [View.canon_unit_zero (S := S1024x1024) zeros2, View.ld_unit_zero (S := S1024x1024) zeros2,
    View.ld_unit_zero (S := S1x1x1024) zeros3]
  rfl

variable (m : (ℓ : Loc nD τ sig) → Buf (Elt Ideal) ℓ) (ρ : Dev nD → PrngReg)

/-- What point `t` writes back is its block of `G` of the argument arrays. -/
theorem flushed_eq (c : Dev nD) (t : Fin cfg0.N) :
    (dats m 0 c).flushed 6 t = ((cfg0.win 6).blk t).view.read (Elt Ideal)
      (G (V m c main_arg0) (V m c main_arg1) (V m c main_arg2) (V m c main_arg3)) := by
  rw [flushed6, out_eq]
  funext j
  obtain ⟨r, d, rfl⟩ : ∃ r d : Fin 1024, j = ix2 r d := ⟨j 0, j 1, eq_ix2 (n0 := 1024) (n1 := 1024) j⟩
  have h0 (k : Fin 1024) : iblk m c 0 t (ix2 r k) = V m c main_arg0 (ix2 (rowOf t r) k) := congrArg (V m c main_arg0) (emb0 t r k)
  have h1 (k : Fin 1024) : iblk m c 1 t (ix3 0 0 k) = V m c main_arg1 (ix3 1 0 k) := congrArg (V m c main_arg1) (emb1 t k)
  have h2 (l : Fin 1024) (k : Fin 2816) := congrArg (V m c main_arg2) (emb2 t l k)
  have h3 (l : Fin 1024) (k : Fin 2816) := congrArg (V m c main_arg2) (emb3 t l k)
  have h4 (k : Fin 2816) (d : Fin 1024) := congrArg (V m c main_arg3) (emb4 t k d)
  refine (midBlk_apply _ _ _ _ _ r d).trans (Eq.trans ?_ (congrArg (G _ _ _ _) (emb6 t r d)).symm)
  exact congrFun (congr (congr (congr (congrArg₂ mid (funext h0) (congrArg₂ normRow (funext h0) (funext h1)))
    (funext fun l => funext (h2 l))) (funext fun l => funext (h3 l))) (funext fun k => funext (h4 k))) d

/-- The result array after the run. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) :=
  ((dats m 0 c).arrAt_eq_of_cover 6 _ (fun t _ => flushed_eq m c t) Cert.FfnIdeal.Pair.covered).trans
    (by rw [V_main_arg0, V_main_arg1, V_main_arg2, V_main_arg3])

/-- The kernel's run with the result array at its function of the arguments. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

/-- The reference's term of the arguments is the same function: its text is the other reference's up to the closing norm. -/
theorem ref_eq (m' : (ℓ : Loc Cert.HalfRefIdeal.nD Cert.HalfRefIdeal.τ Cert.HalfRefIdeal.sig) → Buf (Elt Ideal) ℓ)
    (c : Dev Cert.HalfRefIdeal.nD) : Cert.HalfRefIdeal.Value.res_main_v28 m' c
      = G (m' ((c.tc : Thread Cert.HalfRefIdeal.nD Cert.HalfRefIdeal.τ).loc Cert.HalfRefIdeal.main_arg0))
          (m' ((c.tc : Thread Cert.HalfRefIdeal.nD Cert.HalfRefIdeal.τ).loc Cert.HalfRefIdeal.main_arg1))
          (m' ((c.tc : Thread Cert.HalfRefIdeal.nD Cert.HalfRefIdeal.τ).loc Cert.HalfRefIdeal.main_arg2))
          (m' ((c.tc : Thread Cert.HalfRefIdeal.nD Cert.HalfRefIdeal.τ).loc Cert.HalfRefIdeal.main_arg3)) := by
  refine (Cert.HalfRefIdeal.Read.val_main_v28_eq m' c).trans ?_
  funext i
  rw [eq_ix2 (n0 := 16384) (n1 := 1024) i]
  exact Cert.FfnRefIdeal.Rows.ref_mid _ _ _ _ _ _

end Cert.HalfIdeal.Pair

end
-- ==== Proof.lean ====
/- The proof of the claims about the attention call and about the two feed-forward calls of the last layer.

   The attention programs' runs are `Proof.Fox.Frame` and `Proof.FoxBits.Frame`, the array they end with `Proof.Fox.Pair` and its
   reference `Proof.Fox.Ref`; the feed-forward programs' frames are the
   generated ones, and their common results are `Proof.Ffn.Pair` and, without the closing norm, `Proof.Ffn.Half`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Half
public import proofs.«01_k».proof.Proof.Gen.Half.Frame
public import proofs.«01_k».proof.Proof.Gen.HalfIdeal
public import proofs.«01_k».proof.Proof.Gen.HalfIdeal.Frame
public import proofs.«01_k».proof.Proof.Gen.HalfIdeal.Value
public import proofs.«01_k».proof.Proof.Gen.HalfRefIdeal
public import proofs.«01_k».proof.Proof.Gen.HalfRefIdeal.Run
public import proofs.«01_k».proof.Proof.Gen.HalfRefIdeal.Read
public import proofs.«01_k».proof.Proof.Fox.Ref
public import proofs.«01_k».proof.Proof.FoxBits.Frame
public import proofs.«01_k».proof.Proof.Ffn.Pair
public import proofs.«01_k».proof.Proof.Ffn.Half
public import proofs.«01_k».proof.Proof.Gen.Pre_finite_scores
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The attention reference ends with its arguments unchanged and no semaphore raised: it has none. -/
theorem foxRef_frame : Cert.quiescent_ReferenceIdeal := fun m g _ =>
  (θ_run _ _ _).mono (fun r h => ⟨fun c => (h c).2, sem_eq_zero_of_no_sems rfl r.2⟩) (Cert.ReferenceIdeal.Value.run m g)

/-- So does the feed-forward reference. -/
theorem ffnRef_frame : Cert.quiescent_FfnRefIdeal := fun m g _ =>
  (θ_run _ _ _).mono (fun r h => ⟨fun c => (h c).2, sem_eq_zero_of_no_sems rfl r.2⟩) (Cert.FfnRefIdeal.Value.run m g)

/-- And the reference without the closing norm. -/
theorem halfRef_frame : Cert.quiescent_HalfRefIdeal := fun m g _ =>
  (θ_run _ _ _).mono (fun r h => ⟨fun c => (h c).2, sem_eq_zero_of_no_sems rfl r.2⟩) (Cert.HalfRefIdeal.Value.run m g)

/-- The feed-forward kernel and its reference end with the same array. -/
theorem ffn_pair : Cert.algebraic_FfnIdeal_FfnRefIdeal := by
  intro m g m' g' _ hargs
  refine ⟨_, Cert.FfnIdeal.Pair.run m g, (θ_run _ _ _).mono (fun r h c => ⟨(h c).1.trans ?_, (h c).2⟩) (Cert.FfnRefIdeal.Value.run m' g')⟩
  obtain ⟨h0, h1, h2, h3, h4⟩ := hargs c
  rw [Cert.FfnIdeal.Pair.ref_eq m' c, h0, h1, h2, h3, h4]

/-- So do the two without the closing norm. -/
theorem half_pair : Cert.algebraic_HalfIdeal_HalfRefIdeal := by
  intro m g m' g' _ hargs
  refine ⟨_, Cert.HalfIdeal.Pair.run m g, (θ_run _ _ _).mono (fun r h c => ⟨(h c).1.trans ?_, (h c).2⟩) (Cert.HalfRefIdeal.Value.run m' g')⟩
  obtain ⟨h0, h1, h2, h3, -⟩ := hargs c
  rw [Cert.HalfIdeal.Pair.ref_eq m' c, h0, h1, h2, h3]

/-- The attention kernel and its reference end with the same array where the scores are real. -/
theorem fox_pair : Cert.algebraic_KernelIdeal_ReferenceIdeal_pre_finite_scores := by
  intro m g m' g' hpre hargs
  have hr := Cert.KernelIdeal.Fox.real_of_pre m hpre
  refine ⟨_, Cert.KernelIdeal.Fox.run m g fun c h b x p => (Cert.KernelIdeal.Fox.gscore_real (hr c) h b x p).ne_top,
    (θ_run _ _ _).mono (fun r h c => ⟨(h c).1.trans ?_, (h c).2⟩) (Cert.ReferenceIdeal.Value.run m' g')⟩
  obtain ⟨h0, h1, h2, h3⟩ := hargs c
  refine (Cert.ReferenceIdeal.Read.val_main_v49_eq m' c).trans ?_
  rw [h0, h1, h2, h3]
  exact Cert.ReferenceIdeal.Fox.ref_apply _ _ _ _ (hr c)

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts, Cert.Half.Gen.facts,
  Cert.HalfIdeal.Gen.facts, Cert.HalfRefIdeal.Gen.facts, Cert.Pre_finite_scores.Gen.facts,
  fun m g _ => Cert.Kernel.Fox.frame m g, fun m g _ => Cert.KernelIdeal.Fox.frame m g, fun m g _ => Cert.KernelIdeal.Fox.frame m g,
  foxRef_frame, fun m g _ => foxRef_frame m g trivial,
  fun m g _ => Cert.Ffn.Gen.frame m g, fun m g _ => Cert.FfnIdeal.Gen.frame m g, ffnRef_frame,
  fun m g _ => Cert.Half.Gen.frame m g, fun m g _ => Cert.HalfIdeal.Gen.frame m g, halfRef_frame,
  IdealRules.named_const.statement Cert.KernelIdeal.κ "mask" .f32 0xF149F2CA#32 ⊥ rfl, fox_pair, trivial, ffn_pair,
  trivial, half_pair⟩

end Cert.Proof

end
